-- ==== Defs.lean ====
def Pre_Cell (m : (ℓ : Loc Cert.Cell.nD Cert.Cell.τ Cert.Cell.sig) → Buf (Elt Bits) ℓ) : Prop :=
  True

def Pre_CellIdeal (m : (ℓ : Loc Cert.CellIdeal.nD Cert.CellIdeal.τ Cert.CellIdeal.sig) → Buf (Elt Ideal) ℓ) : Prop :=
  True

def Pre_CellRefIdeal (m : (ℓ : Loc Cert.CellRefIdeal.nD Cert.CellRefIdeal.τ Cert.CellRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_CellP (m : (ℓ : Loc Cert.CellP.nD Cert.CellP.τ Cert.CellP.sig) → Buf (Elt Bits) ℓ) : Prop :=
  True

def Pre_CellPIdeal (m : (ℓ : Loc Cert.CellPIdeal.nD Cert.CellPIdeal.τ Cert.CellPIdeal.sig) → Buf (Elt Ideal) ℓ) : Prop :=
  True

def Pre_CellPIdeal_finite_inputs [hPre_finite_inputs : Cert.Pre_finite_inputs.Facts] (m : (ℓ : Loc Cert.CellPIdeal.nD Cert.CellPIdeal.τ Cert.CellPIdeal.sig) → Buf (Elt Ideal) ℓ) : Prop :=
  ∀ c : Dev Cert.CellPIdeal.nD,
    (Cert.Pre_finite_inputs.fn (F := Ideal) (m ((c.tc : Thread Cert.CellPIdeal.nD Cert.CellPIdeal.τ).loc Cert.CellPIdeal.main_arg0)) (m ((c.tc : Thread Cert.CellPIdeal.nD Cert.CellPIdeal.τ).loc Cert.CellPIdeal.main_arg1)) (m ((c.tc : Thread Cert.CellPIdeal.nD Cert.CellPIdeal.τ).loc Cert.CellPIdeal.main_arg2)) (m ((c.tc : Thread Cert.CellPIdeal.nD Cert.CellPIdeal.τ).loc Cert.CellPIdeal.main_arg3)) (m ((c.tc : Thread Cert.CellPIdeal.nD Cert.CellPIdeal.τ).loc Cert.CellPIdeal.main_arg4)) (m ((c.tc : Thread Cert.CellPIdeal.nD Cert.CellPIdeal.τ).loc Cert.CellPIdeal.main_arg5)) (m ((c.tc : Thread Cert.CellPIdeal.nD Cert.CellPIdeal.τ).loc Cert.CellPIdeal.main_arg6)) (m ((c.tc : Thread Cert.CellPIdeal.nD Cert.CellPIdeal.τ).loc Cert.CellPIdeal.main_arg7))).1 = (fun _ => 1#1)
    ∧ (Cert.Pre_finite_inputs.fn (F := Ideal) (m ((c.tc : Thread Cert.CellPIdeal.nD Cert.CellPIdeal.τ).loc Cert.CellPIdeal.main_arg0)) (m ((c.tc : Thread Cert.CellPIdeal.nD Cert.CellPIdeal.τ).loc Cert.CellPIdeal.main_arg1)) (m ((c.tc : Thread Cert.CellPIdeal.nD Cert.CellPIdeal.τ).loc Cert.CellPIdeal.main_arg2)) (m ((c.tc : Thread Cert.CellPIdeal.nD Cert.CellPIdeal.τ).loc Cert.CellPIdeal.main_arg3)) (m ((c.tc : Thread Cert.CellPIdeal.nD Cert.CellPIdeal.τ).loc Cert.CellPIdeal.main_arg4)) (m ((c.tc : Thread Cert.CellPIdeal.nD Cert.CellPIdeal.τ).loc Cert.CellPIdeal.main_arg5)) (m ((c.tc : Thread Cert.CellPIdeal.nD Cert.CellPIdeal.τ).loc Cert.CellPIdeal.main_arg6)) (m ((c.tc : Thread Cert.CellPIdeal.nD Cert.CellPIdeal.τ).loc Cert.CellPIdeal.main_arg7))).2.1 = (fun _ => 1#1)
    ∧ (Cert.Pre_finite_inputs.fn (F := Ideal) (m ((c.tc : Thread Cert.CellPIdeal.nD Cert.CellPIdeal.τ).loc Cert.CellPIdeal.main_arg0)) (m ((c.tc : Thread Cert.CellPIdeal.nD Cert.CellPIdeal.τ).loc Cert.CellPIdeal.main_arg1)) (m ((c.tc : Thread Cert.CellPIdeal.nD Cert.CellPIdeal.τ).loc Cert.CellPIdeal.main_arg2)) (m ((c.tc : Thread Cert.CellPIdeal.nD Cert.CellPIdeal.τ).loc Cert.CellPIdeal.main_arg3)) (m ((c.tc : Thread Cert.CellPIdeal.nD Cert.CellPIdeal.τ).loc Cert.CellPIdeal.main_arg4)) (m ((c.tc : Thread Cert.CellPIdeal.nD Cert.CellPIdeal.τ).loc Cert.CellPIdeal.main_arg5)) (m ((c.tc : Thread Cert.CellPIdeal.nD Cert.CellPIdeal.τ).loc Cert.CellPIdeal.main_arg6)) (m ((c.tc : Thread Cert.CellPIdeal.nD Cert.CellPIdeal.τ).loc Cert.CellPIdeal.main_arg7))).2.2.1 = (fun _ => 1#1)
    ∧ (Cert.Pre_finite_inputs.fn (F := Ideal) (m ((c.tc : Thread Cert.CellPIdeal.nD Cert.CellPIdeal.τ).loc Cert.CellPIdeal.main_arg0)) (m ((c.tc : Thread Cert.CellPIdeal.nD Cert.CellPIdeal.τ).loc Cert.CellPIdeal.main_arg1)) (m ((c.tc : Thread Cert.CellPIdeal.nD Cert.CellPIdeal.τ).loc Cert.CellPIdeal.main_arg2)) (m ((c.tc : Thread Cert.CellPIdeal.nD Cert.CellPIdeal.τ).loc Cert.CellPIdeal.main_arg3)) (m ((c.tc : Thread Cert.CellPIdeal.nD Cert.CellPIdeal.τ).loc Cert.CellPIdeal.main_arg4)) (m ((c.tc : Thread Cert.CellPIdeal.nD Cert.CellPIdeal.τ).loc Cert.CellPIdeal.main_arg5)) (m ((c.tc : Thread Cert.CellPIdeal.nD Cert.CellPIdeal.τ).loc Cert.CellPIdeal.main_arg6)) (m ((c.tc : Thread Cert.CellPIdeal.nD Cert.CellPIdeal.τ).loc Cert.CellPIdeal.main_arg7))).2.2.2 = (fun _ => 1#1)

def Pre_CellPRefIdeal (m : (ℓ : Loc Cert.CellPRefIdeal.nD Cert.CellPRefIdeal.τ Cert.CellPRefIdeal.sig) → Buf (Elt Ideal) ℓ) : Prop :=
  True

def Pre_CellPRefIdeal_finite_inputs [hPre_finite_inputs : Cert.Pre_finite_inputs.Facts] (m : (ℓ : Loc Cert.CellPRefIdeal.nD Cert.CellPRefIdeal.τ Cert.CellPRefIdeal.sig) → Buf (Elt Ideal) ℓ) : Prop :=
  ∀ c : Dev Cert.CellPRefIdeal.nD,
    (Cert.Pre_finite_inputs.fn (F := Ideal) (m ((c.tc : Thread Cert.CellPRefIdeal.nD Cert.CellPRefIdeal.τ).loc Cert.CellPRefIdeal.main_arg0)) (m ((c.tc : Thread Cert.CellPRefIdeal.nD Cert.CellPRefIdeal.τ).loc Cert.CellPRefIdeal.main_arg1)) (m ((c.tc : Thread Cert.CellPRefIdeal.nD Cert.CellPRefIdeal.τ).loc Cert.CellPRefIdeal.main_arg2)) (m ((c.tc : Thread Cert.CellPRefIdeal.nD Cert.CellPRefIdeal.τ).loc Cert.CellPRefIdeal.main_arg3)) (m ((c.tc : Thread Cert.CellPRefIdeal.nD Cert.CellPRefIdeal.τ).loc Cert.CellPRefIdeal.main_arg4)) (m ((c.tc : Thread Cert.CellPRefIdeal.nD Cert.CellPRefIdeal.τ).loc Cert.CellPRefIdeal.main_arg5)) (m ((c.tc : Thread Cert.CellPRefIdeal.nD Cert.CellPRefIdeal.τ).loc Cert.CellPRefIdeal.main_arg6)) (m ((c.tc : Thread Cert.CellPRefIdeal.nD Cert.CellPRefIdeal.τ).loc Cert.CellPRefIdeal.main_arg7))).1 = (fun _ => 1#1)
    ∧ (Cert.Pre_finite_inputs.fn (F := Ideal) (m ((c.tc : Thread Cert.CellPRefIdeal.nD Cert.CellPRefIdeal.τ).loc Cert.CellPRefIdeal.main_arg0)) (m ((c.tc : Thread Cert.CellPRefIdeal.nD Cert.CellPRefIdeal.τ).loc Cert.CellPRefIdeal.main_arg1)) (m ((c.tc : Thread Cert.CellPRefIdeal.nD Cert.CellPRefIdeal.τ).loc Cert.CellPRefIdeal.main_arg2)) (m ((c.tc : Thread Cert.CellPRefIdeal.nD Cert.CellPRefIdeal.τ).loc Cert.CellPRefIdeal.main_arg3)) (m ((c.tc : Thread Cert.CellPRefIdeal.nD Cert.CellPRefIdeal.τ).loc Cert.CellPRefIdeal.main_arg4)) (m ((c.tc : Thread Cert.CellPRefIdeal.nD Cert.CellPRefIdeal.τ).loc Cert.CellPRefIdeal.main_arg5)) (m ((c.tc : Thread Cert.CellPRefIdeal.nD Cert.CellPRefIdeal.τ).loc Cert.CellPRefIdeal.main_arg6)) (m ((c.tc : Thread Cert.CellPRefIdeal.nD Cert.CellPRefIdeal.τ).loc Cert.CellPRefIdeal.main_arg7))).2.1 = (fun _ => 1#1)
    ∧ (Cert.Pre_finite_inputs.fn (F := Ideal) (m ((c.tc : Thread Cert.CellPRefIdeal.nD Cert.CellPRefIdeal.τ).loc Cert.CellPRefIdeal.main_arg0)) (m ((c.tc : Thread Cert.CellPRefIdeal.nD Cert.CellPRefIdeal.τ).loc Cert.CellPRefIdeal.main_arg1)) (m ((c.tc : Thread Cert.CellPRefIdeal.nD Cert.CellPRefIdeal.τ).loc Cert.CellPRefIdeal.main_arg2)) (m ((c.tc : Thread Cert.CellPRefIdeal.nD Cert.CellPRefIdeal.τ).loc Cert.CellPRefIdeal.main_arg3)) (m ((c.tc : Thread Cert.CellPRefIdeal.nD Cert.CellPRefIdeal.τ).loc Cert.CellPRefIdeal.main_arg4)) (m ((c.tc : Thread Cert.CellPRefIdeal.nD Cert.CellPRefIdeal.τ).loc Cert.CellPRefIdeal.main_arg5)) (m ((c.tc : Thread Cert.CellPRefIdeal.nD Cert.CellPRefIdeal.τ).loc Cert.CellPRefIdeal.main_arg6)) (m ((c.tc : Thread Cert.CellPRefIdeal.nD Cert.CellPRefIdeal.τ).loc Cert.CellPRefIdeal.main_arg7))).2.2.1 = (fun _ => 1#1)
    ∧ (Cert.Pre_finite_inputs.fn (F := Ideal) (m ((c.tc : Thread Cert.CellPRefIdeal.nD Cert.CellPRefIdeal.τ).loc Cert.CellPRefIdeal.main_arg0)) (m ((c.tc : Thread Cert.CellPRefIdeal.nD Cert.CellPRefIdeal.τ).loc Cert.CellPRefIdeal.main_arg1)) (m ((c.tc : Thread Cert.CellPRefIdeal.nD Cert.CellPRefIdeal.τ).loc Cert.CellPRefIdeal.main_arg2)) (m ((c.tc : Thread Cert.CellPRefIdeal.nD Cert.CellPRefIdeal.τ).loc Cert.CellPRefIdeal.main_arg3)) (m ((c.tc : Thread Cert.CellPRefIdeal.nD Cert.CellPRefIdeal.τ).loc Cert.CellPRefIdeal.main_arg4)) (m ((c.tc : Thread Cert.CellPRefIdeal.nD Cert.CellPRefIdeal.τ).loc Cert.CellPRefIdeal.main_arg5)) (m ((c.tc : Thread Cert.CellPRefIdeal.nD Cert.CellPRefIdeal.τ).loc Cert.CellPRefIdeal.main_arg6)) (m ((c.tc : Thread Cert.CellPRefIdeal.nD Cert.CellPRefIdeal.τ).loc Cert.CellPRefIdeal.main_arg7))).2.2.2 = (fun _ => 1#1)

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def quiescent_Cell [hCell : Cert.Cell.Facts] : Prop :=
  ∀ (m : (ℓ : Loc Cert.Cell.nD Cert.Cell.τ Cert.Cell.sig) → Buf (Elt Bits) ℓ) (g : Dev Cert.Cell.nD → PrngReg), Pre_Cell m →
    θ_run (Cert.Cell.defs (F := Bits)) (onTc (τ := Cert.Cell.τ) (Cert.Cell.main (F := Bits))) ⟨m, fun _ => 0, g⟩ (fun r => (∀ c : Dev Cert.Cell.nD,
      r.2.mem ((c.tc : Thread Cert.Cell.nD Cert.Cell.τ).loc Cert.Cell.main_arg0) = m ((c.tc : Thread Cert.Cell.nD Cert.Cell.τ).loc Cert.Cell.main_arg0)
      ∧ r.2.mem ((c.tc : Thread Cert.Cell.nD Cert.Cell.τ).loc Cert.Cell.main_arg1) = m ((c.tc : Thread Cert.Cell.nD Cert.Cell.τ).loc Cert.Cell.main_arg1)
      ∧ r.2.mem ((c.tc : Thread Cert.Cell.nD Cert.Cell.τ).loc Cert.Cell.main_arg2) = m ((c.tc : Thread Cert.Cell.nD Cert.Cell.τ).loc Cert.Cell.main_arg2)
      ∧ r.2.mem ((c.tc : Thread Cert.Cell.nD Cert.Cell.τ).loc Cert.Cell.main_arg3) = m ((c.tc : Thread Cert.Cell.nD Cert.Cell.τ).loc Cert.Cell.main_arg3)
      ∧ r.2.mem ((c.tc : Thread Cert.Cell.nD Cert.Cell.τ).loc Cert.Cell.main_arg4) = m ((c.tc : Thread Cert.Cell.nD Cert.Cell.τ).loc Cert.Cell.main_arg4)
      ∧ r.2.mem ((c.tc : Thread Cert.Cell.nD Cert.Cell.τ).loc Cert.Cell.main_arg5) = m ((c.tc : Thread Cert.Cell.nD Cert.Cell.τ).loc Cert.Cell.main_arg5)
      ∧ r.2.mem ((c.tc : Thread Cert.Cell.nD Cert.Cell.τ).loc Cert.Cell.main_arg6) = m ((c.tc : Thread Cert.Cell.nD Cert.Cell.τ).loc Cert.Cell.main_arg6)
      ∧ r.2.mem ((c.tc : Thread Cert.Cell.nD Cert.Cell.τ).loc Cert.Cell.main_arg7) = m ((c.tc : Thread Cert.Cell.nD Cert.Cell.τ).loc Cert.Cell.main_arg7)
      ∧ r.2.mem ((c.tc : Thread Cert.Cell.nD Cert.Cell.τ).loc Cert.Cell.main_arg8) = m ((c.tc : Thread Cert.Cell.nD Cert.Cell.τ).loc Cert.Cell.main_arg8)
      ∧ r.2.mem ((c.tc : Thread Cert.Cell.nD Cert.Cell.τ).loc Cert.Cell.main_arg9) = m ((c.tc : Thread Cert.Cell.nD Cert.Cell.τ).loc Cert.Cell.main_arg9)
      ∧ r.2.mem ((c.tc : Thread Cert.Cell.nD Cert.Cell.τ).loc Cert.Cell.main_arg10) = m ((c.tc : Thread Cert.Cell.nD Cert.Cell.τ).loc Cert.Cell.main_arg10))
      ∧ r.2.sem = fun _ => 0)

def quiescent_CellIdeal [hCellIdeal : Cert.CellIdeal.Facts] : Prop :=
  ∀ (m : (ℓ : Loc Cert.CellIdeal.nD Cert.CellIdeal.τ Cert.CellIdeal.sig) → Buf (Elt Ideal) ℓ) (g : Dev Cert.CellIdeal.nD → PrngReg), Pre_CellIdeal m →
    θ_run (Cert.CellIdeal.defs (F := Ideal)) (onTc (τ := Cert.CellIdeal.τ) (Cert.CellIdeal.main (F := Ideal))) ⟨m, fun _ => 0, g⟩ (fun r => (∀ c : Dev Cert.CellIdeal.nD,
      r.2.mem ((c.tc : Thread Cert.CellIdeal.nD Cert.CellIdeal.τ).loc Cert.CellIdeal.main_arg0) = m ((c.tc : Thread Cert.CellIdeal.nD Cert.CellIdeal.τ).loc Cert.CellIdeal.main_arg0)
      ∧ r.2.mem ((c.tc : Thread Cert.CellIdeal.nD Cert.CellIdeal.τ).loc Cert.CellIdeal.main_arg1) = m ((c.tc : Thread Cert.CellIdeal.nD Cert.CellIdeal.τ).loc Cert.CellIdeal.main_arg1)
      ∧ r.2.mem ((c.tc : Thread Cert.CellIdeal.nD Cert.CellIdeal.τ).loc Cert.CellIdeal.main_arg2) = m ((c.tc : Thread Cert.CellIdeal.nD Cert.CellIdeal.τ).loc Cert.CellIdeal.main_arg2)
      ∧ r.2.mem ((c.tc : Thread Cert.CellIdeal.nD Cert.CellIdeal.τ).loc Cert.CellIdeal.main_arg3) = m ((c.tc : Thread Cert.CellIdeal.nD Cert.CellIdeal.τ).loc Cert.CellIdeal.main_arg3)
      ∧ r.2.mem ((c.tc : Thread Cert.CellIdeal.nD Cert.CellIdeal.τ).loc Cert.CellIdeal.main_arg4) = m ((c.tc : Thread Cert.CellIdeal.nD Cert.CellIdeal.τ).loc Cert.CellIdeal.main_arg4)
      ∧ r.2.mem ((c.tc : Thread Cert.CellIdeal.nD Cert.CellIdeal.τ).loc Cert.CellIdeal.main_arg5) = m ((c.tc : Thread Cert.CellIdeal.nD Cert.CellIdeal.τ).loc Cert.CellIdeal.main_arg5)
      ∧ r.2.mem ((c.tc : Thread Cert.CellIdeal.nD Cert.CellIdeal.τ).loc Cert.CellIdeal.main_arg6) = m ((c.tc : Thread Cert.CellIdeal.nD Cert.CellIdeal.τ).loc Cert.CellIdeal.main_arg6)
      ∧ r.2.mem ((c.tc : Thread Cert.CellIdeal.nD Cert.CellIdeal.τ).loc Cert.CellIdeal.main_arg7) = m ((c.tc : Thread Cert.CellIdeal.nD Cert.CellIdeal.τ).loc Cert.CellIdeal.main_arg7)
      ∧ r.2.mem ((c.tc : Thread Cert.CellIdeal.nD Cert.CellIdeal.τ).loc Cert.CellIdeal.main_arg8) = m ((c.tc : Thread Cert.CellIdeal.nD Cert.CellIdeal.τ).loc Cert.CellIdeal.main_arg8)
      ∧ r.2.mem ((c.tc : Thread Cert.CellIdeal.nD Cert.CellIdeal.τ).loc Cert.CellIdeal.main_arg9) = m ((c.tc : Thread Cert.CellIdeal.nD Cert.CellIdeal.τ).loc Cert.CellIdeal.main_arg9)
      ∧ r.2.mem ((c.tc : Thread Cert.CellIdeal.nD Cert.CellIdeal.τ).loc Cert.CellIdeal.main_arg10) = m ((c.tc : Thread Cert.CellIdeal.nD Cert.CellIdeal.τ).loc Cert.CellIdeal.main_arg10))
      ∧ r.2.sem = fun _ => 0)

def quiescent_CellRefIdeal [hCellRefIdeal : Cert.CellRefIdeal.Facts] : Prop :=
  ∀ (m : (ℓ : Loc Cert.CellRefIdeal.nD Cert.CellRefIdeal.τ Cert.CellRefIdeal.sig) → Buf (Elt Ideal) ℓ) (g : Dev Cert.CellRefIdeal.nD → PrngReg), Pre_CellRefIdeal m →
    θ_run (Cert.CellRefIdeal.defs (F := Ideal)) (onTc (τ := Cert.CellRefIdeal.τ) (Cert.CellRefIdeal.main (F := Ideal))) ⟨m, fun _ => 0, g⟩ (fun r => (∀ c : Dev Cert.CellRefIdeal.nD,
      r.2.mem ((c.tc : Thread Cert.CellRefIdeal.nD Cert.CellRefIdeal.τ).loc Cert.CellRefIdeal.main_arg0) = m ((c.tc : Thread Cert.CellRefIdeal.nD Cert.CellRefIdeal.τ).loc Cert.CellRefIdeal.main_arg0)
      ∧ r.2.mem ((c.tc : Thread Cert.CellRefIdeal.nD Cert.CellRefIdeal.τ).loc Cert.CellRefIdeal.main_arg1) = m ((c.tc : Thread Cert.CellRefIdeal.nD Cert.CellRefIdeal.τ).loc Cert.CellRefIdeal.main_arg1)
      ∧ r.2.mem ((c.tc : Thread Cert.CellRefIdeal.nD Cert.CellRefIdeal.τ).loc Cert.CellRefIdeal.main_arg2) = m ((c.tc : Thread Cert.CellRefIdeal.nD Cert.CellRefIdeal.τ).loc Cert.CellRefIdeal.main_arg2)
      ∧ r.2.mem ((c.tc : Thread Cert.CellRefIdeal.nD Cert.CellRefIdeal.τ).loc Cert.CellRefIdeal.main_arg3) = m ((c.tc : Thread Cert.CellRefIdeal.nD Cert.CellRefIdeal.τ).loc Cert.CellRefIdeal.main_arg3)
      ∧ r.2.mem ((c.tc : Thread Cert.CellRefIdeal.nD Cert.CellRefIdeal.τ).loc Cert.CellRefIdeal.main_arg4) = m ((c.tc : Thread Cert.CellRefIdeal.nD Cert.CellRefIdeal.τ).loc Cert.CellRefIdeal.main_arg4)
      ∧ r.2.mem ((c.tc : Thread Cert.CellRefIdeal.nD Cert.CellRefIdeal.τ).loc Cert.CellRefIdeal.main_arg5) = m ((c.tc : Thread Cert.CellRefIdeal.nD Cert.CellRefIdeal.τ).loc Cert.CellRefIdeal.main_arg5)
      ∧ r.2.mem ((c.tc : Thread Cert.CellRefIdeal.nD Cert.CellRefIdeal.τ).loc Cert.CellRefIdeal.main_arg6) = m ((c.tc : Thread Cert.CellRefIdeal.nD Cert.CellRefIdeal.τ).loc Cert.CellRefIdeal.main_arg6)
      ∧ r.2.mem ((c.tc : Thread Cert.CellRefIdeal.nD Cert.CellRefIdeal.τ).loc Cert.CellRefIdeal.main_arg7) = m ((c.tc : Thread Cert.CellRefIdeal.nD Cert.CellRefIdeal.τ).loc Cert.CellRefIdeal.main_arg7)
      ∧ r.2.mem ((c.tc : Thread Cert.CellRefIdeal.nD Cert.CellRefIdeal.τ).loc Cert.CellRefIdeal.main_arg8) = m ((c.tc : Thread Cert.CellRefIdeal.nD Cert.CellRefIdeal.τ).loc Cert.CellRefIdeal.main_arg8)
      ∧ r.2.mem ((c.tc : Thread Cert.CellRefIdeal.nD Cert.CellRefIdeal.τ).loc Cert.CellRefIdeal.main_arg9) = m ((c.tc : Thread Cert.CellRefIdeal.nD Cert.CellRefIdeal.τ).loc Cert.CellRefIdeal.main_arg9)
      ∧ r.2.mem ((c.tc : Thread Cert.CellRefIdeal.nD Cert.CellRefIdeal.τ).loc Cert.CellRefIdeal.main_arg10) = m ((c.tc : Thread Cert.CellRefIdeal.nD Cert.CellRefIdeal.τ).loc Cert.CellRefIdeal.main_arg10))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_CellP [hCellP : Cert.CellP.Facts] : Prop :=
  ∀ (m : (ℓ : Loc Cert.CellP.nD Cert.CellP.τ Cert.CellP.sig) → Buf (Elt Bits) ℓ) (g : Dev Cert.CellP.nD → PrngReg), Pre_CellP m →
    θ_run (Cert.CellP.defs (F := Bits)) (onTc (τ := Cert.CellP.τ) (Cert.CellP.main (F := Bits))) ⟨m, fun _ => 0, g⟩ (fun r => (∀ c : Dev Cert.CellP.nD,
      r.2.mem ((c.tc : Thread Cert.CellP.nD Cert.CellP.τ).loc Cert.CellP.main_arg0) = m ((c.tc : Thread Cert.CellP.nD Cert.CellP.τ).loc Cert.CellP.main_arg0)
      ∧ r.2.mem ((c.tc : Thread Cert.CellP.nD Cert.CellP.τ).loc Cert.CellP.main_arg1) = m ((c.tc : Thread Cert.CellP.nD Cert.CellP.τ).loc Cert.CellP.main_arg1)
      ∧ r.2.mem ((c.tc : Thread Cert.CellP.nD Cert.CellP.τ).loc Cert.CellP.main_arg2) = m ((c.tc : Thread Cert.CellP.nD Cert.CellP.τ).loc Cert.CellP.main_arg2)
      ∧ r.2.mem ((c.tc : Thread Cert.CellP.nD Cert.CellP.τ).loc Cert.CellP.main_arg3) = m ((c.tc : Thread Cert.CellP.nD Cert.CellP.τ).loc Cert.CellP.main_arg3)
      ∧ r.2.mem ((c.tc : Thread Cert.CellP.nD Cert.CellP.τ).loc Cert.CellP.main_arg4) = m ((c.tc : Thread Cert.CellP.nD Cert.CellP.τ).loc Cert.CellP.main_arg4)
      ∧ r.2.mem ((c.tc : Thread Cert.CellP.nD Cert.CellP.τ).loc Cert.CellP.main_arg5) = m ((c.tc : Thread Cert.CellP.nD Cert.CellP.τ).loc Cert.CellP.main_arg5)
      ∧ r.2.mem ((c.tc : Thread Cert.CellP.nD Cert.CellP.τ).loc Cert.CellP.main_arg6) = m ((c.tc : Thread Cert.CellP.nD Cert.CellP.τ).loc Cert.CellP.main_arg6)
      ∧ r.2.mem ((c.tc : Thread Cert.CellP.nD Cert.CellP.τ).loc Cert.CellP.main_arg7) = m ((c.tc : Thread Cert.CellP.nD Cert.CellP.τ).loc Cert.CellP.main_arg7))
      ∧ r.2.sem = fun _ => 0)

def quiescent_CellPIdeal [hCellPIdeal : Cert.CellPIdeal.Facts] : Prop :=
  ∀ (m : (ℓ : Loc Cert.CellPIdeal.nD Cert.CellPIdeal.τ Cert.CellPIdeal.sig) → Buf (Elt Ideal) ℓ) (g : Dev Cert.CellPIdeal.nD → PrngReg), Pre_CellPIdeal m →
    θ_run (Cert.CellPIdeal.defs (F := Ideal)) (onTc (τ := Cert.CellPIdeal.τ) (Cert.CellPIdeal.main (F := Ideal))) ⟨m, fun _ => 0, g⟩ (fun r => (∀ c : Dev Cert.CellPIdeal.nD,
      r.2.mem ((c.tc : Thread Cert.CellPIdeal.nD Cert.CellPIdeal.τ).loc Cert.CellPIdeal.main_arg0) = m ((c.tc : Thread Cert.CellPIdeal.nD Cert.CellPIdeal.τ).loc Cert.CellPIdeal.main_arg0)
      ∧ r.2.mem ((c.tc : Thread Cert.CellPIdeal.nD Cert.CellPIdeal.τ).loc Cert.CellPIdeal.main_arg1) = m ((c.tc : Thread Cert.CellPIdeal.nD Cert.CellPIdeal.τ).loc Cert.CellPIdeal.main_arg1)
      ∧ r.2.mem ((c.tc : Thread Cert.CellPIdeal.nD Cert.CellPIdeal.τ).loc Cert.CellPIdeal.main_arg2) = m ((c.tc : Thread Cert.CellPIdeal.nD Cert.CellPIdeal.τ).loc Cert.CellPIdeal.main_arg2)
      ∧ r.2.mem ((c.tc : Thread Cert.CellPIdeal.nD Cert.CellPIdeal.τ).loc Cert.CellPIdeal.main_arg3) = m ((c.tc : Thread Cert.CellPIdeal.nD Cert.CellPIdeal.τ).loc Cert.CellPIdeal.main_arg3)
      ∧ r.2.mem ((c.tc : Thread Cert.CellPIdeal.nD Cert.CellPIdeal.τ).loc Cert.CellPIdeal.main_arg4) = m ((c.tc : Thread Cert.CellPIdeal.nD Cert.CellPIdeal.τ).loc Cert.CellPIdeal.main_arg4)
      ∧ r.2.mem ((c.tc : Thread Cert.CellPIdeal.nD Cert.CellPIdeal.τ).loc Cert.CellPIdeal.main_arg5) = m ((c.tc : Thread Cert.CellPIdeal.nD Cert.CellPIdeal.τ).loc Cert.CellPIdeal.main_arg5)
      ∧ r.2.mem ((c.tc : Thread Cert.CellPIdeal.nD Cert.CellPIdeal.τ).loc Cert.CellPIdeal.main_arg6) = m ((c.tc : Thread Cert.CellPIdeal.nD Cert.CellPIdeal.τ).loc Cert.CellPIdeal.main_arg6)
      ∧ r.2.mem ((c.tc : Thread Cert.CellPIdeal.nD Cert.CellPIdeal.τ).loc Cert.CellPIdeal.main_arg7) = m ((c.tc : Thread Cert.CellPIdeal.nD Cert.CellPIdeal.τ).loc Cert.CellPIdeal.main_arg7))
      ∧ r.2.sem = fun _ => 0)

def quiescent_CellPIdeal_pre_finite_inputs [hCellPIdeal : Cert.CellPIdeal.Facts] [hPre_finite_inputs : Cert.Pre_finite_inputs.Facts] : Prop :=
  ∀ (m : (ℓ : Loc Cert.CellPIdeal.nD Cert.CellPIdeal.τ Cert.CellPIdeal.sig) → Buf (Elt Ideal) ℓ) (g : Dev Cert.CellPIdeal.nD → PrngReg), Pre_CellPIdeal_finite_inputs m →
    θ_run (Cert.CellPIdeal.defs (F := Ideal)) (onTc (τ := Cert.CellPIdeal.τ) (Cert.CellPIdeal.main (F := Ideal))) ⟨m, fun _ => 0, g⟩ (fun r => (∀ c : Dev Cert.CellPIdeal.nD,
      r.2.mem ((c.tc : Thread Cert.CellPIdeal.nD Cert.CellPIdeal.τ).loc Cert.CellPIdeal.main_arg0) = m ((c.tc : Thread Cert.CellPIdeal.nD Cert.CellPIdeal.τ).loc Cert.CellPIdeal.main_arg0)
      ∧ r.2.mem ((c.tc : Thread Cert.CellPIdeal.nD Cert.CellPIdeal.τ).loc Cert.CellPIdeal.main_arg1) = m ((c.tc : Thread Cert.CellPIdeal.nD Cert.CellPIdeal.τ).loc Cert.CellPIdeal.main_arg1)
      ∧ r.2.mem ((c.tc : Thread Cert.CellPIdeal.nD Cert.CellPIdeal.τ).loc Cert.CellPIdeal.main_arg2) = m ((c.tc : Thread Cert.CellPIdeal.nD Cert.CellPIdeal.τ).loc Cert.CellPIdeal.main_arg2)
      ∧ r.2.mem ((c.tc : Thread Cert.CellPIdeal.nD Cert.CellPIdeal.τ).loc Cert.CellPIdeal.main_arg3) = m ((c.tc : Thread Cert.CellPIdeal.nD Cert.CellPIdeal.τ).loc Cert.CellPIdeal.main_arg3)
      ∧ r.2.mem ((c.tc : Thread Cert.CellPIdeal.nD Cert.CellPIdeal.τ).loc Cert.CellPIdeal.main_arg4) = m ((c.tc : Thread Cert.CellPIdeal.nD Cert.CellPIdeal.τ).loc Cert.CellPIdeal.main_arg4)
      ∧ r.2.mem ((c.tc : Thread Cert.CellPIdeal.nD Cert.CellPIdeal.τ).loc Cert.CellPIdeal.main_arg5) = m ((c.tc : Thread Cert.CellPIdeal.nD Cert.CellPIdeal.τ).loc Cert.CellPIdeal.main_arg5)
      ∧ r.2.mem ((c.tc : Thread Cert.CellPIdeal.nD Cert.CellPIdeal.τ).loc Cert.CellPIdeal.main_arg6) = m ((c.tc : Thread Cert.CellPIdeal.nD Cert.CellPIdeal.τ).loc Cert.CellPIdeal.main_arg6)
      ∧ r.2.mem ((c.tc : Thread Cert.CellPIdeal.nD Cert.CellPIdeal.τ).loc Cert.CellPIdeal.main_arg7) = m ((c.tc : Thread Cert.CellPIdeal.nD Cert.CellPIdeal.τ).loc Cert.CellPIdeal.main_arg7))
      ∧ r.2.sem = fun _ => 0)

def quiescent_CellPRefIdeal [hCellPRefIdeal : Cert.CellPRefIdeal.Facts] : Prop :=
  ∀ (m : (ℓ : Loc Cert.CellPRefIdeal.nD Cert.CellPRefIdeal.τ Cert.CellPRefIdeal.sig) → Buf (Elt Ideal) ℓ) (g : Dev Cert.CellPRefIdeal.nD → PrngReg), Pre_CellPRefIdeal m →
    θ_run (Cert.CellPRefIdeal.defs (F := Ideal)) (onTc (τ := Cert.CellPRefIdeal.τ) (Cert.CellPRefIdeal.main (F := Ideal))) ⟨m, fun _ => 0, g⟩ (fun r => (∀ c : Dev Cert.CellPRefIdeal.nD,
      r.2.mem ((c.tc : Thread Cert.CellPRefIdeal.nD Cert.CellPRefIdeal.τ).loc Cert.CellPRefIdeal.main_arg0) = m ((c.tc : Thread Cert.CellPRefIdeal.nD Cert.CellPRefIdeal.τ).loc Cert.CellPRefIdeal.main_arg0)
      ∧ r.2.mem ((c.tc : Thread Cert.CellPRefIdeal.nD Cert.CellPRefIdeal.τ).loc Cert.CellPRefIdeal.main_arg1) = m ((c.tc : Thread Cert.CellPRefIdeal.nD Cert.CellPRefIdeal.τ).loc Cert.CellPRefIdeal.main_arg1)
      ∧ r.2.mem ((c.tc : Thread Cert.CellPRefIdeal.nD Cert.CellPRefIdeal.τ).loc Cert.CellPRefIdeal.main_arg2) = m ((c.tc : Thread Cert.CellPRefIdeal.nD Cert.CellPRefIdeal.τ).loc Cert.CellPRefIdeal.main_arg2)
      ∧ r.2.mem ((c.tc : Thread Cert.CellPRefIdeal.nD Cert.CellPRefIdeal.τ).loc Cert.CellPRefIdeal.main_arg3) = m ((c.tc : Thread Cert.CellPRefIdeal.nD Cert.CellPRefIdeal.τ).loc Cert.CellPRefIdeal.main_arg3)
      ∧ r.2.mem ((c.tc : Thread Cert.CellPRefIdeal.nD Cert.CellPRefIdeal.τ).loc Cert.CellPRefIdeal.main_arg4) = m ((c.tc : Thread Cert.CellPRefIdeal.nD Cert.CellPRefIdeal.τ).loc Cert.CellPRefIdeal.main_arg4)
      ∧ r.2.mem ((c.tc : Thread Cert.CellPRefIdeal.nD Cert.CellPRefIdeal.τ).loc Cert.CellPRefIdeal.main_arg5) = m ((c.tc : Thread Cert.CellPRefIdeal.nD Cert.CellPRefIdeal.τ).loc Cert.CellPRefIdeal.main_arg5)
      ∧ r.2.mem ((c.tc : Thread Cert.CellPRefIdeal.nD Cert.CellPRefIdeal.τ).loc Cert.CellPRefIdeal.main_arg6) = m ((c.tc : Thread Cert.CellPRefIdeal.nD Cert.CellPRefIdeal.τ).loc Cert.CellPRefIdeal.main_arg6)
      ∧ r.2.mem ((c.tc : Thread Cert.CellPRefIdeal.nD Cert.CellPRefIdeal.τ).loc Cert.CellPRefIdeal.main_arg7) = m ((c.tc : Thread Cert.CellPRefIdeal.nD Cert.CellPRefIdeal.τ).loc Cert.CellPRefIdeal.main_arg7))
      ∧ r.2.sem = fun _ => 0)

def quiescent_CellPRefIdeal_pre_finite_inputs [hCellPRefIdeal : Cert.CellPRefIdeal.Facts] [hPre_finite_inputs : Cert.Pre_finite_inputs.Facts] : Prop :=
  ∀ (m : (ℓ : Loc Cert.CellPRefIdeal.nD Cert.CellPRefIdeal.τ Cert.CellPRefIdeal.sig) → Buf (Elt Ideal) ℓ) (g : Dev Cert.CellPRefIdeal.nD → PrngReg), Pre_CellPRefIdeal_finite_inputs m →
    θ_run (Cert.CellPRefIdeal.defs (F := Ideal)) (onTc (τ := Cert.CellPRefIdeal.τ) (Cert.CellPRefIdeal.main (F := Ideal))) ⟨m, fun _ => 0, g⟩ (fun r => (∀ c : Dev Cert.CellPRefIdeal.nD,
      r.2.mem ((c.tc : Thread Cert.CellPRefIdeal.nD Cert.CellPRefIdeal.τ).loc Cert.CellPRefIdeal.main_arg0) = m ((c.tc : Thread Cert.CellPRefIdeal.nD Cert.CellPRefIdeal.τ).loc Cert.CellPRefIdeal.main_arg0)
      ∧ r.2.mem ((c.tc : Thread Cert.CellPRefIdeal.nD Cert.CellPRefIdeal.τ).loc Cert.CellPRefIdeal.main_arg1) = m ((c.tc : Thread Cert.CellPRefIdeal.nD Cert.CellPRefIdeal.τ).loc Cert.CellPRefIdeal.main_arg1)
      ∧ r.2.mem ((c.tc : Thread Cert.CellPRefIdeal.nD Cert.CellPRefIdeal.τ).loc Cert.CellPRefIdeal.main_arg2) = m ((c.tc : Thread Cert.CellPRefIdeal.nD Cert.CellPRefIdeal.τ).loc Cert.CellPRefIdeal.main_arg2)
      ∧ r.2.mem ((c.tc : Thread Cert.CellPRefIdeal.nD Cert.CellPRefIdeal.τ).loc Cert.CellPRefIdeal.main_arg3) = m ((c.tc : Thread Cert.CellPRefIdeal.nD Cert.CellPRefIdeal.τ).loc Cert.CellPRefIdeal.main_arg3)
      ∧ r.2.mem ((c.tc : Thread Cert.CellPRefIdeal.nD Cert.CellPRefIdeal.τ).loc Cert.CellPRefIdeal.main_arg4) = m ((c.tc : Thread Cert.CellPRefIdeal.nD Cert.CellPRefIdeal.τ).loc Cert.CellPRefIdeal.main_arg4)
      ∧ r.2.mem ((c.tc : Thread Cert.CellPRefIdeal.nD Cert.CellPRefIdeal.τ).loc Cert.CellPRefIdeal.main_arg5) = m ((c.tc : Thread Cert.CellPRefIdeal.nD Cert.CellPRefIdeal.τ).loc Cert.CellPRefIdeal.main_arg5)
      ∧ r.2.mem ((c.tc : Thread Cert.CellPRefIdeal.nD Cert.CellPRefIdeal.τ).loc Cert.CellPRefIdeal.main_arg6) = m ((c.tc : Thread Cert.CellPRefIdeal.nD Cert.CellPRefIdeal.τ).loc Cert.CellPRefIdeal.main_arg6)
      ∧ r.2.mem ((c.tc : Thread Cert.CellPRefIdeal.nD Cert.CellPRefIdeal.τ).loc Cert.CellPRefIdeal.main_arg7) = m ((c.tc : Thread Cert.CellPRefIdeal.nD Cert.CellPRefIdeal.τ).loc Cert.CellPRefIdeal.main_arg7))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2)
      ∧ r.2.mem ((c.tc : Thread Cert.KvS.nD Cert.KvS.τ).loc Cert.KvS.main_arg3) = m ((c.tc : Thread Cert.KvS.nD Cert.KvS.τ).loc Cert.KvS.main_arg3))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
      ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2)
      ∧ r.2.mem ((c.tc : Thread Cert.KvSRefIdeal.nD Cert.KvSRefIdeal.τ).loc Cert.KvSRefIdeal.main_arg3) = m ((c.tc : Thread Cert.KvSRefIdeal.nD Cert.KvSRefIdeal.τ).loc Cert.KvSRefIdeal.main_arg3))
      ∧ r.2.sem = fun _ => 0)

def preserves_Cell_CellIdeal : Prop :=
  IdealRules.named_const.Statement Cert.CellIdeal.κ "mask" .f32 0xF149F2CA#32 ⊥

def algebraic_CellIdeal_CellRefIdeal_on_tokens_only [hCellIdeal : Cert.CellIdeal.Facts] [hCellRefIdeal : Cert.CellRefIdeal.Facts] [hOn_tokens_only : Cert.On_tokens_only.Facts] : Prop :=
  ∀ (m : (ℓ : Loc Cert.CellIdeal.nD Cert.CellIdeal.τ Cert.CellIdeal.sig) → Buf (Elt Ideal) ℓ) (g : Dev Cert.CellIdeal.nD → PrngReg)
    (m' : (ℓ : Loc Cert.CellRefIdeal.nD Cert.CellRefIdeal.τ Cert.CellRefIdeal.sig) → Buf (Elt Ideal) ℓ) (g' : Dev Cert.CellRefIdeal.nD → PrngReg), Pre_CellIdeal m →
    (∀ c : Dev Cert.CellIdeal.nD,
      m' ((c.tc : Thread Cert.CellRefIdeal.nD Cert.CellRefIdeal.τ).loc Cert.CellRefIdeal.main_arg0) = m ((c.tc : Thread Cert.CellIdeal.nD Cert.CellIdeal.τ).loc Cert.CellIdeal.main_arg0)
      ∧ m' ((c.tc : Thread Cert.CellRefIdeal.nD Cert.CellRefIdeal.τ).loc Cert.CellRefIdeal.main_arg1) = m ((c.tc : Thread Cert.CellIdeal.nD Cert.CellIdeal.τ).loc Cert.CellIdeal.main_arg1)
      ∧ m' ((c.tc : Thread Cert.CellRefIdeal.nD Cert.CellRefIdeal.τ).loc Cert.CellRefIdeal.main_arg2) = m ((c.tc : Thread Cert.CellIdeal.nD Cert.CellIdeal.τ).loc Cert.CellIdeal.main_arg2)
      ∧ m' ((c.tc : Thread Cert.CellRefIdeal.nD Cert.CellRefIdeal.τ).loc Cert.CellRefIdeal.main_arg3) = m ((c.tc : Thread Cert.CellIdeal.nD Cert.CellIdeal.τ).loc Cert.CellIdeal.main_arg3)
      ∧ m' ((c.tc : Thread Cert.CellRefIdeal.nD Cert.CellRefIdeal.τ).loc Cert.CellRefIdeal.main_arg4) = m ((c.tc : Thread Cert.CellIdeal.nD Cert.CellIdeal.τ).loc Cert.CellIdeal.main_arg4)
      ∧ m' ((c.tc : Thread Cert.CellRefIdeal.nD Cert.CellRefIdeal.τ).loc Cert.CellRefIdeal.main_arg5) = m ((c.tc : Thread Cert.CellIdeal.nD Cert.CellIdeal.τ).loc Cert.CellIdeal.main_arg5)
      ∧ m' ((c.tc : Thread Cert.CellRefIdeal.nD Cert.CellRefIdeal.τ).loc Cert.CellRefIdeal.main_arg6) = m ((c.tc : Thread Cert.CellIdeal.nD Cert.CellIdeal.τ).loc Cert.CellIdeal.main_arg6)
      ∧ m' ((c.tc : Thread Cert.CellRefIdeal.nD Cert.CellRefIdeal.τ).loc Cert.CellRefIdeal.main_arg7) = m ((c.tc : Thread Cert.CellIdeal.nD Cert.CellIdeal.τ).loc Cert.CellIdeal.main_arg7)
      ∧ m' ((c.tc : Thread Cert.CellRefIdeal.nD Cert.CellRefIdeal.τ).loc Cert.CellRefIdeal.main_arg8) = m ((c.tc : Thread Cert.CellIdeal.nD Cert.CellIdeal.τ).loc Cert.CellIdeal.main_arg8)
      ∧ m' ((c.tc : Thread Cert.CellRefIdeal.nD Cert.CellRefIdeal.τ).loc Cert.CellRefIdeal.main_arg9) = m ((c.tc : Thread Cert.CellIdeal.nD Cert.CellIdeal.τ).loc Cert.CellIdeal.main_arg9)
      ∧ m' ((c.tc : Thread Cert.CellRefIdeal.nD Cert.CellRefIdeal.τ).loc Cert.CellRefIdeal.main_arg10) = m ((c.tc : Thread Cert.CellIdeal.nD Cert.CellIdeal.τ).loc Cert.CellIdeal.main_arg10)) →
    ∃ (v0 : (c : Dev Cert.CellIdeal.nD) → Buf (Elt Ideal) ((c.tc : Thread Cert.CellIdeal.nD Cert.CellIdeal.τ).loc Cert.CellIdeal.main_v12_0)) (v1 : (c : Dev Cert.CellIdeal.nD) → Buf (Elt Ideal) ((c.tc : Thread Cert.CellIdeal.nD Cert.CellIdeal.τ).loc Cert.CellIdeal.main_v12_1)) (v2 : (c : Dev Cert.CellIdeal.nD) → Buf (Elt Ideal) ((c.tc : Thread Cert.CellIdeal.nD Cert.CellIdeal.τ).loc Cert.CellIdeal.main_v12_2)) (v3 : (c : Dev Cert.CellIdeal.nD) → Buf (Elt Ideal) ((c.tc : Thread Cert.CellIdeal.nD Cert.CellIdeal.τ).loc Cert.CellIdeal.main_v12_3)),
      θ_run (Cert.CellIdeal.defs (F := Ideal)) (onTc (τ := Cert.CellIdeal.τ) (Cert.CellIdeal.main (F := Ideal))) ⟨m, fun _ => 0, g⟩ (fun r => ∀ c : Dev Cert.CellIdeal.nD,
          (∀ i : (⟨2, ![2048, 2048]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).1 i = 1#1 → r.2.mem ((c.tc : Thread Cert.CellIdeal.nD Cert.CellIdeal.τ).loc Cert.CellIdeal.main_v12_0) i = v0 c i)
          ∧ (∀ i : (⟨4, ![128, 4, 512, 512]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.1 i = 1#1 → r.2.mem ((c.tc : Thread Cert.CellIdeal.nD Cert.CellIdeal.τ).loc Cert.CellIdeal.main_v12_1) i = v1 c i)
          ∧ (∀ i : (⟨4, ![128, 4, 1, 512]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.2.1 i = 1#1 → r.2.mem ((c.tc : Thread Cert.CellIdeal.nD Cert.CellIdeal.τ).loc Cert.CellIdeal.main_v12_2) i = v2 c i)
          ∧ (∀ i : (⟨4, ![128, 4, 1, 128]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.2.2 i = 1#1 → r.2.mem ((c.tc : Thread Cert.CellIdeal.nD Cert.CellIdeal.τ).loc Cert.CellIdeal.main_v12_3) i = v3 c i)
          ∧ r.2.mem ((c.tc : Thread Cert.CellIdeal.nD Cert.CellIdeal.τ).loc Cert.CellIdeal.main_arg0) = m ((c.tc : Thread Cert.CellIdeal.nD Cert.CellIdeal.τ).loc Cert.CellIdeal.main_arg0)
          ∧ r.2.mem ((c.tc : Thread Cert.CellIdeal.nD Cert.CellIdeal.τ).loc Cert.CellIdeal.main_arg1) = m ((c.tc : Thread Cert.CellIdeal.nD Cert.CellIdeal.τ).loc Cert.CellIdeal.main_arg1)
          ∧ r.2.mem ((c.tc : Thread Cert.CellIdeal.nD Cert.CellIdeal.τ).loc Cert.CellIdeal.main_arg2) = m ((c.tc : Thread Cert.CellIdeal.nD Cert.CellIdeal.τ).loc Cert.CellIdeal.main_arg2)
          ∧ r.2.mem ((c.tc : Thread Cert.CellIdeal.nD Cert.CellIdeal.τ).loc Cert.CellIdeal.main_arg3) = m ((c.tc : Thread Cert.CellIdeal.nD Cert.CellIdeal.τ).loc Cert.CellIdeal.main_arg3)
          ∧ r.2.mem ((c.tc : Thread Cert.CellIdeal.nD Cert.CellIdeal.τ).loc Cert.CellIdeal.main_arg4) = m ((c.tc : Thread Cert.CellIdeal.nD Cert.CellIdeal.τ).loc Cert.CellIdeal.main_arg4)
          ∧ r.2.mem ((c.tc : Thread Cert.CellIdeal.nD Cert.CellIdeal.τ).loc Cert.CellIdeal.main_arg5) = m ((c.tc : Thread Cert.CellIdeal.nD Cert.CellIdeal.τ).loc Cert.CellIdeal.main_arg5)
          ∧ r.2.mem ((c.tc : Thread Cert.CellIdeal.nD Cert.CellIdeal.τ).loc Cert.CellIdeal.main_arg6) = m ((c.tc : Thread Cert.CellIdeal.nD Cert.CellIdeal.τ).loc Cert.CellIdeal.main_arg6)
          ∧ r.2.mem ((c.tc : Thread Cert.CellIdeal.nD Cert.CellIdeal.τ).loc Cert.CellIdeal.main_arg7) = m ((c.tc : Thread Cert.CellIdeal.nD Cert.CellIdeal.τ).loc Cert.CellIdeal.main_arg7)
          ∧ r.2.mem ((c.tc : Thread Cert.CellIdeal.nD Cert.CellIdeal.τ).loc Cert.CellIdeal.main_arg8) = m ((c.tc : Thread Cert.CellIdeal.nD Cert.CellIdeal.τ).loc Cert.CellIdeal.main_arg8)
          ∧ r.2.mem ((c.tc : Thread Cert.CellIdeal.nD Cert.CellIdeal.τ).loc Cert.CellIdeal.main_arg9) = m ((c.tc : Thread Cert.CellIdeal.nD Cert.CellIdeal.τ).loc Cert.CellIdeal.main_arg9)
          ∧ r.2.mem ((c.tc : Thread Cert.CellIdeal.nD Cert.CellIdeal.τ).loc Cert.CellIdeal.main_arg10) = m ((c.tc : Thread Cert.CellIdeal.nD Cert.CellIdeal.τ).loc Cert.CellIdeal.main_arg10))
      ∧ θ_run (Cert.CellRefIdeal.defs (F := Ideal)) (onTc (τ := Cert.CellRefIdeal.τ) (Cert.CellRefIdeal.main (F := Ideal))) ⟨m', fun _ => 0, g'⟩ (fun r => ∀ c : Dev Cert.CellRefIdeal.nD,
          (∀ i : (⟨2, ![2048, 2048]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).1 i = 1#1 → r.2.mem ((c.tc : Thread Cert.CellRefIdeal.nD Cert.CellRefIdeal.τ).loc Cert.CellRefIdeal.main_v134) i = v0 c i)
          ∧ (∀ i : (⟨4, ![128, 4, 512, 512]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.1 i = 1#1 → r.2.mem ((c.tc : Thread Cert.CellRefIdeal.nD Cert.CellRefIdeal.τ).loc Cert.CellRefIdeal.main_v91) i = v1 c i)
          ∧ (∀ i : (⟨4, ![128, 4, 1, 512]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.2.1 i = 1#1 → r.2.mem ((c.tc : Thread Cert.CellRefIdeal.nD Cert.CellRefIdeal.τ).loc Cert.CellRefIdeal.main_v135) i = v2 c i)
          ∧ (∀ i : (⟨4, ![128, 4, 1, 128]⟩ : Shape).Idx, (Cert.On_tokens_only.fn (F := Ideal) (m ((c.tc : Thread Cert.CellIdeal.nD Cert.CellIdeal.τ).loc Cert.CellIdeal.main_arg0)) (m ((c.tc : Thread Cert.CellIdeal.nD Cert.CellIdeal.τ).loc Cert.CellIdeal.main_arg1)) (m ((c.tc : Thread Cert.CellIdeal.nD Cert.CellIdeal.τ).loc Cert.CellIdeal.main_arg2)) (m ((c.tc : Thread Cert.CellIdeal.nD Cert.CellIdeal.τ).loc Cert.CellIdeal.main_arg3)) (m ((c.tc : Thread Cert.CellIdeal.nD Cert.CellIdeal.τ).loc Cert.CellIdeal.main_arg4)) (m ((c.tc : Thread Cert.CellIdeal.nD Cert.CellIdeal.τ).loc Cert.CellIdeal.main_arg5)) (m ((c.tc : Thread Cert.CellIdeal.nD Cert.CellIdeal.τ).loc Cert.CellIdeal.main_arg6)) (m ((c.tc : Thread Cert.CellIdeal.nD Cert.CellIdeal.τ).loc Cert.CellIdeal.main_arg7)) (m ((c.tc : Thread Cert.CellIdeal.nD Cert.CellIdeal.τ).loc Cert.CellIdeal.main_arg8)) (m ((c.tc : Thread Cert.CellIdeal.nD Cert.CellIdeal.τ).loc Cert.CellIdeal.main_arg9)) (m ((c.tc : Thread Cert.CellIdeal.nD Cert.CellIdeal.τ).loc Cert.CellIdeal.main_arg10))).2.2.2 i = 1#1 → r.2.mem ((c.tc : Thread Cert.CellRefIdeal.nD Cert.CellRefIdeal.τ).loc Cert.CellRefIdeal.main_v137) i = v3 c i)
          ∧ r.2.mem ((c.tc : Thread Cert.CellRefIdeal.nD Cert.CellRefIdeal.τ).loc Cert.CellRefIdeal.main_arg0) = m' ((c.tc : Thread Cert.CellRefIdeal.nD Cert.CellRefIdeal.τ).loc Cert.CellRefIdeal.main_arg0)
          ∧ r.2.mem ((c.tc : Thread Cert.CellRefIdeal.nD Cert.CellRefIdeal.τ).loc Cert.CellRefIdeal.main_arg1) = m' ((c.tc : Thread Cert.CellRefIdeal.nD Cert.CellRefIdeal.τ).loc Cert.CellRefIdeal.main_arg1)
          ∧ r.2.mem ((c.tc : Thread Cert.CellRefIdeal.nD Cert.CellRefIdeal.τ).loc Cert.CellRefIdeal.main_arg2) = m' ((c.tc : Thread Cert.CellRefIdeal.nD Cert.CellRefIdeal.τ).loc Cert.CellRefIdeal.main_arg2)
          ∧ r.2.mem ((c.tc : Thread Cert.CellRefIdeal.nD Cert.CellRefIdeal.τ).loc Cert.CellRefIdeal.main_arg3) = m' ((c.tc : Thread Cert.CellRefIdeal.nD Cert.CellRefIdeal.τ).loc Cert.CellRefIdeal.main_arg3)
          ∧ r.2.mem ((c.tc : Thread Cert.CellRefIdeal.nD Cert.CellRefIdeal.τ).loc Cert.CellRefIdeal.main_arg4) = m' ((c.tc : Thread Cert.CellRefIdeal.nD Cert.CellRefIdeal.τ).loc Cert.CellRefIdeal.main_arg4)
          ∧ r.2.mem ((c.tc : Thread Cert.CellRefIdeal.nD Cert.CellRefIdeal.τ).loc Cert.CellRefIdeal.main_arg5) = m' ((c.tc : Thread Cert.CellRefIdeal.nD Cert.CellRefIdeal.τ).loc Cert.CellRefIdeal.main_arg5)
          ∧ r.2.mem ((c.tc : Thread Cert.CellRefIdeal.nD Cert.CellRefIdeal.τ).loc Cert.CellRefIdeal.main_arg6) = m' ((c.tc : Thread Cert.CellRefIdeal.nD Cert.CellRefIdeal.τ).loc Cert.CellRefIdeal.main_arg6)
          ∧ r.2.mem ((c.tc : Thread Cert.CellRefIdeal.nD Cert.CellRefIdeal.τ).loc Cert.CellRefIdeal.main_arg7) = m' ((c.tc : Thread Cert.CellRefIdeal.nD Cert.CellRefIdeal.τ).loc Cert.CellRefIdeal.main_arg7)
          ∧ r.2.mem ((c.tc : Thread Cert.CellRefIdeal.nD Cert.CellRefIdeal.τ).loc Cert.CellRefIdeal.main_arg8) = m' ((c.tc : Thread Cert.CellRefIdeal.nD Cert.CellRefIdeal.τ).loc Cert.CellRefIdeal.main_arg8)
          ∧ r.2.mem ((c.tc : Thread Cert.CellRefIdeal.nD Cert.CellRefIdeal.τ).loc Cert.CellRefIdeal.main_arg9) = m' ((c.tc : Thread Cert.CellRefIdeal.nD Cert.CellRefIdeal.τ).loc Cert.CellRefIdeal.main_arg9)
          ∧ r.2.mem ((c.tc : Thread Cert.CellRefIdeal.nD Cert.CellRefIdeal.τ).loc Cert.CellRefIdeal.main_arg10) = m' ((c.tc : Thread Cert.CellRefIdeal.nD Cert.CellRefIdeal.τ).loc Cert.CellRefIdeal.main_arg10))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v13) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v15) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v13) = v0 c
          ∧ r.2.mem ((c.tc : Thread Cert.KvRefIdeal.nD Cert.KvRefIdeal.τ).loc Cert.KvRefIdeal.main_v14) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_CellP_CellPIdeal : Prop :=
  IdealRules.named_const.Statement Cert.CellPIdeal.κ "mask" .f32 0xF149F2CA#32 ⊥

def algebraic_CellPIdeal_CellPRefIdeal_pre_finite_inputs [hCellPIdeal : Cert.CellPIdeal.Facts] [hCellPRefIdeal : Cert.CellPRefIdeal.Facts] [hPre_finite_inputs : Cert.Pre_finite_inputs.Facts] : Prop :=
  ∀ (m : (ℓ : Loc Cert.CellPIdeal.nD Cert.CellPIdeal.τ Cert.CellPIdeal.sig) → Buf (Elt Ideal) ℓ) (g : Dev Cert.CellPIdeal.nD → PrngReg)
    (m' : (ℓ : Loc Cert.CellPRefIdeal.nD Cert.CellPRefIdeal.τ Cert.CellPRefIdeal.sig) → Buf (Elt Ideal) ℓ) (g' : Dev Cert.CellPRefIdeal.nD → PrngReg), Pre_CellPIdeal_finite_inputs m →
    (∀ c : Dev Cert.CellPIdeal.nD,
      m' ((c.tc : Thread Cert.CellPRefIdeal.nD Cert.CellPRefIdeal.τ).loc Cert.CellPRefIdeal.main_arg0) = m ((c.tc : Thread Cert.CellPIdeal.nD Cert.CellPIdeal.τ).loc Cert.CellPIdeal.main_arg0)
      ∧ m' ((c.tc : Thread Cert.CellPRefIdeal.nD Cert.CellPRefIdeal.τ).loc Cert.CellPRefIdeal.main_arg1) = m ((c.tc : Thread Cert.CellPIdeal.nD Cert.CellPIdeal.τ).loc Cert.CellPIdeal.main_arg1)
      ∧ m' ((c.tc : Thread Cert.CellPRefIdeal.nD Cert.CellPRefIdeal.τ).loc Cert.CellPRefIdeal.main_arg2) = m ((c.tc : Thread Cert.CellPIdeal.nD Cert.CellPIdeal.τ).loc Cert.CellPIdeal.main_arg2)
      ∧ m' ((c.tc : Thread Cert.CellPRefIdeal.nD Cert.CellPRefIdeal.τ).loc Cert.CellPRefIdeal.main_arg3) = m ((c.tc : Thread Cert.CellPIdeal.nD Cert.CellPIdeal.τ).loc Cert.CellPIdeal.main_arg3)
      ∧ m' ((c.tc : Thread Cert.CellPRefIdeal.nD Cert.CellPRefIdeal.τ).loc Cert.CellPRefIdeal.main_arg4) = m ((c.tc : Thread Cert.CellPIdeal.nD Cert.CellPIdeal.τ).loc Cert.CellPIdeal.main_arg4)
      ∧ m' ((c.tc : Thread Cert.CellPRefIdeal.nD Cert.CellPRefIdeal.τ).loc Cert.CellPRefIdeal.main_arg5) = m ((c.tc : Thread Cert.CellPIdeal.nD Cert.CellPIdeal.τ).loc Cert.CellPIdeal.main_arg5)
      ∧ m' ((c.tc : Thread Cert.CellPRefIdeal.nD Cert.CellPRefIdeal.τ).loc Cert.CellPRefIdeal.main_arg6) = m ((c.tc : Thread Cert.CellPIdeal.nD Cert.CellPIdeal.τ).loc Cert.CellPIdeal.main_arg6)
      ∧ m' ((c.tc : Thread Cert.CellPRefIdeal.nD Cert.CellPRefIdeal.τ).loc Cert.CellPRefIdeal.main_arg7) = m ((c.tc : Thread Cert.CellPIdeal.nD Cert.CellPIdeal.τ).loc Cert.CellPIdeal.main_arg7)) →
    ∃ (v0 : (c : Dev Cert.CellPIdeal.nD) → Buf (Elt Ideal) ((c.tc : Thread Cert.CellPIdeal.nD Cert.CellPIdeal.τ).loc Cert.CellPIdeal.main_v10_0)) (v1 : (c : Dev Cert.CellPIdeal.nD) → Buf (Elt Ideal) ((c.tc : Thread Cert.CellPIdeal.nD Cert.CellPIdeal.τ).loc Cert.CellPIdeal.main_v10_1)) (v2 : (c : Dev Cert.CellPIdeal.nD) → Buf (Elt Ideal) ((c.tc : Thread Cert.CellPIdeal.nD Cert.CellPIdeal.τ).loc Cert.CellPIdeal.main_v10_2)) (v3 : (c : Dev Cert.CellPIdeal.nD) → Buf (Elt Ideal) ((c.tc : Thread Cert.CellPIdeal.nD Cert.CellPIdeal.τ).loc Cert.CellPIdeal.main_v10_3)),
      θ_run (Cert.CellPIdeal.defs (F := Ideal)) (onTc (τ := Cert.CellPIdeal.τ) (Cert.CellPIdeal.main (F := Ideal))) ⟨m, fun _ => 0, g⟩ (fun r => ∀ c : Dev Cert.CellPIdeal.nD,
          r.2.mem ((c.tc : Thread Cert.CellPIdeal.nD Cert.CellPIdeal.τ).loc Cert.CellPIdeal.main_v10_0) = v0 c
          ∧ r.2.mem ((c.tc : Thread Cert.CellPIdeal.nD Cert.CellPIdeal.τ).loc Cert.CellPIdeal.main_v10_1) = v1 c
          ∧ r.2.mem ((c.tc : Thread Cert.CellPIdeal.nD Cert.CellPIdeal.τ).loc Cert.CellPIdeal.main_v10_2) = v2 c
          ∧ r.2.mem ((c.tc : Thread Cert.CellPIdeal.nD Cert.CellPIdeal.τ).loc Cert.CellPIdeal.main_v10_3) = v3 c
          ∧ r.2.mem ((c.tc : Thread Cert.CellPIdeal.nD Cert.CellPIdeal.τ).loc Cert.CellPIdeal.main_arg0) = m ((c.tc : Thread Cert.CellPIdeal.nD Cert.CellPIdeal.τ).loc Cert.CellPIdeal.main_arg0)
          ∧ r.2.mem ((c.tc : Thread Cert.CellPIdeal.nD Cert.CellPIdeal.τ).loc Cert.CellPIdeal.main_arg1) = m ((c.tc : Thread Cert.CellPIdeal.nD Cert.CellPIdeal.τ).loc Cert.CellPIdeal.main_arg1)
          ∧ r.2.mem ((c.tc : Thread Cert.CellPIdeal.nD Cert.CellPIdeal.τ).loc Cert.CellPIdeal.main_arg2) = m ((c.tc : Thread Cert.CellPIdeal.nD Cert.CellPIdeal.τ).loc Cert.CellPIdeal.main_arg2)
          ∧ r.2.mem ((c.tc : Thread Cert.CellPIdeal.nD Cert.CellPIdeal.τ).loc Cert.CellPIdeal.main_arg3) = m ((c.tc : Thread Cert.CellPIdeal.nD Cert.CellPIdeal.τ).loc Cert.CellPIdeal.main_arg3)
          ∧ r.2.mem ((c.tc : Thread Cert.CellPIdeal.nD Cert.CellPIdeal.τ).loc Cert.CellPIdeal.main_arg4) = m ((c.tc : Thread Cert.CellPIdeal.nD Cert.CellPIdeal.τ).loc Cert.CellPIdeal.main_arg4)
          ∧ r.2.mem ((c.tc : Thread Cert.CellPIdeal.nD Cert.CellPIdeal.τ).loc Cert.CellPIdeal.main_arg5) = m ((c.tc : Thread Cert.CellPIdeal.nD Cert.CellPIdeal.τ).loc Cert.CellPIdeal.main_arg5)
          ∧ r.2.mem ((c.tc : Thread Cert.CellPIdeal.nD Cert.CellPIdeal.τ).loc Cert.CellPIdeal.main_arg6) = m ((c.tc : Thread Cert.CellPIdeal.nD Cert.CellPIdeal.τ).loc Cert.CellPIdeal.main_arg6)
          ∧ r.2.mem ((c.tc : Thread Cert.CellPIdeal.nD Cert.CellPIdeal.τ).loc Cert.CellPIdeal.main_arg7) = m ((c.tc : Thread Cert.CellPIdeal.nD Cert.CellPIdeal.τ).loc Cert.CellPIdeal.main_arg7))
      ∧ θ_run (Cert.CellPRefIdeal.defs (F := Ideal)) (onTc (τ := Cert.CellPRefIdeal.τ) (Cert.CellPRefIdeal.main (F := Ideal))) ⟨m', fun _ => 0, g'⟩ (fun r => ∀ c : Dev Cert.CellPRefIdeal.nD,
          r.2.mem ((c.tc : Thread Cert.CellPRefIdeal.nD Cert.CellPRefIdeal.τ).loc Cert.CellPRefIdeal.main_v130) = v0 c
          ∧ r.2.mem ((c.tc : Thread Cert.CellPRefIdeal.nD Cert.CellPRefIdeal.τ).loc Cert.CellPRefIdeal.main_v90) = v1 c
          ∧ r.2.mem ((c.tc : Thread Cert.CellPRefIdeal.nD Cert.CellPRefIdeal.τ).loc Cert.CellPRefIdeal.main_v131) = v2 c
          ∧ r.2.mem ((c.tc : Thread Cert.CellPRefIdeal.nD Cert.CellPRefIdeal.τ).loc Cert.CellPRefIdeal.main_v133) = v3 c
          ∧ r.2.mem ((c.tc : Thread Cert.CellPRefIdeal.nD Cert.CellPRefIdeal.τ).loc Cert.CellPRefIdeal.main_arg0) = m' ((c.tc : Thread Cert.CellPRefIdeal.nD Cert.CellPRefIdeal.τ).loc Cert.CellPRefIdeal.main_arg0)
          ∧ r.2.mem ((c.tc : Thread Cert.CellPRefIdeal.nD Cert.CellPRefIdeal.τ).loc Cert.CellPRefIdeal.main_arg1) = m' ((c.tc : Thread Cert.CellPRefIdeal.nD Cert.CellPRefIdeal.τ).loc Cert.CellPRefIdeal.main_arg1)
          ∧ r.2.mem ((c.tc : Thread Cert.CellPRefIdeal.nD Cert.CellPRefIdeal.τ).loc Cert.CellPRefIdeal.main_arg2) = m' ((c.tc : Thread Cert.CellPRefIdeal.nD Cert.CellPRefIdeal.τ).loc Cert.CellPRefIdeal.main_arg2)
          ∧ r.2.mem ((c.tc : Thread Cert.CellPRefIdeal.nD Cert.CellPRefIdeal.τ).loc Cert.CellPRefIdeal.main_arg3) = m' ((c.tc : Thread Cert.CellPRefIdeal.nD Cert.CellPRefIdeal.τ).loc Cert.CellPRefIdeal.main_arg3)
          ∧ r.2.mem ((c.tc : Thread Cert.CellPRefIdeal.nD Cert.CellPRefIdeal.τ).loc Cert.CellPRefIdeal.main_arg4) = m' ((c.tc : Thread Cert.CellPRefIdeal.nD Cert.CellPRefIdeal.τ).loc Cert.CellPRefIdeal.main_arg4)
          ∧ r.2.mem ((c.tc : Thread Cert.CellPRefIdeal.nD Cert.CellPRefIdeal.τ).loc Cert.CellPRefIdeal.main_arg5) = m' ((c.tc : Thread Cert.CellPRefIdeal.nD Cert.CellPRefIdeal.τ).loc Cert.CellPRefIdeal.main_arg5)
          ∧ r.2.mem ((c.tc : Thread Cert.CellPRefIdeal.nD Cert.CellPRefIdeal.τ).loc Cert.CellPRefIdeal.main_arg6) = m' ((c.tc : Thread Cert.CellPRefIdeal.nD Cert.CellPRefIdeal.τ).loc Cert.CellPRefIdeal.main_arg6)
          ∧ r.2.mem ((c.tc : Thread Cert.CellPRefIdeal.nD Cert.CellPRefIdeal.τ).loc Cert.CellPRefIdeal.main_arg7) = m' ((c.tc : Thread Cert.CellPRefIdeal.nD Cert.CellPRefIdeal.τ).loc Cert.CellPRefIdeal.main_arg7))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)
      ∧ m' ((c.tc : Thread Cert.KvSRefIdeal.nD Cert.KvSRefIdeal.τ).loc Cert.KvSRefIdeal.main_arg3) = m ((c.tc : Thread Cert.KvSIdeal.nD Cert.KvSIdeal.τ).loc Cert.KvSIdeal.main_arg3)) →
    ∃ (v0 : (c : Dev Cert.KvSIdeal.nD) → Buf (Elt Ideal) ((c.tc : Thread Cert.KvSIdeal.nD Cert.KvSIdeal.τ).loc Cert.KvSIdeal.main_v6)) (v1 : (c : Dev Cert.KvSIdeal.nD) → Buf (Elt Ideal) ((c.tc : Thread Cert.KvSIdeal.nD Cert.KvSIdeal.τ).loc Cert.KvSIdeal.main_v10)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v6) = v0 c
          ∧ r.2.mem ((c.tc : Thread Cert.KvSIdeal.nD Cert.KvSIdeal.τ).loc Cert.KvSIdeal.main_v10) = v1 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2)
          ∧ r.2.mem ((c.tc : Thread Cert.KvSIdeal.nD Cert.KvSIdeal.τ).loc Cert.KvSIdeal.main_arg3) = m ((c.tc : Thread Cert.KvSIdeal.nD Cert.KvSIdeal.τ).loc Cert.KvSIdeal.main_arg3))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v16) = v0 c
          ∧ r.2.mem ((c.tc : Thread Cert.KvSRefIdeal.nD Cert.KvSRefIdeal.τ).loc Cert.KvSRefIdeal.main_v19) = v1 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2)
          ∧ r.2.mem ((c.tc : Thread Cert.KvSRefIdeal.nD Cert.KvSRefIdeal.τ).loc Cert.KvSRefIdeal.main_arg3) = m' ((c.tc : Thread Cert.KvSRefIdeal.nD Cert.KvSRefIdeal.τ).loc Cert.KvSRefIdeal.main_arg3))

def Claim : Prop :=
  ∃ (hCell : Cert.Cell.Facts) (hCellIdeal : Cert.CellIdeal.Facts) (hCellRefIdeal : Cert.CellRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hKv : Cert.Kv.Facts) (hKvIdeal : Cert.KvIdeal.Facts) (hKvRefIdeal : Cert.KvRefIdeal.Facts) (hOut : Cert.Out.Facts) (hOutIdeal : Cert.OutIdeal.Facts) (hOutRefIdeal : Cert.OutRefIdeal.Facts) (hCellP : Cert.CellP.Facts) (hCellPIdeal : Cert.CellPIdeal.Facts) (hCellPRefIdeal : Cert.CellPRefIdeal.Facts) (hKvS : Cert.KvS.Facts) (hKvSIdeal : Cert.KvSIdeal.Facts) (hKvSRefIdeal : Cert.KvSRefIdeal.Facts) (hPre_finite_inputs : Cert.Pre_finite_inputs.Facts) (hOn_tokens_only : Cert.On_tokens_only.Facts),
    quiescent_Cell (hCell := hCell)
    ∧ quiescent_CellIdeal (hCellIdeal := hCellIdeal)
    ∧ quiescent_CellRefIdeal (hCellRefIdeal := hCellRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Kv (hKv := hKv)
    ∧ quiescent_KvIdeal (hKvIdeal := hKvIdeal)
    ∧ quiescent_KvRefIdeal (hKvRefIdeal := hKvRefIdeal)
    ∧ quiescent_Out (hOut := hOut)
    ∧ quiescent_OutIdeal (hOutIdeal := hOutIdeal)
    ∧ quiescent_OutRefIdeal (hOutRefIdeal := hOutRefIdeal)
    ∧ quiescent_CellP (hCellP := hCellP)
    ∧ quiescent_CellPIdeal (hCellPIdeal := hCellPIdeal)
    ∧ quiescent_CellPIdeal_pre_finite_inputs (hCellPIdeal := hCellPIdeal) (hPre_finite_inputs := hPre_finite_inputs)
    ∧ quiescent_CellPRefIdeal (hCellPRefIdeal := hCellPRefIdeal)
    ∧ quiescent_CellPRefIdeal_pre_finite_inputs (hCellPRefIdeal := hCellPRefIdeal) (hPre_finite_inputs := hPre_finite_inputs)
    ∧ quiescent_KvS (hKvS := hKvS)
    ∧ quiescent_KvSIdeal (hKvSIdeal := hKvSIdeal)
    ∧ quiescent_KvSRefIdeal (hKvSRefIdeal := hKvSRefIdeal)
    ∧ preserves_Cell_CellIdeal
    ∧ algebraic_CellIdeal_CellRefIdeal_on_tokens_only (hCellIdeal := hCellIdeal) (hCellRefIdeal := hCellRefIdeal) (hOn_tokens_only := hOn_tokens_only)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Kv_KvIdeal
    ∧ algebraic_KvIdeal_KvRefIdeal (hKvIdeal := hKvIdeal) (hKvRefIdeal := hKvRefIdeal)
    ∧ preserves_Out_OutIdeal
    ∧ algebraic_OutIdeal_OutRefIdeal (hOutIdeal := hOutIdeal) (hOutRefIdeal := hOutRefIdeal)
    ∧ preserves_CellP_CellPIdeal
    ∧ algebraic_CellPIdeal_CellPRefIdeal_pre_finite_inputs (hCellPIdeal := hCellPIdeal) (hCellPRefIdeal := hCellPRefIdeal) (hPre_finite_inputs := hPre_finite_inputs)
    ∧ preserves_KvS_KvSIdeal
    ∧ algebraic_KvSIdeal_KvSRefIdeal (hKvSIdeal := hKvSIdeal) (hKvSRefIdeal := hKvSRefIdeal)
-- ==== On_tokens_only.lean ====
abbrev S2048x2048 : Shape := ⟨2, ![2048, 2048]⟩
abbrev S2048x4096 : Shape := ⟨2, ![2048, 4096]⟩
abbrev S2048x128 : Shape := ⟨2, ![2048, 128]⟩
abbrev S2048 : Shape := ⟨1, ![2048]⟩
abbrev S128x4x512x512 : Shape := ⟨4, ![128, 4, 512, 512]⟩
abbrev S128x4x512 : Shape := ⟨3, ![128, 4, 512]⟩
abbrev S128x4 : Shape := ⟨2, ![128, 4]⟩
abbrev S_ : Shape := ⟨0, ![]⟩
abbrev S128x4x1x512 : Shape := ⟨4, ![128, 4, 1, 512]⟩
abbrev S128x4x1x128 : Shape := ⟨4, ![128, 4, 1, 128]⟩

class Facts : Prop where
  bcast_S_S2048x2048 : S_.BroadcastsInDim S2048x2048 (![] : Fin 0 → Fin S2048x2048.rank)
  bcast_S_S128x4x512x512 : S_.BroadcastsInDim S128x4x512x512 (![] : Fin 0 → Fin S128x4x512x512.rank)
  bcast_S_S128x4x1x512 : S_.BroadcastsInDim S128x4x1x512 (![] : Fin 0 → Fin S128x4x1x512.rank)
  bcast_S_S128x4x1x128 : S_.BroadcastsInDim S128x4x1x128 (![] : Fin 0 → Fin S128x4x1x128.rank)

variable [Facts]

def fn {F : FTy → Type} [FloatOps F] (main_arg0 : FVec F S2048x2048 .bf16) (main_arg1 : FVec F S2048x2048 .bf16) (main_arg2 : FVec F S2048x2048 .bf16) (main_arg3 : FVec F S2048x2048 .bf16) (main_arg4 : FVec F S2048x4096 .f32) (main_arg5 : FVec F S2048x128 .f32) (main_arg6 : FVec F S2048 .f32) (main_arg7 : FVec F S2048 .f32) (main_arg8 : FVec F S128x4x512x512 .f32) (main_arg9 : FVec F S128x4x512 .f32) (main_arg10 : FVec F S128x4 .f32) : IVec S2048x2048 1 × IVec S128x4x512x512 1 × IVec S128x4x1x512 1 × IVec S128x4x1x128 1 :=
  let main_v0 : IVec S2048x2048 32 := iotaInDim S2048x2048 32 0
  let main_c : IVec S_ 32 := constantI S_ 32 16#32
  let main_v1 : IVec S2048x2048 32 := broadcastInDim S2048x2048 ![] bcast_S_S2048x2048 main_c
  let main_v2 : IVec S2048x2048 32 := Host.remsi main_v0 main_v1
  let main_c_0 : IVec S_ 32 := constantI S_ 32 4#32
  let main_v3 : IVec S2048x2048 32 := broadcastInDim S2048x2048 ![] bcast_S_S2048x2048 main_c_0
  let main_v4 : IVec S2048x2048 1 := cmpi .slt main_v2 main_v3
  let main_c_1 : IVec S_ 1 := constantI S_ 1 1#1
  let main_v5 : IVec S128x4x512x512 1 := broadcastInDim S128x4x512x512 ![] bcast_S_S128x4x512x512 main_c_1
  let main_c_2 : IVec S_ 1 := constantI S_ 1 1#1
  let main_v6 : IVec S128x4x1x512 1 := broadcastInDim S128x4x1x512 ![] bcast_S_S128x4x1x512 main_c_2
  let main_c_3 : IVec S_ 1 := constantI S_ 1 1#1
  let main_v7 : IVec S128x4x1x128 1 := broadcastInDim S128x4x1x128 ![] bcast_S_S128x4x1x128 main_c_3
  (main_v4, main_v5, main_v6, main_v7)
-- ==== Pre_finite_inputs.lean ====
abbrev S16384x2048 : Shape := ⟨2, ![16384, 2048]⟩
abbrev S16384x4096 : Shape := ⟨2, ![16384, 4096]⟩
abbrev S16384x128 : Shape := ⟨2, ![16384, 128]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  bcast_S_S16384x128 : S_.BroadcastsInDim S16384x128 (![] : Fin 0 → Fin S16384x128.rank)

variable [Facts]

def fn {F : FTy → Type} [FloatOps F] (main_arg0 : FVec F S16384x2048 .bf16) (main_arg1 : FVec F S16384x2048 .bf16) (main_arg2 : FVec F S16384x2048 .bf16) (main_arg3 : FVec F S16384x2048 .bf16) (main_arg4 : FVec F S16384x4096 .f32) (main_arg5 : FVec F S16384x128 .f32) (main_arg6 : FVec F S2048 .f32) (main_arg7 : FVec F S2048 .f32) : IVec S16384x2048 1 × IVec S16384x2048 1 × IVec S16384x2048 1 × IVec S16384x128 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  let main_v6 : FVec F S16384x2048 .bf16 := Host.absf main_arg2
  let main_cst_1 : FVec F S_ .bf16 := constant S_ .bf16 0x7F80#16
  let main_v7 : FVec F S16384x2048 .bf16 := broadcastInDim S16384x2048 ![] bcast_S_S16384x2048 main_cst_1
  let main_v8 : IVec S16384x2048 1 := cmpf .olt main_v6 main_v7
  let main_v9 : FVec F S16384x128 .f32 := Host.absf main_arg5
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  (main_v2, main_v5, main_v8, main_v11)
-- ==== Cell.lean ====
abbrev S2048x2048 : Shape := ⟨2, ![2048, 2048]⟩
abbrev S2048x4096 : Shape := ⟨2, ![2048, 4096]⟩
abbrev S2048x128 : Shape := ⟨2, ![2048, 128]⟩
abbrev S2048 : Shape := ⟨1, ![2048]⟩
abbrev S128x4x512x512 : Shape := ⟨4, ![128, 4, 512, 512]⟩
abbrev S128x4x512 : Shape := ⟨3, ![128, 4, 512]⟩
abbrev S128x4 : Shape := ⟨2, ![128, 4]⟩
abbrev S128x16x2048 : Shape := ⟨3, ![128, 16, 2048]⟩
abbrev S128x2048x16 : Shape := ⟨3, ![128, 2048, 16]⟩
abbrev S1x2048 : Shape := ⟨2, ![1, 2048]⟩
abbrev S2048x8 : Shape := ⟨2, ![2048, 8]⟩
abbrev S128x16x8 : Shape := ⟨3, ![128, 16, 8]⟩
abbrev S128x8x16 : Shape := ⟨3, ![128, 8, 16]⟩
abbrev S128x8x16x1 : Shape := ⟨4, ![128, 8, 16, 1]⟩
abbrev S128x8x1x16 : Shape := ⟨4, ![128, 8, 1, 16]⟩
abbrev S128x4x1x512 : Shape := ⟨4, ![128, 4, 1, 512]⟩
abbrev S128x4x1x1 : Shape := ⟨4, ![128, 4, 1, 1]⟩
abbrev S128x4x1x128 : Shape := ⟨4, ![128, 4, 1, 128]⟩
abbrev S16x512 : Shape := ⟨2, ![16, 512]⟩
abbrev S1x512x16 : Shape := ⟨3, ![1, 512, 16]⟩
abbrev S1x1x16x1 : Shape := ⟨4, ![1, 1, 16, 1]⟩
abbrev S1x1x1x16 : Shape := ⟨4, ![1, 1, 1, 16]⟩
abbrev S1x512 : Shape := ⟨2, ![1, 512]⟩
abbrev S1x1x512x512 : Shape := ⟨4, ![1, 1, 512, 512]⟩
abbrev S1x1x1x512 : Shape := ⟨4, ![1, 1, 1, 512]⟩
abbrev S1x1x1x1 : Shape := ⟨4, ![1, 1, 1, 1]⟩
abbrev S1x1x1x128 : Shape := ⟨4, ![1, 1, 1, 128]⟩
abbrev S512x512 : Shape := ⟨2, ![512, 512]⟩
abbrev S1x1 : Shape := ⟨2, ![1, 1]⟩
abbrev S16x1 : Shape := ⟨2, ![16, 1]⟩
abbrev S1x16 : Shape := ⟨2, ![1, 16]⟩
abbrev S16x16 : Shape := ⟨2, ![16, 16]⟩
abbrev S16 : Shape := ⟨1, ![16]⟩
abbrev S1 : Shape := ⟨1, ![1]⟩
abbrev S512x16 : Shape := ⟨2, ![512, 16]⟩
abbrev S512 : Shape := ⟨1, ![512]⟩
abbrev S1x128 : Shape := ⟨2, ![1, 128]⟩

abbrev nBuf : Space → Nat
  | .hbm => 27
  | .vmem => 41
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x4096, .f32⟩
  | .hbm, ⟨5, _⟩ => ⟨S2048x128, .f32⟩
  | .hbm, ⟨6, _⟩ => ⟨S2048, .f32⟩
  | .hbm, ⟨7, _⟩ => ⟨S2048, .f32⟩
  | .hbm, ⟨8, _⟩ => ⟨S128x4x512x512, .f32⟩
  | .hbm, ⟨9, _⟩ => ⟨S128x4x512, .f32⟩
  | .hbm, ⟨10, _⟩ => ⟨S128x4, .f32⟩
  | .hbm, ⟨11, _⟩ => ⟨S128x16x2048, .bf16⟩
  | .hbm, ⟨12, _⟩ => ⟨S128x2048x16, .bf16⟩
  | .hbm, ⟨13, _⟩ => ⟨S1x2048, .f32⟩
  | .hbm, ⟨14, _⟩ => ⟨S1x2048, .f32⟩
  | .hbm, ⟨15, _⟩ => ⟨S2048x8, .f32⟩
  | .hbm, ⟨16, _⟩ => ⟨S128x16x8, .f32⟩
  | .hbm, ⟨17, _⟩ => ⟨S128x8x16, .f32⟩
  | .hbm, ⟨18, _⟩ => ⟨S128x8x16x1, .f32⟩
  | .hbm, ⟨19, _⟩ => ⟨S128x8x16, .f32⟩
  | .hbm, ⟨20, _⟩ => ⟨S128x8x1x16, .f32⟩
  | .hbm, ⟨21, _⟩ => ⟨S128x4x1x512, .f32⟩
  | .hbm, ⟨22, _⟩ => ⟨S128x4x1x1, .f32⟩
  | .hbm, ⟨23, _⟩ => ⟨S2048x2048, .bf16⟩
  | .hbm, ⟨24, _⟩ => ⟨S128x4x512x512, .f32⟩
  | .hbm, ⟨25, _⟩ => ⟨S128x4x1x512, .f32⟩
  | .hbm, ⟨26, _⟩ => ⟨S128x4x1x128, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S1x512x16, .bf16⟩
  | .local _ .vmem, ⟨5, _⟩ => ⟨S1x512x16, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S16x512, .f32⟩
  | .local _ .vmem, ⟨11, _⟩ => ⟨S16x512, .f32⟩
  | .local _ .vmem, ⟨12, _⟩ => ⟨S1x1x16x1, .f32⟩
  | .local _ .vmem, ⟨13, _⟩ => ⟨S1x1x16x1, .f32⟩
  | .local _ .vmem, ⟨14, _⟩ => ⟨S1x1x16x1, .f32⟩
  | .local _ .vmem, ⟨15, _⟩ => ⟨S1x1x16x1, .f32⟩
  | .local _ .vmem, ⟨16, _⟩ => ⟨S1x1x1x16, .f32⟩
  | .local _ .vmem, ⟨17, _⟩ => ⟨S1x1x1x16, .f32⟩
  | .local _ .vmem, ⟨18, _⟩ => ⟨S1x1x1x16, .f32⟩
  | .local _ .vmem, ⟨19, _⟩ => ⟨S1x1x1x16, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x1x512x512, .f32⟩
  | .local _ .vmem, ⟨25, _⟩ => ⟨S1x1x512x512, .f32⟩
  | .local _ .vmem, ⟨26, _⟩ => ⟨S1x1x1x512, .f32⟩
  | .local _ .vmem, ⟨27, _⟩ => ⟨S1x1x1x512, .f32⟩
  | .local _ .vmem, ⟨28, _⟩ => ⟨S1x1x1x1, .f32⟩
  | .local _ .vmem, ⟨29, _⟩ => ⟨S1x1x1x1, .f32⟩
  | .local _ .vmem, ⟨30, _⟩ => ⟨S16x512, .bf16⟩
  | .local _ .vmem, ⟨31, _⟩ => ⟨S16x512, .bf16⟩
  | .local _ .vmem, ⟨32, _⟩ => ⟨S1x1x512x512, .f32⟩
  | .local _ .vmem, ⟨33, _⟩ => ⟨S1x1x512x512, .f32⟩
  | .local _ .vmem, ⟨34, _⟩ => ⟨S1x1x1x512, .f32⟩
  | .local _ .vmem, ⟨35, _⟩ => ⟨S1x1x1x512, .f32⟩
  | .local _ .vmem, ⟨36, _⟩ => ⟨S1x1x1x128, .f32⟩
  | .local _ .vmem, ⟨37, _⟩ => ⟨S1x1x1x128, .f32⟩
  | .local _ .vmem, ⟨38, _⟩ => ⟨S512x512, .f32⟩
  | .local _ .vmem, ⟨39, _⟩ => ⟨S1x512, .f32⟩
  | .local _ .vmem, ⟨40, _⟩ => ⟨S1x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨3, ![128, 4, 1], ![false, false, false]⟩

def k0_cond2 (i : grid0.Coords) : BitVec 1 :=
  let arg2 : BitVec 32 := BitVec.ofNat 32 (i 2).val
  let c0_i32_84 : BitVec 32 := 0#32
  let v198 : BitVec 1 := Scalar.cmpi .eq arg2 c0_i32_84
  let v199 : BitVec 32 := Scalar.extui v198
  let c0_i32_85 : BitVec 32 := 0#32
  let v200 : BitVec 1 := Scalar.cmpi .ne v199 c0_i32_85
  v200

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  let c0_i32_0 : BitVec 32 := 0#32
  let c0_i32_1 : BitVec 32 := 0#32
  ![v1.toNat, v2.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  let c0_i32_0 : BitVec 32 := 0#32
  let c0_i32_1 : BitVec 32 := 0#32
  ![v1.toNat, v2.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x1x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S16x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S1x1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]
-- ==== CellIdeal.lean ====
variable {F : FTy → Type} [FloatOps F] [Named F]
def κ : String → Option EReal := fun
  | "mask" => some ⊥
  | _ => none
-- ==== CellRefIdeal.lean ====
abbrev S2048x2048 : Shape := ⟨2, ![2048, 2048]⟩
abbrev S2048x4096 : Shape := ⟨2, ![2048, 4096]⟩
abbrev S2048x128 : Shape := ⟨2, ![2048, 128]⟩
abbrev S2048 : Shape := ⟨1, ![2048]⟩
abbrev S128x4x512x512 : Shape := ⟨4, ![128, 4, 512, 512]⟩
abbrev S128x4x512 : Shape := ⟨3, ![128, 4, 512]⟩
abbrev S128x4 : Shape := ⟨2, ![128, 4]⟩
abbrev S128x16x128 : Shape := ⟨3, ![128, 16, 128]⟩
abbrev S128x4x128 : Shape := ⟨3, ![128, 4, 128]⟩
abbrev S128x4x4 : Shape := ⟨3, ![128, 4, 4]⟩
abbrev S_ : Shape := ⟨0, ![]⟩
abbrev S128x16x2048 : Shape := ⟨3, ![128, 16, 2048]⟩
abbrev S128x4x2048 : Shape := ⟨3, ![128, 4, 2048]⟩
abbrev S128x4x4x512 : Shape := ⟨4, ![128, 4, 4, 512]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S128x4x4x1 : Shape := ⟨4, ![128, 4, 4, 1]⟩
abbrev S128x4x1x4 : Shape := ⟨4, ![128, 4, 1, 4]⟩
abbrev S128x4x4x4 : Shape := ⟨4, ![128, 4, 4, 4]⟩
abbrev S128x4x1 : Shape := ⟨3, ![128, 4, 1]⟩
abbrev S128x4x1x1 : Shape := ⟨4, ![128, 4, 1, 1]⟩
abbrev S1x1x2048 : Shape := ⟨3, ![1, 1, 2048]⟩
abbrev S128x16x4096 : Shape := ⟨3, ![128, 16, 4096]⟩
abbrev S128x4x4096 : Shape := ⟨3, ![128, 4, 4096]⟩
abbrev S128x4x1x512 : Shape := ⟨4, ![128, 4, 1, 512]⟩
abbrev S128x4x1x128 : Shape := ⟨4, ![128, 4, 1, 128]⟩

abbrev nBuf : Space → Nat
  | .hbm => 187
  | .vmem => 0
  | .smem => 0
  | _ => 0

abbrev hbmTy0_0 (i : Nat) : BufTy := match i % 128 with
  | 0 => ⟨S2048x2048, .bf16⟩
  | 1 => ⟨S2048x2048, .bf16⟩
  | 2 => ⟨S2048x2048, .bf16⟩
  | 3 => ⟨S2048x2048, .bf16⟩
  | 4 => ⟨S2048x4096, .f32⟩
  | 5 => ⟨S2048x128, .f32⟩
  | 6 => ⟨S2048, .f32⟩
  | 7 => ⟨S2048, .f32⟩
  | 8 => ⟨S128x4x512x512, .f32⟩
  | 9 => ⟨S128x4x512, .f32⟩
  | 10 => ⟨S128x4, .f32⟩
  | 11 => ⟨S128x16x128, .f32⟩
  | 12 => ⟨S128x4x128, .f32⟩
  | 13 => ⟨S128x4x4, .f32⟩
  | 14 => ⟨S128x4x4, .f32⟩
  | 15 => ⟨S128x4x4, .f32⟩
  | 16 => ⟨S128x4x4, .f32⟩
  | 17 => ⟨S_, .f32⟩
  | 18 => ⟨S128x4x4, .f32⟩
  | 19 => ⟨S128x4x4, .f32⟩
  | 20 => ⟨S128x4x4, .f32⟩
  | 21 => ⟨S128x4x4, .f32⟩
  | 22 => ⟨S128x4x4, .i1⟩
  | 23 => ⟨S128x4x4, .f32⟩
  | 24 => ⟨S128x4x4, .f32⟩
  | 25 => ⟨S128x4x4, .f32⟩
  | 26 => ⟨S128x4x4, .f32⟩
  | 27 => ⟨S128x4x4, .f32⟩
  | 28 => ⟨S128x4x4, .f32⟩
  | 29 => ⟨S128x4x4, .f32⟩
  | 30 => ⟨S128x4x4, .f32⟩
  | 31 => ⟨S128x4x4, .f32⟩
  | 32 => ⟨S128x4x4, .f32⟩
  | 33 => ⟨S2048x2048, .f32⟩
  | 34 => ⟨S128x16x2048, .f32⟩
  | 35 => ⟨S128x4x2048, .f32⟩
  | 36 => ⟨S128x4x4x512, .f32⟩
  | 37 => ⟨S128x4x4x512, .f32⟩
  | 38 => ⟨S2048x2048, .f32⟩
  | 39 => ⟨S128x16x2048, .f32⟩
  | 40 => ⟨S128x4x2048, .f32⟩
  | 41 => ⟨S128x4x4x512, .f32⟩
  | 42 => ⟨S128x4x4x512, .f32⟩
  | 43 => ⟨S2048x2048, .f32⟩
  | 44 => ⟨S128x16x2048, .f32⟩
  | 45 => ⟨S128x4x2048, .f32⟩
  | 46 => ⟨S128x4x4x512, .f32⟩
  | 47 => ⟨S128x4x4x512, .f32⟩
  | 48 => ⟨S_, .f32⟩
  | 49 => ⟨S_, .f32⟩
  | 50 => ⟨S128x4x4, .f32⟩
  | 51 => ⟨S4, .i32⟩
  | 52 => ⟨S4x1, .i32⟩
  | 53 => ⟨S4, .i32⟩
  | 54 => ⟨S1x4, .i32⟩
  | 55 => ⟨S4x4, .i32⟩
  | 56 => ⟨S4x4, .i32⟩
  | 57 => ⟨S4x4, .i1⟩
  | 58 => ⟨S128x4x4x1, .f32⟩
  | 59 => ⟨S128x4x1x4, .f32⟩
  | 60 => ⟨S128x4x4x4, .f32⟩
  | 61 => ⟨S128x4x4x4, .f32⟩
  | 62 => ⟨S128x4x4x4, .f32⟩
  | 63 => ⟨S128x4x1x4, .f32⟩
  | 64 => ⟨S128x4x4x4, .f32⟩
  | 65 => ⟨S128x4x4x4, .f32⟩
  | 66 => ⟨S_, .f32⟩
  | 67 => ⟨S_, .f32⟩
  | 68 => ⟨S128x4x4x4, .i1⟩
  | 69 => ⟨S128x4x4x4, .f32⟩
  | 70 => ⟨S128x4x4x4, .f32⟩
  | 71 => ⟨S128x4x1, .f32⟩
  | 72 => ⟨S128x4x4, .f32⟩
  | 73 => ⟨S128x4x4, .f32⟩
  | 74 => ⟨S_, .f32⟩
  | 75 => ⟨S128x4x4, .f32⟩
  | 76 => ⟨S128x4x4, .f32⟩
  | 77 => ⟨S128x4x4x4, .f32⟩
  | 78 => ⟨S128x4x4x1, .f32⟩
  | 79 => ⟨S128x4x4x4, .f32⟩
  | 80 => ⟨S128x4x4x4, .f32⟩
  | 81 => ⟨S128x4x4x4, .f32⟩
  | 82 => ⟨S128x4x4x4, .f32⟩
  | 83 => ⟨S128x4x4, .f32⟩
  | 84 => ⟨S128x4x4, .f32⟩
  | 85 => ⟨S128x4x4x512, .f32⟩
  | 86 => ⟨S128x4x4x1, .f32⟩
  | 87 => ⟨S128x4x4x512, .f32⟩
  | 88 => ⟨S128x4x4x512, .f32⟩
  | 89 => ⟨S128x4x4x512, .f32⟩
  | 90 => ⟨S128x4x4x512, .f32⟩
  | 91 => ⟨S_, .f32⟩
  | 92 => ⟨S128x4x4, .f32⟩
  | 93 => ⟨S128x4x4, .f32⟩
  | 94 => ⟨S128x4x4, .f32⟩
  | 95 => ⟨S128x4x4, .f32⟩
  | 96 => ⟨S128x4x4, .f32⟩
  | 97 => ⟨S128x4x4, .f32⟩
  | 98 => ⟨S128x4x4, .f32⟩
  | 99 => ⟨S128x4x4, .f32⟩
  | 100 => ⟨S128x4x4x1, .f32⟩
  | 101 => ⟨S128x4x4x512, .f32⟩
  | 102 => ⟨S128x4x4x512, .f32⟩
  | 103 => ⟨S128x4x1, .f32⟩
  | 104 => ⟨S128x4, .f32⟩
  | 105 => ⟨S128x4x1, .f32⟩
  | 106 => ⟨S128x4x4, .f32⟩
  | 107 => ⟨S128x4x4, .f32⟩
  | 108 => ⟨S128x4x4, .f32⟩
  | 109 => ⟨S128x4x1, .f32⟩
  | 110 => ⟨S128x4x4, .f32⟩
  | 111 => ⟨S128x4x4, .f32⟩
  | 112 => ⟨S128x4x4, .f32⟩
  | 113 => ⟨S128x4x1, .f32⟩
  | 114 => ⟨S128x4, .f32⟩
  | 115 => ⟨S128x4, .f32⟩
  | 116 => ⟨S128x4, .f32⟩
  | 117 => ⟨S128x4, .f32⟩
  | 118 => ⟨S128x4x1x1, .f32⟩
  | 119 => ⟨S128x4x512x512, .f32⟩
  | 120 => ⟨S128x4x512x512, .f32⟩
  | 121 => ⟨S128x4x4x1, .f32⟩
  | 122 => ⟨S128x4x4x512, .f32⟩
  | 123 => ⟨S128x4x4x512, .f32⟩
  | 124 => ⟨S128x4x512x512, .f32⟩
  | 125 => ⟨S128x4x512x512, .f32⟩
  | 126 => ⟨S128x4x1, .f32⟩
  | 127 => ⟨S128x4x512, .f32⟩
  | _ => ⟨S2048x2048, .bf16⟩

abbrev hbmTy0_1 (i : Nat) : BufTy := match i % 128 with
  | 0 => ⟨S128x4x512, .f32⟩
  | 1 => ⟨S128x4x512, .f32⟩
  | 2 => ⟨S128x4x512, .f32⟩
  | 3 => ⟨S128x4x4x512, .f32⟩
  | 4 => ⟨S_, .f32⟩
  | 5 => ⟨S128x4x4, .f32⟩
  | 6 => ⟨S128x4x4x1, .f32⟩
  | 7 => ⟨S_, .f32⟩
  | 8 => ⟨S128x4x4x1, .f32⟩
  | 9 => ⟨S128x4x4x1, .f32⟩
  | 10 => ⟨S128x4x4x512, .f32⟩
  | 11 => ⟨S128x4x4x512, .f32⟩
  | 12 => ⟨S128x4x4x512, .f32⟩
  | 13 => ⟨S_, .f32⟩
  | 14 => ⟨S128x4x4, .f32⟩
  | 15 => ⟨S128x4x4x1, .f32⟩
  | 16 => ⟨S_, .f32⟩
  | 17 => ⟨S128x4x4x1, .f32⟩
  | 18 => ⟨S128x4x4x1, .f32⟩
  | 19 => ⟨S128x4x4x512, .f32⟩
  | 20 => ⟨S128x4x4x512, .f32⟩
  | 21 => ⟨S_, .f32⟩
  | 22 => ⟨S128x4x4x1, .f32⟩
  | 23 => ⟨S128x4x4x1, .f32⟩
  | 24 => ⟨S128x4x4x1, .f32⟩
  | 25 => ⟨S128x4x4x512, .f32⟩
  | 26 => ⟨S128x4x4x512, .f32⟩
  | 27 => ⟨S128x4x2048, .f32⟩
  | 28 => ⟨S1x1x2048, .f32⟩
  | 29 => ⟨S128x4x2048, .f32⟩
  | 30 => ⟨S128x4x2048, .f32⟩
  | 31 => ⟨S128x16x4096, .f32⟩
  | 32 => ⟨S128x4x4096, .f32⟩
  | 33 => ⟨S128x4x2048, .f32⟩
  | 34 => ⟨S2048x2048, .f32⟩
  | 35 => ⟨S128x16x2048, .f32⟩
  | 36 => ⟨S128x4x2048, .f32⟩
  | 37 => ⟨S1x1x2048, .f32⟩
  | 38 => ⟨S128x4x2048, .f32⟩
  | 39 => ⟨S128x4x2048, .f32⟩
  | 40 => ⟨S128x4x2048, .f32⟩
  | 41 => ⟨S128x4x2048, .f32⟩
  | 42 => ⟨S128x4x2048, .f32⟩
  | 43 => ⟨S_, .f32⟩
  | 44 => ⟨S128x4x2048, .f32⟩
  | 45 => ⟨S128x4x2048, .f32⟩
  | 46 => ⟨S_, .f32⟩
  | 47 => ⟨S128x4x2048, .f32⟩
  | 48 => ⟨S128x4x2048, .f32⟩
  | 49 => ⟨S128x4x2048, .f32⟩
  | 50 => ⟨S128x4x2048, .f32⟩
  | 51 => ⟨S_, .i32⟩
  | 52 => ⟨S_, .f32⟩
  | 53 => ⟨S128x16x2048, .f32⟩
  | 54 => ⟨S2048x2048, .f32⟩
  | 55 => ⟨S2048x2048, .bf16⟩
  | 56 => ⟨S128x4x1x512, .f32⟩
  | 57 => ⟨S128x4x1x1, .f32⟩
  | 58 => ⟨S128x4x1x128, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call1_call0_cst : Ref sig .tc := ⟨.hbm, 48, rfl⟩
abbrev main_call1_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_2 : Ref sig .tc := ⟨.hbm, 132, rfl⟩
abbrev main_v98 : Ref sig .tc := ⟨.hbm, 133, rfl⟩
abbrev main_v99 : Ref sig .tc := ⟨.hbm, 134, rfl⟩
abbrev main_cst_3 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_4 : Ref sig .tc := ⟨.hbm, 141, rfl⟩
abbrev main_v105 : Ref sig .tc := ⟨.hbm, 142, rfl⟩
abbrev main_v106 : Ref sig .tc := ⟨.hbm, 143, rfl⟩
abbrev main_cst_5 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_6 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call3_v0 : Ref sig .tc := ⟨.hbm, 169, rfl⟩
abbrev main_call3_v1 : Ref sig .tc := ⟨.hbm, 170, rfl⟩
abbrev main_call3_cst : Ref sig .tc := ⟨.hbm, 171, rfl⟩
abbrev main_call3_v2 : Ref sig .tc := ⟨.hbm, 172, rfl⟩
abbrev main_call3_v3 : Ref sig .tc := ⟨.hbm, 173, rfl⟩
abbrev main_call3_cst_0 : Ref sig .tc := ⟨.hbm, 174, rfl⟩
abbrev main_call3_v4 : Ref sig .tc := ⟨.hbm, 175, rfl⟩
abbrev main_call3_v5 : Ref sig .tc := ⟨.hbm, 176, rfl⟩
abbrev main_v130 : Ref sig .tc := ⟨.hbm, 177, rfl⟩
abbrev main_v131 : Ref sig .tc := ⟨.hbm, 178, rfl⟩
abbrev main_c : Ref sig .tc := ⟨.hbm, 179, rfl⟩
abbrev main_call4_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩

abbrev nD : Nat := 1
abbrev τ : Topo := Topo.v7x

variable {F : FTy → Type} [FloatOps F]
-- ==== Up.lean ====
abbrev S16384x1024 : Shape := ⟨2, ![16384, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x1024 : Shape := ⟨2, ![16384, 1024]⟩
abbrev S1024 : Shape := ⟨1, ![1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Down.lean ====
abbrev S16384x2048 : Shape := ⟨2, ![16384, 2048]⟩
abbrev S2048x1024 : Shape := ⟨2, ![2048, 1024]⟩
abbrev S1024 : Shape := ⟨1, ![1024]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S1024, .f32⟩
  | .hbm, ⟨3, _⟩ => ⟨S16384x1024, .f32⟩
  | .hbm, ⟨4, _⟩ => ⟨S2048x1024, .bf16⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownIdeal.lean ====
abbrev S16384x2048 : Shape := ⟨2, ![16384, 2048]⟩
abbrev S2048x1024 : Shape := ⟨2, ![2048, 1024]⟩
abbrev S1024 : Shape := ⟨1, ![1024]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S1024, .f32⟩
  | .hbm, ⟨3, _⟩ => ⟨S16384x1024, .f32⟩
  | .hbm, ⟨4, _⟩ => ⟨S2048x1024, .bf16⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S16384x2048 : Shape := ⟨2, ![16384, 2048]⟩
abbrev S2048x1024 : Shape := ⟨2, ![2048, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S1024, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kv.lean ====
abbrev S16384x1024 : Shape := ⟨2, ![16384, 1024]⟩
abbrev S1024 : Shape := ⟨1, ![1024]⟩
abbrev S1024x1536 : Shape := ⟨2, ![1024, 1536]⟩
abbrev S1x1024 : Shape := ⟨2, ![1, 1024]⟩
abbrev S16384x1536 : Shape := ⟨2, ![16384, 1536]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1024x1536, .bf16⟩
  | .hbm, ⟨4, _⟩ => ⟨S1x1024, .f32⟩
  | .hbm, ⟨5, _⟩ => ⟨S16384x1536, .f32⟩
  | .hbm, ⟨6, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KvRefIdeal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | .hbm, ⟨20, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== CellP.lean ====
abbrev S16384x2048 : Shape := ⟨2, ![16384, 2048]⟩
abbrev S16384x4096 : Shape := ⟨2, ![16384, 4096]⟩
abbrev S16384x128 : Shape := ⟨2, ![16384, 128]⟩
abbrev S2048 : Shape := ⟨1, ![2048]⟩
abbrev S64x256x2048 : Shape := ⟨3, ![64, 256, 2048]⟩
abbrev S64x2048x256 : Shape := ⟨3, ![64, 2048, 256]⟩
abbrev S1x2048 : Shape := ⟨2, ![1, 2048]⟩
abbrev S16384x8 : Shape := ⟨2, ![16384, 8]⟩
abbrev S64x256x8 : Shape := ⟨3, ![64, 256, 8]⟩
abbrev S64x8x256 : Shape := ⟨3, ![64, 8, 256]⟩
abbrev S64x8x256x1 : Shape := ⟨4, ![64, 8, 256, 1]⟩
abbrev S64x8x1x256 : Shape := ⟨4, ![64, 8, 1, 256]⟩
abbrev S8x4x512x512 : Shape := ⟨4, ![8, 4, 512, 512]⟩
abbrev S8x4x1x512 : Shape := ⟨4, ![8, 4, 1, 512]⟩
abbrev S8x4x1x128 : Shape := ⟨4, ![8, 4, 1, 128]⟩
abbrev S256x512 : Shape := ⟨2, ![256, 512]⟩
abbrev S1x512x256 : Shape := ⟨3, ![1, 512, 256]⟩
abbrev S1x1x256x1 : Shape := ⟨4, ![1, 1, 256, 1]⟩
abbrev S1x1x1x256 : Shape := ⟨4, ![1, 1, 1, 256]⟩
abbrev S1x512 : Shape := ⟨2, ![1, 512]⟩
abbrev S1x1x512x512 : Shape := ⟨4, ![1, 1, 512, 512]⟩
abbrev S1x1x1x512 : Shape := ⟨4, ![1, 1, 1, 512]⟩
abbrev S1x1x1x128 : Shape := ⟨4, ![1, 1, 1, 128]⟩
abbrev S512x512 : Shape := ⟨2, ![512, 512]⟩
abbrev S1x1 : Shape := ⟨2, ![1, 1]⟩
abbrev S256x1 : Shape := ⟨2, ![256, 1]⟩
abbrev S1x256 : Shape := ⟨2, ![1, 256]⟩
abbrev S256x256 : Shape := ⟨2, ![256, 256]⟩
abbrev S256 : Shape := ⟨1, ![256]⟩
abbrev S1 : Shape := ⟨1, ![1]⟩
abbrev S512x256 : Shape := ⟨2, ![512, 256]⟩
abbrev S512 : Shape := ⟨1, ![512]⟩
abbrev S1x128 : Shape := ⟨2, ![1, 128]⟩

abbrev nBuf : Space → Nat
  | .hbm => 22
  | .vmem => 35
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x4096, .f32⟩
  | .hbm, ⟨5, _⟩ => ⟨S16384x128, .f32⟩
  | .hbm, ⟨6, _⟩ => ⟨S2048, .f32⟩
  | .hbm, ⟨7, _⟩ => ⟨S2048, .f32⟩
  | .hbm, ⟨8, _⟩ => ⟨S64x256x2048, .bf16⟩
  | .hbm, ⟨9, _⟩ => ⟨S64x2048x256, .bf16⟩
  | .hbm, ⟨10, _⟩ => ⟨S1x2048, .f32⟩
  | .hbm, ⟨11, _⟩ => ⟨S1x2048, .f32⟩
  | .hbm, ⟨12, _⟩ => ⟨S16384x8, .f32⟩
  | .hbm, ⟨13, _⟩ => ⟨S64x256x8, .f32⟩
  | .hbm, ⟨14, _⟩ => ⟨S64x8x256, .f32⟩
  | .hbm, ⟨15, _⟩ => ⟨S64x8x256x1, .f32⟩
  | .hbm, ⟨16, _⟩ => ⟨S64x8x256, .f32⟩
  | .hbm, ⟨17, _⟩ => ⟨S64x8x1x256, .f32⟩
  | .hbm, ⟨18, _⟩ => ⟨S16384x2048, .bf16⟩
  | .hbm, ⟨19, _⟩ => ⟨S8x4x512x512, .f32⟩
  | .hbm, ⟨20, _⟩ => ⟨S8x4x1x512, .f32⟩
  | .hbm, ⟨21, _⟩ => ⟨S8x4x1x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x512x256, .bf16⟩
  | .local _ .vmem, ⟨5, _⟩ => ⟨S1x512x256, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S1x1x256x1, .f32⟩
  | .local _ .vmem, ⟨13, _⟩ => ⟨S1x1x256x1, .f32⟩
  | .local _ .vmem, ⟨14, _⟩ => ⟨S1x1x256x1, .f32⟩
  | .local _ .vmem, ⟨15, _⟩ => ⟨S1x1x256x1, .f32⟩
  | .local _ .vmem, ⟨16, _⟩ => ⟨S1x1x1x256, .f32⟩
  | .local _ .vmem, ⟨17, _⟩ => ⟨S1x1x1x256, .f32⟩
  | .local _ .vmem, ⟨18, _⟩ => ⟨S1x1x1x256, .f32⟩
  | .local _ .vmem, ⟨19, _⟩ => ⟨S1x1x1x256, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S256x512, .bf16⟩
  | .local _ .vmem, ⟨25, _⟩ => ⟨S256x512, .bf16⟩
  | .local _ .vmem, ⟨26, _⟩ => ⟨S1x1x512x512, .f32⟩
  | .local _ .vmem, ⟨27, _⟩ => ⟨S1x1x512x512, .f32⟩
  | .local _ .vmem, ⟨28, _⟩ => ⟨S1x1x1x512, .f32⟩
  | .local _ .vmem, ⟨29, _⟩ => ⟨S1x1x1x512, .f32⟩
  | .local _ .vmem, ⟨30, _⟩ => ⟨S1x1x1x128, .f32⟩
  | .local _ .vmem, ⟨31, _⟩ => ⟨S1x1x1x128, .f32⟩
  | .local _ .vmem, ⟨32, _⟩ => ⟨S512x512, .f32⟩
  | .local _ .vmem, ⟨33, _⟩ => ⟨S1x512, .f32⟩
  | .local _ .vmem, ⟨34, _⟩ => ⟨S1x1, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v180 : BitVec 1 := Scalar.cmpi .eq arg2 c7_i32
  let v181 : BitVec 32 := Scalar.extui v180
  let c0_i32_77 : BitVec 32 := 0#32
  let v182 : BitVec 1 := Scalar.cmpi .ne v181 c0_i32_77
  v182

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  let c0_i32_0 : BitVec 32 := 0#32
  let c0_i32_1 : BitVec 32 := 0#32
  ![v1.toNat, v2.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  let c0_i32_0 : BitVec 32 := 0#32
  let c0_i32_1 : BitVec 32 := 0#32
  ![v1.toNat, v2.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== CellPIdeal.lean ====
variable {F : FTy → Type} [FloatOps F] [Named F]
def κ : String → Option EReal := fun
  | "mask" => some ⊥
  | _ => none
-- ==== CellPRefIdeal.lean ====
abbrev S16384x2048 : Shape := ⟨2, ![16384, 2048]⟩
abbrev S16384x4096 : Shape := ⟨2, ![16384, 4096]⟩
abbrev S16384x128 : Shape := ⟨2, ![16384, 128]⟩
abbrev S2048 : Shape := ⟨1, ![2048]⟩
abbrev S8x2048x128 : Shape := ⟨3, ![8, 2048, 128]⟩
abbrev S8x2048x4 : Shape := ⟨3, ![8, 2048, 4]⟩
abbrev S8x4x2048 : Shape := ⟨3, ![8, 4, 2048]⟩
abbrev S_ : Shape := ⟨0, ![]⟩
abbrev S8x4x512x512 : Shape := ⟨4, ![8, 4, 512, 512]⟩
abbrev S8x4x512 : Shape := ⟨3, ![8, 4, 512]⟩
abbrev S8x4 : Shape := ⟨2, ![8, 4]⟩
abbrev S8x2048x2048 : Shape := ⟨3, ![8, 2048, 2048]⟩
abbrev S8x2048x4x512 : Shape := ⟨4, ![8, 2048, 4, 512]⟩
abbrev S8x4x2048x512 : Shape := ⟨4, ![8, 4, 2048, 512]⟩
abbrev S2048x1 : Shape := ⟨2, ![2048, 1]⟩
abbrev S1x2048 : Shape := ⟨2, ![1, 2048]⟩
abbrev S2048x2048 : Shape := ⟨2, ![2048, 2048]⟩
abbrev S8x4x2048x1 : Shape := ⟨4, ![8, 4, 2048, 1]⟩
abbrev S8x4x1x2048 : Shape := ⟨4, ![8, 4, 1, 2048]⟩
abbrev S8x4x2048x2048 : Shape := ⟨4, ![8, 4, 2048, 2048]⟩
abbrev S8x4x1 : Shape := ⟨3, ![8, 4, 1]⟩
abbrev S8x4x1x1 : Shape := ⟨4, ![8, 4, 1, 1]⟩
abbrev S8x2048x4x1 : Shape := ⟨4, ![8, 2048, 4, 1]⟩
abbrev S1x1x2048 : Shape := ⟨3, ![1, 1, 2048]⟩
abbrev S8x2048x4096 : Shape := ⟨3, ![8, 2048, 4096]⟩
abbrev S8x4x1x512 : Shape := ⟨4, ![8, 4, 1, 512]⟩
abbrev S8x4x1x128 : Shape := ⟨4, ![8, 4, 1, 128]⟩

abbrev nBuf : Space → Nat
  | .hbm => 181
  | .vmem => 0
  | .smem => 0
  | _ => 0

abbrev hbmTy0_0 (i : Nat) : BufTy := match i % 128 with
  | 0 => ⟨S16384x2048, .bf16⟩
  | 1 => ⟨S16384x2048, .bf16⟩
  | 2 => ⟨S16384x2048, .bf16⟩
  | 3 => ⟨S16384x2048, .bf16⟩
  | 4 => ⟨S16384x4096, .f32⟩
  | 5 => ⟨S16384x128, .f32⟩
  | 6 => ⟨S2048, .f32⟩
  | 7 => ⟨S2048, .f32⟩
  | 8 => ⟨S8x2048x128, .f32⟩
  | 9 => ⟨S8x2048x4, .f32⟩
  | 10 => ⟨S8x4x2048, .f32⟩
  | 11 => ⟨S8x2048x4, .f32⟩
  | 12 => ⟨S8x2048x4, .f32⟩
  | 13 => ⟨S_, .f32⟩
  | 14 => ⟨S8x2048x4, .f32⟩
  | 15 => ⟨S8x2048x4, .f32⟩
  | 16 => ⟨S8x2048x4, .f32⟩
  | 17 => ⟨S8x2048x4, .f32⟩
  | 18 => ⟨S8x2048x4, .i1⟩
  | 19 => ⟨S8x2048x4, .f32⟩
  | 20 => ⟨S8x2048x4, .f32⟩
  | 21 => ⟨S8x2048x4, .f32⟩
  | 22 => ⟨S8x2048x4, .f32⟩
  | 23 => ⟨S8x2048x4, .f32⟩
  | 24 => ⟨S8x2048x4, .f32⟩
  | 25 => ⟨S8x2048x4, .f32⟩
  | 26 => ⟨S8x2048x4, .f32⟩
  | 27 => ⟨S8x2048x4, .f32⟩
  | 28 => ⟨S8x4x2048, .f32⟩
  | 29 => ⟨S_, .f32⟩
  | 30 => ⟨S8x4x512x512, .f32⟩
  | 31 => ⟨S_, .f32⟩
  | 32 => ⟨S8x4x512, .f32⟩
  | 33 => ⟨S_, .f32⟩
  | 34 => ⟨S8x4, .f32⟩
  | 35 => ⟨S16384x2048, .f32⟩
  | 36 => ⟨S8x2048x2048, .f32⟩
  | 37 => ⟨S8x2048x4x512, .f32⟩
  | 38 => ⟨S8x4x2048x512, .f32⟩
  | 39 => ⟨S16384x2048, .f32⟩
  | 40 => ⟨S8x2048x2048, .f32⟩
  | 41 => ⟨S8x2048x4x512, .f32⟩
  | 42 => ⟨S8x4x2048x512, .f32⟩
  | 43 => ⟨S16384x2048, .f32⟩
  | 44 => ⟨S8x2048x2048, .f32⟩
  | 45 => ⟨S8x2048x4x512, .f32⟩
  | 46 => ⟨S8x4x2048x512, .f32⟩
  | 47 => ⟨S_, .f32⟩
  | 48 => ⟨S_, .f32⟩
  | 49 => ⟨S8x4x2048, .f32⟩
  | 50 => ⟨S2048, .i32⟩
  | 51 => ⟨S2048x1, .i32⟩
  | 52 => ⟨S2048, .i32⟩
  | 53 => ⟨S1x2048, .i32⟩
  | 54 => ⟨S2048x2048, .i32⟩
  | 55 => ⟨S2048x2048, .i32⟩
  | 56 => ⟨S2048x2048, .i1⟩
  | 57 => ⟨S8x4x2048x1, .f32⟩
  | 58 => ⟨S8x4x1x2048, .f32⟩
  | 59 => ⟨S8x4x2048x2048, .f32⟩
  | 60 => ⟨S8x4x2048x2048, .f32⟩
  | 61 => ⟨S8x4x2048x2048, .f32⟩
  | 62 => ⟨S8x4x1x2048, .f32⟩
  | 63 => ⟨S8x4x2048x2048, .f32⟩
  | 64 => ⟨S8x4x2048x2048, .f32⟩
  | 65 => ⟨S_, .f32⟩
  | 66 => ⟨S_, .f32⟩
  | 67 => ⟨S8x4x2048x2048, .i1⟩
  | 68 => ⟨S8x4x2048x2048, .f32⟩
  | 69 => ⟨S8x4x2048x2048, .f32⟩
  | 70 => ⟨S8x4x1, .f32⟩
  | 71 => ⟨S8x4x2048, .f32⟩
  | 72 => ⟨S8x4x2048, .f32⟩
  | 73 => ⟨S_, .f32⟩
  | 74 => ⟨S8x4x2048, .f32⟩
  | 75 => ⟨S8x4x2048, .f32⟩
  | 76 => ⟨S8x4x2048x2048, .f32⟩
  | 77 => ⟨S8x4x2048x1, .f32⟩
  | 78 => ⟨S8x4x2048x2048, .f32⟩
  | 79 => ⟨S8x4x2048x2048, .f32⟩
  | 80 => ⟨S8x4x2048x2048, .f32⟩
  | 81 => ⟨S8x4x2048x2048, .f32⟩
  | 82 => ⟨S8x4x2048, .f32⟩
  | 83 => ⟨S8x4x2048, .f32⟩
  | 84 => ⟨S8x4x2048x512, .f32⟩
  | 85 => ⟨S8x4x2048x1, .f32⟩
  | 86 => ⟨S8x4x2048x512, .f32⟩
  | 87 => ⟨S8x4x2048x512, .f32⟩
  | 88 => ⟨S8x4x2048x512, .f32⟩
  | 89 => ⟨S8x4x2048x512, .f32⟩
  | 90 => ⟨S_, .f32⟩
  | 91 => ⟨S8x4x2048, .f32⟩
  | 92 => ⟨S8x4x2048, .f32⟩
  | 93 => ⟨S8x4x2048, .f32⟩
  | 94 => ⟨S8x4x2048, .f32⟩
  | 95 => ⟨S8x4x2048, .f32⟩
  | 96 => ⟨S8x4x2048, .f32⟩
  | 97 => ⟨S8x4x2048, .f32⟩
  | 98 => ⟨S8x4x2048, .f32⟩
  | 99 => ⟨S8x4x2048x1, .f32⟩
  | 100 => ⟨S8x4x2048x512, .f32⟩
  | 101 => ⟨S8x4x2048x512, .f32⟩
  | 102 => ⟨S8x4x1, .f32⟩
  | 103 => ⟨S8x4, .f32⟩
  | 104 => ⟨S8x4x1, .f32⟩
  | 105 => ⟨S8x4x2048, .f32⟩
  | 106 => ⟨S8x4x2048, .f32⟩
  | 107 => ⟨S8x4x2048, .f32⟩
  | 108 => ⟨S8x4x1, .f32⟩
  | 109 => ⟨S8x4x2048, .f32⟩
  | 110 => ⟨S8x4x2048, .f32⟩
  | 111 => ⟨S8x4x2048, .f32⟩
  | 112 => ⟨S8x4x1, .f32⟩
  | 113 => ⟨S8x4, .f32⟩
  | 114 => ⟨S8x4, .f32⟩
  | 115 => ⟨S8x4, .f32⟩
  | 116 => ⟨S8x4, .f32⟩
  | 117 => ⟨S8x4x1x1, .f32⟩
  | 118 => ⟨S8x4x512x512, .f32⟩
  | 119 => ⟨S8x4x512x512, .f32⟩
  | 120 => ⟨S8x4x2048x1, .f32⟩
  | 121 => ⟨S8x4x2048x512, .f32⟩
  | 122 => ⟨S8x4x2048x512, .f32⟩
  | 123 => ⟨S8x4x512x512, .f32⟩
  | 124 => ⟨S8x4x512x512, .f32⟩
  | 125 => ⟨S8x4x1, .f32⟩
  | 126 => ⟨S8x4x512, .f32⟩
  | 127 => ⟨S8x4x512, .f32⟩
  | _ => ⟨S16384x2048, .bf16⟩

abbrev hbmTy0_1 (i : Nat) : BufTy := match i % 128 with
  | 0 => ⟨S8x4x512, .f32⟩
  | 1 => ⟨S8x4x512, .f32⟩
  | 2 => ⟨S8x2048x4x512, .f32⟩
  | 3 => ⟨S_, .f32⟩
  | 4 => ⟨S8x2048x4, .f32⟩
  | 5 => ⟨S8x2048x4x1, .f32⟩
  | 6 => ⟨S_, .f32⟩
  | 7 => ⟨S8x2048x4x1, .f32⟩
  | 8 => ⟨S8x2048x4x1, .f32⟩
  | 9 => ⟨S8x2048x4x512, .f32⟩
  | 10 => ⟨S8x2048x4x512, .f32⟩
  | 11 => ⟨S8x2048x4x512, .f32⟩
  | 12 => ⟨S_, .f32⟩
  | 13 => ⟨S8x2048x4, .f32⟩
  | 14 => ⟨S8x2048x4x1, .f32⟩
  | 15 => ⟨S_, .f32⟩
  | 16 => ⟨S8x2048x4x1, .f32⟩
  | 17 => ⟨S8x2048x4x1, .f32⟩
  | 18 => ⟨S8x2048x4x512, .f32⟩
  | 19 => ⟨S8x2048x4x512, .f32⟩
  | 20 => ⟨S_, .f32⟩
  | 21 => ⟨S8x2048x4x1, .f32⟩
  | 22 => ⟨S8x2048x4x1, .f32⟩
  | 23 => ⟨S8x2048x4x1, .f32⟩
  | 24 => ⟨S8x2048x4x512, .f32⟩
  | 25 => ⟨S8x2048x4x512, .f32⟩
  | 26 => ⟨S8x2048x2048, .f32⟩
  | 27 => ⟨S1x1x2048, .f32⟩
  | 28 => ⟨S8x2048x2048, .f32⟩
  | 29 => ⟨S8x2048x2048, .f32⟩
  | 30 => ⟨S8x2048x4096, .f32⟩
  | 31 => ⟨S8x2048x2048, .f32⟩
  | 32 => ⟨S16384x2048, .f32⟩
  | 33 => ⟨S8x2048x2048, .f32⟩
  | 34 => ⟨S1x1x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S16384x2048, .f32⟩
  | 49 => ⟨S16384x2048, .bf16⟩
  | 50 => ⟨S8x4x1x512, .f32⟩
  | 51 => ⟨S8x4x1x1, .f32⟩
  | 52 => ⟨S8x4x1x128, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_call0_cst : Ref sig .tc := ⟨.hbm, 47, rfl⟩
abbrev main_call1_call0_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_2 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_3 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_4 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_5 : Ref sig .tc := ⟨.hbm, 131, rfl⟩
abbrev main_v97 : Ref sig .tc := ⟨.hbm, 132, rfl⟩
abbrev main_v98 : Ref sig .tc := ⟨.hbm, 133, rfl⟩
abbrev main_cst_6 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_7 : Ref sig .tc := ⟨.hbm, 140, rfl⟩
abbrev main_v104 : Ref sig .tc := ⟨.hbm, 141, rfl⟩
abbrev main_v105 : Ref sig .tc := ⟨.hbm, 142, rfl⟩
abbrev main_cst_8 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_9 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call3_v0 : Ref sig .tc := ⟨.hbm, 166, rfl⟩
abbrev main_call3_v1 : Ref sig .tc := ⟨.hbm, 167, rfl⟩
abbrev main_call3_cst : Ref sig .tc := ⟨.hbm, 168, rfl⟩
abbrev main_call3_v2 : Ref sig .tc := ⟨.hbm, 169, rfl⟩
abbrev main_call3_v3 : Ref sig .tc := ⟨.hbm, 170, rfl⟩
abbrev main_call3_cst_0 : Ref sig .tc := ⟨.hbm, 171, rfl⟩
abbrev main_call3_v4 : Ref sig .tc := ⟨.hbm, 172, rfl⟩
abbrev main_call3_v5 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩

abbrev nD : Nat := 1
abbrev τ : Topo := Topo.v7x

variable {F : FTy → Type} [FloatOps F]
-- ==== KvS.lean ====
abbrev S2048x1024 : Shape := ⟨2, ![2048, 1024]⟩
abbrev S1024 : Shape := ⟨1, ![1024]⟩
abbrev S1024x1536 : Shape := ⟨2, ![1024, 1536]⟩
abbrev S128x512x2x4x64 : Shape := ⟨5, ![128, 512, 2, 4, 64]⟩
abbrev S1x1024 : Shape := ⟨2, ![1, 1024]⟩
abbrev S2048x1536 : Shape := ⟨2, ![2048, 1536]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S128x16x1536 : Shape := ⟨3, ![128, 16, 1536]⟩
abbrev S128x4x1536 : Shape := ⟨3, ![128, 4, 1536]⟩
abbrev S128x4x1024 : Shape := ⟨3, ![128, 4, 1024]⟩
abbrev S128x4x4x4x64 : Shape := ⟨5, ![128, 4, 4, 4, 64]⟩
abbrev S128x4x512 : Shape := ⟨3, ![128, 4, 512]⟩
abbrev S128x4x2x4x64 : Shape := ⟨5, ![128, 4, 2, 4, 64]⟩
abbrev S128x516x2x4x64 : Shape := ⟨5, ![128, 516, 2, 4, 64]⟩

abbrev nBuf : Space → Nat
  | .hbm => 15
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1536, .f32⟩
  | .hbm, ⟨3, _⟩ => ⟨S128x512x2x4x64, .f32⟩
  | .hbm, ⟨4, _⟩ => ⟨S1024x1536, .bf16⟩
  | .hbm, ⟨5, _⟩ => ⟨S1x1024, .f32⟩
  | .hbm, ⟨6, _⟩ => ⟨S2048x1536, .f32⟩
  | .hbm, ⟨7, _⟩ => ⟨S128x16x1536, .f32⟩
  | .hbm, ⟨8, _⟩ => ⟨S128x4x1536, .f32⟩
  | .hbm, ⟨9, _⟩ => ⟨S128x4x1024, .f32⟩
  | .hbm, ⟨10, _⟩ => ⟨S128x4x4x4x64, .f32⟩
  | .hbm, ⟨11, _⟩ => ⟨S128x4x512, .f32⟩
  | .hbm, ⟨12, _⟩ => ⟨S128x4x2x4x64, .f32⟩
  | .hbm, ⟨13, _⟩ => ⟨S128x516x2x4x64, .f32⟩
  | .hbm, ⟨14, _⟩ => ⟨S128x512x2x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvSRefIdeal.lean ====
abbrev S2048x1024 : Shape := ⟨2, ![2048, 1024]⟩
abbrev S1024 : Shape := ⟨1, ![1024]⟩
abbrev S1024x1536 : Shape := ⟨2, ![1024, 1536]⟩
abbrev S128x512x2x4x64 : Shape := ⟨5, ![128, 512, 2, 4, 64]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1536 : Shape := ⟨2, ![2048, 1536]⟩
abbrev S128x16x6x4x64 : Shape := ⟨5, ![128, 16, 6, 4, 64]⟩
abbrev S128x4x6x4x64 : Shape := ⟨5, ![128, 4, 6, 4, 64]⟩
abbrev S128x4x4x4x64 : Shape := ⟨5, ![128, 4, 4, 4, 64]⟩
abbrev S128x4x2x4x64 : Shape := ⟨5, ![128, 4, 2, 4, 64]⟩
abbrev S128x516x2x4x64 : Shape := ⟨5, ![128, 516, 2, 4, 64]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1536, .f32⟩
  | .hbm, ⟨3, _⟩ => ⟨S128x512x2x4x64, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1536, .f32⟩
  | .hbm, ⟨21, _⟩ => ⟨S128x16x6x4x64, .f32⟩
  | .hbm, ⟨22, _⟩ => ⟨S128x4x6x4x64, .f32⟩
  | .hbm, ⟨23, _⟩ => ⟨S128x4x4x4x64, .f32⟩
  | .hbm, ⟨24, _⟩ => ⟨S128x4x2x4x64, .f32⟩
  | .hbm, ⟨25, _⟩ => ⟨S128x516x2x4x64, .f32⟩
  | .hbm, ⟨26, _⟩ => ⟨S128x512x2x4x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.CellMath.lean ====
/-
  One chunk of the recurrence as plain mathematics over any number of tokens, and the reason why the kernel's 16 rows, of
  which 12 are filling, give what 4 tokens give: a filled row has the input gate minus infinity and the forget gate's
  logarithm zero, so it weighs nothing in any sum and moves no running sum.
-/
module

public import Idealize.ShloMosaic.Lib.Pointwise

@[expose] public section

noncomputable section

namespace Cert.Proof.Cell

open Idealize.ShloMosaic

/-- The logarithm of the logistic function, as the kernel writes it. -/
def logsig (x : EReal) : EReal := min x 0 - Ideal.log (1 + Ideal.exp (0 - max x (-x)))

/-- What one head of one sequence reads: `n` tokens and the state before them. -/
structure Step (n : Nat) where
  q : Fin n → Fin 512 → EReal
  k : Fin n → Fin 512 → EReal
  v : Fin n → Fin 512 → EReal
  ig : Fin n → EReal
  lf : Fin n → EReal
  C : Fin 512 → Fin 512 → EReal
  N : Fin 512 → EReal
  m : EReal

namespace Step

variable {n : Nat} (S : Step n)

/-- The running sum of the forget gates' logarithms. -/
def b (i : Fin n) : EReal := ∑ j, if j ≤ i then S.lf j else 0

/-- The logarithm of token `j`'s weight at token `i`, minus infinity for a later token. -/
def d (i j : Fin n) : EReal := if j ≤ i then S.b i - S.b j + S.ig j else ⊥

/-- The largest logarithm of a weight at token `i`. -/
def mt (i : Fin n) : EReal := max (S.b i + S.m) (Finset.univ.fold max ⊥ (fun j => S.d i j))

/-- The weighted score of token `j` at token `i`. -/
def s (i j : Fin n) : EReal := (∑ x, S.q i x * S.k j x) * Ideal.exp (S.d i j - S.mt i)

/-- The old state's weight at token `i`. -/
def w (i : Fin n) : EReal := Ideal.exp (S.b i + S.m - S.mt i)

/-- The hidden value at token `i`. -/
def h (i : Fin n) (e : Fin 512) : EReal :=
  let den := ∑ j, S.s i j + S.w i * ∑ x, S.q i x * S.N x
  Ideal.div (∑ j, S.s i j * S.v j e + S.w i * ∑ x, S.q i x * S.C x e) (max (max den (-den)) (Ideal.exp (0 - S.mt i)))

/-- Token `j`'s weight in the state after token `l`. -/
def wk (l j : Fin n) : EReal := Ideal.exp (S.b l - S.b j + S.ig j - S.mt l)

/-- The matrix state after token `l`. -/
def newC (l : Fin n) (x e : Fin 512) : EReal := S.w l * S.C x e + ∑ j, S.k j x * S.wk l j * S.v j e

/-- The vector state after token `l`. -/
def newN (l : Fin n) (x : Fin 512) : EReal := S.w l * S.N x + ∑ j, S.k j x * S.wk l j

end Step

/-- Row `j` of the 4 tokens among the 16 rows. -/
def up (j : Fin 4) : Fin 16 := ⟨j.val, by have := j.isLt; omega⟩

theorem up_le {i j : Fin 4} : up j ≤ up i ↔ j ≤ i := Iff.rfl

/-- A sum over the 16 rows whose filled rows vanish. -/
theorem sum_up (f : Fin 16 → EReal) (hf : ∀ j : Fin 16, 4 ≤ j.val → f j = 0) : ∑ j, f j = ∑ j, f (up j) := by
  have e := Fin.sum_univ_add (a := 4) (b := 12) f
  rw [e, Finset.sum_eq_zero (s := (Finset.univ : Finset (Fin 12))) (fun i _ => hf _ (by simp [Fin.natAdd])), add_zero]
  rfl

/-- A maximum over the 16 rows whose filled rows are minus infinity. -/
theorem max_up (f : Fin 16 → EReal) (hf : ∀ j : Fin 16, 4 ≤ j.val → f j = ⊥) :
    Finset.univ.fold max ⊥ f = Finset.univ.fold max ⊥ (fun j => f (up j)) := by
  show Finset.univ.sup f = Finset.univ.sup (fun j => f (up j))
  apply le_antisymm
  · refine Finset.sup_le fun j _ => ?_
    by_cases hj : 4 ≤ j.val
    · rw [hf j hj]; exact bot_le
    · exact Finset.le_sup (f := fun j => f (up j)) (Finset.mem_univ (⟨j.val, by omega⟩ : Fin 4))
  · exact Finset.sup_le fun j _ => Finset.le_sup (Finset.mem_univ (up j))

/-- The 16 rows `S` hold the 4 tokens `T` and filling. -/
structure Filled (S : Step 16) (T : Step 4) : Prop where
  q : ∀ i x, S.q (up i) x = T.q i x
  k : ∀ i x, S.k (up i) x = T.k i x
  v : ∀ i x, S.v (up i) x = T.v i x
  ig : ∀ i, S.ig (up i) = T.ig i
  lf : ∀ i, S.lf (up i) = T.lf i
  C : ∀ x e, S.C x e = T.C x e
  N : ∀ x, S.N x = T.N x
  m : S.m = T.m
  ig_rest : ∀ j : Fin 16, 4 ≤ j.val → S.ig j = ⊥
  lf_rest : ∀ j : Fin 16, 4 ≤ j.val → S.lf j = 0

theorem bot_sub (x : EReal) : (⊥ : EReal) - x = ⊥ := by rw [sub_eq_add_neg, EReal.bot_add]

namespace Filled

variable {S : Step 16} {T : Step 4} (H : Filled S T)
include H

theorem b (i : Fin 4) : S.b (up i) = T.b i := by
  unfold Step.b
  rw [sum_up _ (fun j hj => by rw [H.lf_rest j hj, ite_self])]
  exact Finset.sum_congr rfl fun j _ => by rw [H.lf]; rfl

/-- The last row's running sum is the last token's. -/
theorem b_last : S.b 15 = T.b 3 := by
  unfold Step.b
  rw [sum_up _ (fun j hj => by rw [H.lf_rest j hj, ite_self])]
  refine Finset.sum_congr rfl fun j _ => ?_
  rw [H.lf, if_pos (by have := j.isLt; show j.val ≤ 15; omega), if_pos (by have := j.isLt; show j.val ≤ 3; omega)]

/-- The sum of all the forget gates' logarithms is the running sum at the last token. -/
theorem total : ∑ j, S.lf j = S.b 15 := by
  unfold Step.b
  exact Finset.sum_congr rfl fun j _ => (if_pos (by have := j.isLt; show j.val ≤ 15; omega)).symm

theorem d_rest (i j : Fin 16) (hj : 4 ≤ j.val) : S.d i j = ⊥ := by
  unfold Step.d
  rw [H.ig_rest j hj, EReal.add_bot, ite_self]

theorem d (i j : Fin 4) : S.d (up i) (up j) = T.d i j := by
  unfold Step.d
  rw [H.b, H.b, H.ig]
  rfl

theorem d_last (j : Fin 4) : S.d 15 (up j) = T.d 3 j := by
  unfold Step.d
  rw [H.b_last, H.b, H.ig, if_pos (by have := j.isLt; show j.val ≤ 15; omega), if_pos (by have := j.isLt; show j.val ≤ 3; omega)]

theorem mt (i : Fin 4) : S.mt (up i) = T.mt i := by
  unfold Step.mt
  rw [max_up _ (H.d_rest (up i)), H.b, H.m]
  simp only [H.d]

theorem mt_last : S.mt 15 = T.mt 3 := by
  unfold Step.mt
  rw [max_up _ (H.d_rest 15), H.b_last, H.m]
  simp only [H.d_last]

theorem s_rest (i j : Fin 16) (hj : 4 ≤ j.val) : S.s i j = 0 := by
  unfold Step.s
  rw [H.d_rest i j hj, bot_sub, Ideal.exp_bot, mul_zero]

theorem s (i j : Fin 4) : S.s (up i) (up j) = T.s i j := by
  unfold Step.s
  simp only [H.d, H.mt, H.q, H.k]

theorem w (i : Fin 4) : S.w (up i) = T.w i := by
  unfold Step.w
  rw [H.b, H.m, H.mt]

theorem w_last : S.w 15 = T.w 3 := by
  unfold Step.w
  rw [H.b_last, H.m, H.mt_last]

theorem h (i : Fin 4) (e : Fin 512) : S.h (up i) e = T.h i e := by
  unfold Step.h
  rw [sum_up _ (H.s_rest (up i)), sum_up (fun j => S.s (up i) j * S.v j e) (fun j hj => by rw [H.s_rest _ j hj, zero_mul])]
  simp only [H.s, H.w, H.q, H.v, H.C, H.N, H.mt]

theorem wk_rest (j : Fin 16) (hj : 4 ≤ j.val) : S.wk 15 j = 0 := by
  unfold Step.wk
  rw [H.ig_rest j hj, EReal.add_bot, bot_sub, Ideal.exp_bot]

theorem wk (j : Fin 4) : S.wk 15 (up j) = T.wk 3 j := by
  unfold Step.wk
  rw [H.b_last, H.b, H.ig, H.mt_last]

theorem newC (x e : Fin 512) : S.newC 15 x e = T.newC 3 x e := by
  unfold Step.newC
  rw [sum_up _ (fun j hj => by rw [H.wk_rest j hj, mul_zero, zero_mul])]
  simp only [H.wk, H.w_last, H.k, H.v, H.C]

theorem newN (x : Fin 512) : S.newN 15 x = T.newN 3 x := by
  unfold Step.newN
  rw [sum_up _ (fun j hj => by rw [H.wk_rest j hj, mul_zero])]
  simp only [H.wk, H.w_last, H.k, H.N]

end Filled

/-- The mean and variance of 512 numbers, the normalized value, and the gate of the output. -/
def outv (f : Fin 512 → EReal) (mh z sk xc : EReal) (e : Fin 512) : EReal :=
  let mu := Ideal.div (∑ x, f x) (Ideal.ofBits .f32 0x44000000#32)
  ((f e - mu) * Ideal.rsqrt (Ideal.div (∑ x, (f x - mu) * (f x - mu)) (Ideal.ofBits .f32 0x44000000#32) + Ideal.ofBits .f32 0x358637BD#32) * mh
    + sk * xc) * (z * Ideal.div 1 (1 + Ideal.exp (0 - z)))

end Cert.Proof.Cell

end
-- ==== Proof.CellCum.lean ====
/-
  Two facts the cell's reference needs: the running sum over four tokens that a sliding window computes, and the logarithm
  of the logistic function as it is written there.
-/
module

public import proofs.«01_k».proof.Defs
public import proofs.«01_k».proof.Proof.Gen.CellRefIdeal
public import proofs.«01_k».proof.Proof.CellMath

@[expose] public section

set_option maxRecDepth 16384

noncomputable section

namespace Cert.Proof.Cell

open Idealize.ShloMosaic Cert.CellRefIdeal

/-- The window: four positions along the last axis. -/
abbrev W : Shape := ⟨3, ![1, 1, 4]⟩

theorem list_W : List.finRange W.numel = [⟨0, by decide⟩, ⟨1, by decide⟩, ⟨2, by decide⟩, ⟨3, by decide⟩] := by decide

theorem symm_W : ∀ n : Fin W.numel, (W.rowMajor.symm n 0).val = 0 ∧ (W.rowMajor.symm n 1).val = 0 ∧ (W.rowMajor.symm n 2).val = n.val := by decide

theorem lt_W : ∀ n : Fin W.numel, n.val < 4 := by decide

/-- A window of four along the last axis, three places of padding before it, gives the running sum. -/
theorem cumsum (x : Vec Ideal S128x4x4 .f32) (init : Vec Ideal S_ .f32) (hi : ∀ i, init i = (0 : EReal)) (hw hu) (s : Fin 128) (h t : Fin 4) :
    Host.reduceWindowAdd (F := Ideal) (φ := .f32) ![1, 1, 4] ![1, 1, 1] ![0, 0, 3] ![0, 0, 0] x init hw hu (ix3 s h t)
      = ∑ j : Fin 4, if j ≤ t then (x (ix3 s h j) : EReal) else 0 := by
  have hg : ∀ n : Fin W.numel,
      (if hin : ∀ a : Fin 3, (![0, 0, 3] : Fin 3 → Nat) a ≤ ((ix3 s h t : S128x4x4.Idx) (a.cast hw.1.symm)).val * (![1, 1, 1] : Fin 3 → Nat) a + (W.rowMajor.symm n a).val
          ∧ ((ix3 s h t : S128x4x4.Idx) (a.cast hw.1.symm)).val * (![1, 1, 1] : Fin 3 → Nat) a + (W.rowMajor.symm n a).val - (![0, 0, 3] : Fin 3 → Nat) a < S128x4x4.size a
        then (x (fun a => ⟨((ix3 s h t : S128x4x4.Idx) (a.cast hw.1.symm)).val * (![1, 1, 1] : Fin 3 → Nat) a + (W.rowMajor.symm n a).val - (![0, 0, 3] : Fin 3 → Nat) a, (hin a).2⟩) : EReal)
        else 0)
      = if 3 ≤ t.val + n.val then (x (ix3 s h ⟨(t.val + n.val - 3) % 4, Nat.mod_lt _ (by decide)⟩) : EReal) else 0 := fun n => by
    obtain ⟨e0, e1, e2⟩ := symm_W n
    have hn := lt_W n
    have ht := t.isLt
    have hs := s.isLt
    have hh := h.isLt
    by_cases hc : 3 ≤ t.val + n.val
    · rw [if_pos hc, dif_pos]
      · congr 1
        funext a; apply Fin.ext
        match a with
        | ⟨0, _⟩ => show s.val * 1 + (W.rowMajor.symm n 0).val - 0 = s.val; omega
        | ⟨1, _⟩ => show h.val * 1 + (W.rowMajor.symm n 1).val - 0 = h.val; omega
        | ⟨2, _⟩ => show t.val * 1 + (W.rowMajor.symm n 2).val - 3 = (t.val + n.val - 3) % 4; omega
      · intro a
        match a with
        | ⟨0, _⟩ => show 0 ≤ s.val * 1 + (W.rowMajor.symm n 0).val ∧ s.val * 1 + (W.rowMajor.symm n 0).val - 0 < 128; omega
        | ⟨1, _⟩ => show 0 ≤ h.val * 1 + (W.rowMajor.symm n 1).val ∧ h.val * 1 + (W.rowMajor.symm n 1).val - 0 < 4; omega
        | ⟨2, _⟩ => show 3 ≤ t.val * 1 + (W.rowMajor.symm n 2).val ∧ t.val * 1 + (W.rowMajor.symm n 2).val - 3 < 4; omega
    · rw [if_neg hc, dif_neg]
      intro hin
      have h2 : 3 ≤ t.val * 1 + (W.rowMajor.symm n 2).val ∧ t.val * 1 + (W.rowMajor.symm n 2).val - 3 < 4 := hin 2
      omega
  unfold Host.reduceWindowAdd
  rw [Ideal.hostReduceWindowAdd_def, hi]
  unfold Ideal.hostReduceWindowAdd Host.reduceWindow
  show List.foldl (fun (r : EReal) (n : Fin W.numel) => r + _) 0 (List.finRange W.numel) = _
  simp only [hg]
  rw [list_W]
  simp only [List.foldl]
  fin_cases t <;> simp [Fin.sum_univ_four] <;> rfl

/-- The logarithm of one plus an exponential is not minus infinity. -/
theorem log_ne (y : EReal) : Ideal.log (1 + Ideal.exp y) ≠ ⊥ := by
  induction y using EReal.rec with
  | bot => rw [Ideal.exp_bot, add_zero, ← EReal.coe_one, Ideal.log_coe, if_neg (by norm_num)]; exact EReal.coe_ne_bot _
  | top => rw [Ideal.exp_top, EReal.add_top_of_ne_bot (by rw [← EReal.coe_one]; exact EReal.coe_ne_bot 1), Ideal.log_top]; exact top_ne_bot
  | coe r =>
    have h := Real.exp_pos r
    rw [Ideal.exp_coe, ← EReal.coe_one, ← EReal.coe_add, Ideal.log_coe, if_neg (by linarith)]
    exact EReal.coe_ne_bot _

/-- The logarithm of the logistic function, as the reference writes it: minus the softplus of minus the number. -/
theorem logsig_eq (x : EReal) : -(max (-x) 0 + Ideal.log1p (Ideal.exp (-max (-x) (- -x)))) = logsig x := by
  have hm : max (-x) 0 ≠ ⊥ := ne_of_gt (lt_of_lt_of_le (by decide : (⊥ : EReal) < 0) (le_max_right _ _))
  have hl : Ideal.log1p (Ideal.exp (-max (-x) (- -x))) ≠ ⊥ := log_ne _
  rw [EReal.neg_add (Or.inl hm) (Or.inr hl), neg_neg, max_comm (-x) x]
  unfold logsig Ideal.log1p
  rw [zero_sub]
  congr 1
  rcases le_total x 0 with h | h
  · rw [max_eq_left (EReal.le_neg_of_le_neg (by simpa using h)), neg_neg, min_eq_left h]
  · rw [max_eq_right (by simpa using EReal.neg_le_neg_iff.mpr h), min_eq_right h, neg_zero]

end Cert.Proof.Cell

end
-- ==== Proof.CellPMath.lean ====
/-
  The recurrence over a whole sequence of real numbers, and what a chunk of it computes: if the state before a chunk is
  what the tokens before it sum up to, then the chunk's hidden values are those of the whole sequence, and so is the state
  after it.  A chunk of the kernel and the reference's one chunk of all tokens are both cases of this.
-/
module

public import Idealize.ShloMosaic.Lib.WordCmp
public import proofs.«01_k».proof.Proof.CellMath

@[expose] public section

noncomputable section

namespace Cert.Proof.CellP

open Idealize.ShloMosaic Cert.Proof.Cell

/-- A choice by a comparison of two places is a choice by their order. -/
theorem sel_ge {n : Nat} (hn : n ≤ 2048) (a b : Fin n) (x y : EReal) :
    Scalar.select (IntOp.cmpi .sge (BitVec.ofNat 32 a.val) (BitVec.ofNat 32 b.val)) x y = if b ≤ a then x else y := by
  rw [WordCmp.cmpi_sge_ofNat (by have := a.isLt; show a.val < 2147483648; omega) (by have := b.isLt; show b.val < 2147483648; omega)]
  by_cases h : b ≤ a
  · rw [if_pos h, decide_eq_true (show b.val ≤ a.val from h)]; rfl
  · rw [if_neg h, decide_eq_false (show ¬ b.val ≤ a.val from h)]; rfl

theorem sel_le {n : Nat} (hn : n ≤ 2048) (a b : Fin n) (x y : EReal) :
    Scalar.select (IntOp.cmpi .sle (BitVec.ofNat 32 a.val) (BitVec.ofNat 32 b.val)) x y = if a ≤ b then x else y := by
  rw [WordCmp.cmpi_sle_ofNat (by have := a.isLt; show a.val < 2147483648; omega) (by have := b.isLt; show b.val < 2147483648; omega)]
  by_cases h : a ≤ b
  · rw [if_pos h, decide_eq_true (show a.val ≤ b.val from h)]; rfl
  · rw [if_neg h, decide_eq_false (show ¬ a.val ≤ b.val from h)]; rfl

/-- A sequence of tokens of one head, all numbers real. -/
structure Seq where
  q : ℕ → Fin 512 → ℝ
  k : ℕ → Fin 512 → ℝ
  v : ℕ → Fin 512 → ℝ
  ig : ℕ → ℝ
  lf : ℕ → ℝ

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A sum over the places up to `i`. -/
theorem sum_le {n : ℕ} (i : Fin n) (f : ℕ → ℝ) : (∑ j : Fin n, if j ≤ i then f j else 0) = ∑ j ∈ Finset.range (i + 1), f j := by
  have e : (∑ j : Fin n, if j ≤ i then f j else 0) = ∑ j ∈ Finset.range n, if j ≤ i.val then f j else 0 :=
    Fin.sum_univ_eq_sum_range (fun j => if j ≤ i.val then f j else 0) n
  rw [e, ← Finset.sum_filter]
  refine Finset.sum_congr ?_ fun _ _ => rfl
  ext j
  have := i.isLt
  simp only [Finset.mem_filter, Finset.mem_range]
  omega

namespace Seq

variable (R : Seq)

/-- The sum of the forget gates' logarithms of the first `t` tokens. -/
def P (t : ℕ) : ℝ := ∑ j ∈ Finset.range t, R.lf j

/-- The logarithm of token `j`'s weight at token `t`. -/
def D (t j : ℕ) : ℝ := R.P (t + 1) - R.P (j + 1) + R.ig j

/-- The largest of them. -/
def M (t : ℕ) : ℝ := (Finset.range (t + 1)).sup' ⟨0, Finset.mem_range.2 (Nat.succ_pos t)⟩ (R.D t)

/-- Token `j`'s weight at token `t`, relative to the largest. -/
def E (t j : ℕ) : ℝ := Real.exp (R.D t j - R.M t)

/-- The score of token `j` at token `t`. -/
def qk (t j : ℕ) : ℝ := ∑ x, R.q t x * R.k j x

/-- The states after the first `o` tokens. -/
def C (o : ℕ) (x e : Fin 512) : ℝ := ∑ j ∈ Finset.range o, R.E (o - 1) j * (R.k j x * R.v j e)
def N (o : ℕ) (x : Fin 512) : ℝ := ∑ j ∈ Finset.range o, R.E (o - 1) j * R.k j x

/-- The hidden value at token `t`. -/
def h (t : ℕ) (e : Fin 512) : EReal :=
  let den : EReal := ((∑ j ∈ Finset.range (t + 1), R.E t j * R.qk t j : ℝ) : EReal)
  Ideal.div ((∑ j ∈ Finset.range (t + 1), R.E t j * (R.qk t j * R.v j e) : ℝ) : EReal) (max (max den (-den)) (Ideal.exp (0 - (R.M t : EReal))))

/-- The weight at the chunk's token `i` of the state before the chunk that starts at token `o`. -/
def wr (o i : ℕ) : ℝ := if o = 0 then 0 else Real.exp (R.P (o + i + 1) - R.P o + R.M (o - 1) - R.M (o + i))

theorem le_M {t j : ℕ} (hj : j < t + 1) : R.D t j ≤ R.M t := Finset.le_sup' (R.D t) (Finset.mem_range.2 hj)

theorem exists_M (t : ℕ) : ∃ j, j < t + 1 ∧ R.M t = R.D t j := by
  obtain ⟨j, hj, e⟩ := Finset.exists_mem_eq_sup' (⟨0, Finset.mem_range.2 (Nat.succ_pos t)⟩ : (Finset.range (t + 1)).Nonempty) (R.D t)
  exact ⟨j, Finset.mem_range.1 hj, e⟩

theorem P_add (o i : ℕ) : R.P (o + i + 1) = R.P o + ∑ j ∈ Finset.range (i + 1), R.lf (o + j) := by
  unfold P
  rw [add_assoc o i 1]
  exact Finset.sum_range_add R.lf o (i + 1)

/-- A weight at a token of the chunk is the chunk's decay times the weight at the last token before it. -/
theorem D_split (o i j : ℕ) (ho : o ≠ 0) : R.D (o + i) j = R.P (o + i + 1) - R.P o + R.D (o - 1) j := by
  unfold D
  rw [Nat.sub_add_cancel (Nat.one_le_iff_ne_zero.2 ho)]
  ring

/-- The weighted sum over the tokens before the chunk, decayed, and that over the chunk's tokens add up. -/
theorem fold (o i : ℕ) (f : ℕ → ℝ) :
    R.wr o i * ∑ j ∈ Finset.range o, R.E (o - 1) j * f j + ∑ j ∈ Finset.range (i + 1), R.E (o + i) (o + j) * f (o + j)
      = ∑ j ∈ Finset.range (o + i + 1), R.E (o + i) j * f j := by
  have e : ∀ j ∈ Finset.range o, R.wr o i * (R.E (o - 1) j * f j) = R.E (o + i) j * f j := fun j hj => by
    have ho : o ≠ 0 := by have := Finset.mem_range.1 hj; omega
    rw [← mul_assoc]
    congr 1
    unfold wr E
    rw [if_neg ho, ← Real.exp_add, R.D_split o i j ho]
    congr 1
    ring
  rw [Finset.mul_sum, Finset.sum_congr rfl e, add_assoc o i 1]
  exact (Finset.sum_range_add (fun j => R.E (o + i) j * f j) o (i + 1)).symm

/-- A chunk of the sequence that starts at token `o`, with the state the tokens before it sum up to. -/
structure At {n : ℕ} (S : Step n) (o : ℕ) : Prop where
  q : ∀ i x, S.q i x = (R.q (o + i.val) x : EReal)
  k : ∀ i x, S.k i x = (R.k (o + i.val) x : EReal)
  v : ∀ i x, S.v i x = (R.v (o + i.val) x : EReal)
  ig : ∀ i, S.ig i = (R.ig (o + i.val) : EReal)
  lf : ∀ i, S.lf i = (R.lf (o + i.val) : EReal)
  C : ∀ x e, S.C x e = (R.C o x e : EReal)
  N : ∀ x, S.N x = (R.N o x : EReal)
  m : S.m = if o = 0 then ⊥ else (R.M (o - 1) : EReal)

namespace At

variable {R} {n : ℕ} {S : Step n} {o : ℕ} (H : R.At S o)
include H

theorem b (i : Fin n) : S.b i = ((R.P (o + i.val + 1) - R.P o : ℝ) : EReal) := by
  unfold Step.b
  rw [R.P_add, add_sub_cancel_left, ← sum_le i (fun j => R.lf (o + j)), coe_sum]
  refine Finset.sum_congr rfl fun j _ => ?_
  rw [H.lf]
  split <;> rfl

theorem d (i j : Fin n) (hj : j ≤ i) : S.d i j = (R.D (o + i.val) (o + j.val) : EReal) := by
  unfold Step.d
  rw [if_pos hj, H.b, H.b, H.ig, ← EReal.coe_sub, ← EReal.coe_add]
  unfold D
  congr 1
  ring

theorem d_bot (i j : Fin n) (hj : ¬ j ≤ i) : S.d i j = ⊥ := if_neg hj

theorem mt (i : Fin n) : S.mt i = (R.M (o + i.val) : EReal) := by
  unfold Step.mt
  show max (S.b i + S.m) (Finset.univ.sup (fun j => S.d i j)) = _
  apply le_antisymm
  · refine max_le ?_ (Finset.sup_le fun j _ => ?_)
    · rw [H.m]
      split
      · rw [EReal.add_bot]; exact bot_le
      · rename_i ho
        obtain ⟨j, hj, e⟩ := R.exists_M (o - 1)
        rw [H.b, ← EReal.coe_add, EReal.coe_le_coe_iff, e, ← R.D_split o i.val j ho]
        exact R.le_M (by omega)
    · by_cases hj : j ≤ i
      · have hj' : j.val ≤ i.val := hj
        rw [H.d i j hj, EReal.coe_le_coe_iff]
        exact R.le_M (by omega)
      · rw [H.d_bot i j hj]; exact bot_le
  · obtain ⟨j, hj, e⟩ := R.exists_M (o + i.val)
    rw [e]
    by_cases hjo : j < o
    · refine le_trans ?_ (le_max_left _ _)
      have ho : o ≠ 0 := by omega
      rw [H.m, if_neg ho, H.b, ← EReal.coe_add, EReal.coe_le_coe_iff, R.D_split o i.val j ho]
      have := R.le_M (t := o - 1) (j := j) (by omega)
      linarith
    · refine le_trans ?_ (le_max_right _ _)
      have hi := i.isLt
      obtain ⟨u, hu⟩ : ∃ u : Fin n, u.val = j - o := ⟨⟨j - o, by omega⟩, rfl⟩
      have e2 := H.d i u (show u.val ≤ i.val by omega)
      rw [hu, Nat.add_sub_cancel' (by omega : o ≤ j)] at e2
      rw [← e2]
      exact Finset.le_sup (f := fun j => S.d i j) (Finset.mem_univ u)

theorem w (i : Fin n) : S.w i = (R.wr o i.val : EReal) := by
  unfold Step.w wr
  rw [H.m, H.b, H.mt]
  split
  · rw [EReal.add_bot, bot_sub, Ideal.exp_bot]; rfl
  · rw [← EReal.coe_add, ← EReal.coe_sub, Ideal.exp_coe]

theorem s (i j : Fin n) : S.s i j = ((if j ≤ i then R.E (o + i.val) (o + j.val) * R.qk (o + i.val) (o + j.val) else 0 : ℝ) : EReal) := by
  unfold Step.s
  by_cases hj : j ≤ i
  · rw [if_pos hj, H.d i j hj, H.mt, ← EReal.coe_sub, Ideal.exp_coe]
    simp only [H.q, H.k, ← EReal.coe_mul]
    rw [← coe_sum, ← EReal.coe_mul, mul_comm]
    rfl
  · rw [if_neg hj, H.d_bot i j hj, bot_sub, Ideal.exp_bot, mul_zero]; rfl

theorem wk (i j : Fin n) : S.wk i j = (R.E (o + i.val) (o + j.val) : EReal) := by
  unfold Step.wk
  rw [H.b, H.b, H.ig, H.mt, ← EReal.coe_sub, ← EReal.coe_add, ← EReal.coe_sub, Ideal.exp_coe]
  unfold E D
  congr 2
  ring

theorem den (i : Fin n) : ∑ j, S.s i j + S.w i * ∑ x, S.q i x * S.N x
    = ((∑ j ∈ Finset.range (o + i.val + 1), R.E (o + i.val) j * R.qk (o + i.val) j : ℝ) : EReal) := by
  simp only [H.s, H.w, H.q, H.N, ← EReal.coe_mul]
  rw [← coe_sum, ← coe_sum, ← EReal.coe_mul, ← EReal.coe_add, sum_le i (fun j => R.E (o + i.val) (o + j) * R.qk (o + i.val) (o + j)),
    ← R.fold o i.val (R.qk (o + i.val)), add_comm]
  congr 3
  unfold Seq.N qk
  simp only [Finset.mul_sum]
  rw [Finset.sum_comm]
  exact Finset.sum_congr rfl fun j _ => Finset.sum_congr rfl fun x _ => by ring

theorem num (i : Fin n) (e : Fin 512) : ∑ j, S.s i j * S.v j e + S.w i * ∑ x, S.q i x * S.C x e
    = ((∑ j ∈ Finset.range (o + i.val + 1), R.E (o + i.val) j * (R.qk (o + i.val) j * R.v j e) : ℝ) : EReal) := by
  simp only [H.s, H.w, H.q, H.C, H.v, ← EReal.coe_mul, ite_mul, zero_mul]
  rw [← coe_sum, ← coe_sum, ← EReal.coe_mul, ← EReal.coe_add,
    sum_le i (fun j => R.E (o + i.val) (o + j) * R.qk (o + i.val) (o + j) * R.v (o + j) e),
    ← R.fold o i.val (fun j => R.qk (o + i.val) j * R.v j e), add_comm]
  simp only [mul_assoc]
  congr 3
  unfold Seq.C qk
  simp only [Finset.mul_sum, Finset.sum_mul]
  rw [Finset.sum_comm]
  exact Finset.sum_congr rfl fun j _ => Finset.sum_congr rfl fun x _ => by ring

/-- The chunk's hidden values are those of the whole sequence. -/
theorem h (i : Fin n) (e : Fin 512) : S.h i e = R.h (o + i.val) e := by
  unfold Step.h Seq.h
  rw [H.den, H.num, H.mt]

/-- The matrix state after the chunk's last token is that of the tokens up to it. -/
theorem newC (l : Fin n) (hl : ∀ j, j ≤ l) (x e : Fin 512) : S.newC l x e = (R.C (o + l.val + 1) x e : EReal) := by
  unfold Step.newC
  simp only [H.w, H.C, H.k, H.wk, H.v, ← EReal.coe_mul]
  rw [← coe_sum, ← EReal.coe_add]
  congr 1
  refine Eq.trans ?_ (R.fold o l.val (fun j => R.k j x * R.v j e))
  congr 1
  rw [← sum_le l (fun j => R.E (o + l.val) (o + j) * (R.k (o + j) x * R.v (o + j) e))]
  exact Finset.sum_congr rfl fun j _ => by rw [if_pos (hl j)]; ring

/-- So is the vector state. -/
theorem newN (l : Fin n) (hl : ∀ j, j ≤ l) (x : Fin 512) : S.newN l x = (R.N (o + l.val + 1) x : EReal) := by
  unfold Step.newN
  simp only [H.w, H.N, H.k, H.wk, ← EReal.coe_mul]
  rw [← coe_sum, ← EReal.coe_add]
  congr 1
  refine Eq.trans ?_ (R.fold o l.val (fun j => R.k j x))
  congr 1
  rw [← sum_le l (fun j => R.E (o + l.val) (o + j) * R.k (o + j) x)]
  exact Finset.sum_congr rfl fun j _ => by rw [if_pos (hl j)]; ring

end At

end Seq

/-- The forget gate's logarithm of a real number is real. -/
theorem logsig_real (x : ℝ) : logsig (x : EReal) = ((logsig (x : EReal)).toReal : EReal) := by
  have h : ∃ y : ℝ, logsig (x : EReal) = (y : EReal) := by
    refine ⟨min x 0 - Real.log (1 + Real.exp (0 - max x (-x))), ?_⟩
    have hp := Real.exp_pos (0 - max x (-x))
    unfold logsig
    have e1 : max (x : EReal) (-(x : EReal)) = ((max x (-x) : ℝ) : EReal) := by
      rw [← EReal.coe_neg]; rcases le_total x (-x) with h | h
      · rw [max_eq_right h, max_eq_right (EReal.coe_le_coe_iff.2 h)]
      · rw [max_eq_left h, max_eq_left (EReal.coe_le_coe_iff.2 h)]
    rw [e1, ← EReal.coe_zero, ← EReal.coe_one, ← EReal.coe_sub, Ideal.exp_coe, ← EReal.coe_add, Ideal.log_coe, if_neg (by linarith),
      EReal.coe_sub]
    congr 1
  obtain ⟨y, e⟩ := h
  rw [e, EReal.toReal_coe]

end Cert.Proof.CellP

end
-- ==== Proof.CellPCum.lean ====
/-
  The running sum over a whole sequence that the reference's sliding window computes.
-/
module

public import proofs.«01_k».proof.Defs
public import proofs.«01_k».proof.Proof.Gen.CellPRefIdeal
public import proofs.«01_k».proof.Proof.CellPMath

@[expose] public section

set_option maxRecDepth 16384

noncomputable section

namespace Cert.Proof.CellP

open Idealize.ShloMosaic Cert.CellPRefIdeal

/-- The window: 2048 positions along the last axis. -/
abbrev W : Shape := ⟨3, ![1, 1, 2048]⟩

theorem symm_W (n : Fin W.numel) : (W.rowMajor.symm n 0).val = 0 ∧ (W.rowMajor.symm n 1).val = 0 ∧ (W.rowMajor.symm n 2).val = n.val := by
  have h0 : (W.rowMajor.symm n 0).val < 1 := (W.rowMajor.symm n 0).isLt
  have h1 : (W.rowMajor.symm n 1).val < 1 := (W.rowMajor.symm n 1).isLt
  have e := Shape.rowMajor_val_three (W.rowMajor.symm n)
  rw [Equiv.apply_symm_apply] at e
  have e2 : n.val = (W.rowMajor.symm n 0).val * (1 * 2048) + (W.rowMajor.symm n 1).val * 2048 + (W.rowMajor.symm n 2).val := by
    rw [e]; show _ = _; simp [Matrix.cons_val_one]; try ring
  omega

theorem numel_W : W.numel = 2048 := by decide

theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The places a window that ends at place `t` covers are the places up to `t`. -/
theorem shift_sum (t : ℕ) (ht : t < 2048) (X : ℕ → EReal) :
    (∑ n ∈ Finset.range 2048, if 2047 ≤ t + n then X (t + n - 2047) else 0) = ∑ j ∈ Finset.range 2048, if j ≤ t then X j else 0 := by
  rw [← Finset.sum_filter, ← Finset.sum_filter]
  refine Finset.sum_bij' (fun n _ => t + n - 2047) (fun j _ => j + 2047 - t) ?_ ?_ ?_ ?_ ?_
  all_goals intro a ha; simp only [Finset.mem_filter, Finset.mem_range] at ha ⊢
  all_goals first | omega | rfl

/-- A window of 2048 along the last axis, 2047 places of padding before it, gives the running sum. -/
theorem cumsum (x : Vec Ideal S8x4x2048 .f32) (init : Vec Ideal S_ .f32) (hi : ∀ i, init i = (0 : EReal)) (hw hu) (s : Fin 8) (h : Fin 4) (t : Fin 2048) :
    Host.reduceWindowAdd (F := Ideal) (φ := .f32) ![1, 1, 2048] ![1, 1, 1] ![0, 0, 2047] ![0, 0, 0] x init hw hu (ix3 s h t)
      = ∑ j : Fin 2048, if j ≤ t then (x (ix3 s h j) : EReal) else 0 := by
  have hg : ∀ n : Fin W.numel,
      (if hin : ∀ a : Fin 3, (![0, 0, 2047] : Fin 3 → Nat) a ≤ ((ix3 s h t : S8x4x2048.Idx) (a.cast hw.1.symm)).val * (![1, 1, 1] : Fin 3 → Nat) a + (W.rowMajor.symm n a).val
          ∧ ((ix3 s h t : S8x4x2048.Idx) (a.cast hw.1.symm)).val * (![1, 1, 1] : Fin 3 → Nat) a + (W.rowMajor.symm n a).val - (![0, 0, 2047] : Fin 3 → Nat) a < S8x4x2048.size a
        then (x (fun a => ⟨((ix3 s h t : S8x4x2048.Idx) (a.cast hw.1.symm)).val * (![1, 1, 1] : Fin 3 → Nat) a + (W.rowMajor.symm n a).val - (![0, 0, 2047] : Fin 3 → Nat) a, (hin a).2⟩) : EReal)
        else 0)
      = if 2047 ≤ t.val + n.val then (x (ix3 s h ⟨(t.val + n.val - 2047) % 2048, Nat.mod_lt _ (by decide)⟩) : EReal) else 0 := fun n => by
    obtain ⟨e0, e1, e2⟩ := symm_W n
    have hn : n.val < 2048 := lt_of_lt_of_eq n.isLt numel_W
    have ht := t.isLt
    have hs := s.isLt
    have hh := h.isLt
    by_cases hc : 2047 ≤ t.val + n.val
    · rw [if_pos hc, dif_pos]
      · congr 1
        funext a; apply Fin.ext
        match a with
        | ⟨0, _⟩ => show s.val * 1 + (W.rowMajor.symm n 0).val - 0 = s.val; omega
        | ⟨1, _⟩ => show h.val * 1 + (W.rowMajor.symm n 1).val - 0 = h.val; omega
        | ⟨2, _⟩ => show t.val * 1 + (W.rowMajor.symm n 2).val - 2047 = (t.val + n.val - 2047) % 2048; omega
      · intro a
        match a with
        | ⟨0, _⟩ => show 0 ≤ s.val * 1 + (W.rowMajor.symm n 0).val ∧ s.val * 1 + (W.rowMajor.symm n 0).val - 0 < 8; omega
        | ⟨1, _⟩ => show 0 ≤ h.val * 1 + (W.rowMajor.symm n 1).val ∧ h.val * 1 + (W.rowMajor.symm n 1).val - 0 < 4; omega
        | ⟨2, _⟩ => show 2047 ≤ t.val * 1 + (W.rowMajor.symm n 2).val ∧ t.val * 1 + (W.rowMajor.symm n 2).val - 2047 < 2048; omega
    · rw [if_neg hc, dif_neg]
      intro hin
      have h2 : 2047 ≤ t.val * 1 + (W.rowMajor.symm n 2).val ∧ t.val * 1 + (W.rowMajor.symm n 2).val - 2047 < 2048 := hin 2
      omega
  unfold Host.reduceWindowAdd
  rw [Ideal.hostReduceWindowAdd_def, hi]
  unfold Ideal.hostReduceWindowAdd Host.reduceWindow
  show List.foldl (fun (r : EReal) (n : Fin W.numel) => r + _) 0 (List.finRange W.numel) = _
  simp only [hg]
  rw [foldl_add, zero_add, ← Fin.sum_univ_def]
  have e1 := Fin.sum_univ_eq_sum_range (fun n => if 2047 ≤ t.val + n then (x (ix3 s h ⟨(t.val + n - 2047) % 2048, Nat.mod_lt _ (by decide)⟩) : EReal) else 0) W.numel
  have e2 := Fin.sum_univ_eq_sum_range (fun j => if j ≤ t.val then (x (ix3 s h ⟨j % 2048, Nat.mod_lt _ (by decide)⟩) : EReal) else 0) 2048
  rw [e1, numel_W, shift_sum t.val t.isLt (fun j => (x (ix3 s h ⟨j % 2048, Nat.mod_lt _ (by decide)⟩) : EReal)), ← e2]
  refine Finset.sum_congr rfl fun j _ => ?_
  have hj : (⟨j.val % 2048, Nat.mod_lt _ (by decide)⟩ : Fin 2048) = j := Fin.ext (Nat.mod_eq_of_lt j.isLt)
  rw [hj]
  rfl

end Cert.Proof.CellP

end
-- ==== Proof.CellPTok.lean ====
/-
  The prompt cell's reference at an index: for each sequence and each head it is one `Step` over all 2048 tokens from the
  empty state, then the normalized and gated output.
-/
module

public import proofs.«01_k».proof.Defs
public import proofs.«01_k».proof.Proof.Gen.CellPRefIdeal.Read
public import proofs.«01_k».proof.Proof.CellCum
public import proofs.«01_k».proof.Proof.CellPCum

@[expose] public section

set_option maxRecDepth 16384

noncomputable section

namespace Cert.Proof.CellP

open Idealize.ShloMosaic Cert.Proof.Cell Cert.CellPRefIdeal Cert.CellPRefIdeal.Read

/-- The row of token `t` of sequence `s`. -/
def tok (s : Fin 8) (t : Fin 2048) : Fin 16384 := ⟨s.val * 2048 + t.val, by have := s.isLt; have := t.isLt; omega⟩

/-- The column of coordinate `x` of head `h`. -/
def col (h : Fin 4) (x : Fin 512) : Fin 2048 := ⟨h.val * 512 + x.val, by have := h.isLt; have := x.isLt; omega⟩

/-- The column of head `h`'s input gate. -/
def gi (h : Fin 4) : Fin 128 := ⟨h.val, by have := h.isLt; omega⟩

/-- The column of head `h`'s forget gate. -/
def gf (h : Fin 4) : Fin 128 := ⟨4 + h.val, by have := h.isLt; omega⟩

/-- The column of the output gate that belongs to column `y`. -/
def zc (y : Fin 2048) : Fin 4096 := ⟨2048 + y.val, by have := y.isLt; omega⟩

theorem ref_neg_inf : Ideal.ofBits .f32 0xFF800000#32 = (⊥ : EReal) := by simp [Ideal.ofBits, Ideal.ieee]

section Stages
variable (x0 x1 x2 x3 : Vec Ideal S16384x2048 .bf16) (x4 : Vec Ideal S16384x4096 .f32) (x5 : Vec Ideal S16384x128 .f32) (x6 x7 : Vec Ideal S2048 .f32)
  (s : Fin 8) (h : Fin 4)

/-- The tokens of sequence `s` at head `h`, from the empty state. -/
def toks : Step 2048 where
  q t x := x0 (ix2 (tok s t) (col h x))
  k t x := x1 (ix2 (tok s t) (col h x))
  v t x := x2 (ix2 (tok s t) (col h x))
  ig t := x5 (ix2 (tok s t) (gi h))
  lf t := logsig (x5 (ix2 (tok s t) (gf h)))
  C _ _ := 0
  N _ := 0
  m := ⊥

local notation "T" => toks x0 x1 x2 x5 s h

theorem ref_ig (t : Fin 2048) : val_main_v2 (F := Ideal) x5 (ix3 s h t) = (T).ig t := by
  pointwise [val_main_v2, val_main_v1, val_main_v0]
  rfl

theorem ref_lf (t : Fin 2048) : val_main_v5 (F := Ideal) x5 (ix3 s h t) = (T).lf t := by
  pointwise [val_main_v5, val_main_v4, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v3, val_main_v0]
  rw [if_neg (fun hne => hne rfl)]
  exact logsig_eq _

theorem ref_q (t : Fin 2048) (x : Fin 512) : val_main_v12 (F := Ideal) x0 (ix4 s h t x) = (T).q t x := by
  pointwise [val_main_v12, val_main_v11, val_main_v10, val_main_v9]
  rfl

theorem ref_k (t : Fin 2048) (x : Fin 512) : val_main_v16 (F := Ideal) x1 (ix4 s h t x) = (T).k t x := by
  pointwise [val_main_v16, val_main_v15, val_main_v14, val_main_v13]
  rfl

theorem ref_v (t : Fin 2048) (x : Fin 512) : val_main_v20 (F := Ideal) x2 (ix4 s h t x) = (T).v t x := by
  pointwise [val_main_v20, val_main_v19, val_main_v18, val_main_v17]
  rfl

theorem ref_C (x e : Fin 512) : val_main_v6 (F := Ideal) (ix4 s h x e) = (T).C x e := by
  pointwise [val_main_v6, val_main_cst]
  rfl

theorem ref_N (x : Fin 512) : val_main_v7 (F := Ideal) (ix3 s h x) = (T).N x := by
  pointwise [val_main_v7, val_main_cst_0]
  rfl

theorem ref_m0 : val_main_v8 (F := Ideal) (ix2 s h) = (T).m := by
  pointwise [val_main_v8, val_main_cst_1]
  exact ref_neg_inf

end Stages

end Cert.Proof.CellP

end
-- ==== Proof.CellPRefB.lean ====
/-
  The prompt cell's reference at an index: for each sequence and each head it is one `Step` over all 2048 tokens from the
  empty state, then the normalized and gated output.
-/
module

public import proofs.«01_k».proof.Defs
public import proofs.«01_k».proof.Proof.Gen.CellPRefIdeal.Read
public import proofs.«01_k».proof.Proof.CellPTok

@[expose] public section

set_option maxRecDepth 16384

noncomputable section

namespace Cert.Proof.CellP

open Idealize.ShloMosaic Cert.Proof.Cell Cert.CellPRefIdeal Cert.CellPRefIdeal.Read

section Stages
variable (x0 x1 x2 x3 : Vec Ideal S16384x2048 .bf16) (x4 : Vec Ideal S16384x4096 .f32) (x5 : Vec Ideal S16384x128 .f32) (x6 x7 : Vec Ideal S2048 .f32)
  (s : Fin 8) (h : Fin 4)

local notation "T" => toks x0 x1 x2 x5 s h

theorem ref_b (t : Fin 2048) : val_main_v21 (F := Ideal) x5 (ix3 s h t) = (T).b t := by
  unfold val_main_v21
  rw [cumsum _ _ (fun i => by pointwise [val_main_call1_call0_v0, val_main_call1_call0_cst])]
  exact Finset.sum_congr rfl fun j _ => by rw [ref_lf x0 x1 x2 x5]

end Stages

end Cert.Proof.CellP

end
-- ==== Proof.CellPMax.lean ====
/-
  The maximum over the last axis of a rank-4 array, at an index.
-/
module

public import proofs.«01_k».proof.Defs
public import Idealize.ShloMosaic.PureOps.Ideal.Laws
public import Idealize.ShloMosaic.Lib.ValueIdxCore

@[expose] public section

set_option maxRecDepth 16384

noncomputable section

namespace Cert.Proof.CellP

open Idealize.ShloMosaic Idealize.ShloMosaic.ValueIdx

/-- A host maximum over the last of four axes is the fold of `max` over that axis's coordinates, from the initial value. -/
theorem max_last {a b c n : Nat} (x : FVec Ideal ⟨4, ![a, b, c, n]⟩ .f32) (z : FVec Ideal ⟨0, ![]⟩ .f32)
    (h' : Shape.ReducesTo ⟨4, ![a, b, c, n]⟩ [3] ⟨3, ![a, b, c]⟩) (h : Shape.Reduces ⟨4, ![a, b, c, n]⟩ [3] ⟨3, ![a, b, c]⟩)
    (hu : 0 < (⟨0, ![]⟩ : Shape).numel) (i : Fin a) (j : Fin b) (k : Fin c) :
    Host.reduce FloatOps.maximumf x z h' hu (ix3 i j k)
      = (Finset.univ : Finset (Fin n)).fold max (z (Shape.Idx.first hu)) fun u => x (ix4 i j k u) := by
  refine (Host.reduce_eq_fold_single FloatOps.maximumf x z h' h hu (ix3 i j k)).trans ?_
  have e : ∀ u : Fin n, h.lift (ix3 i j k) u = ix4 i j k u := by
    intro u
    funext w
    apply Fin.ext
    match w with
    | ⟨0, _⟩ => rfl
    | ⟨1, _⟩ => rfl
    | ⟨2, _⟩ => rfl
    | ⟨3, _⟩ => rfl
  exact congrArg (fun g => (Finset.univ : Finset (Fin n)).fold max (z (Shape.Idx.first hu)) g) (funext fun u => congrArg x (e u))

end Cert.Proof.CellP

end
-- ==== Proof.CellPRef.lean ====
/-
  The prompt cell's reference at an index: for each sequence and each head it is one `Step` over all 2048 tokens from the
  empty state, then the normalized and gated output.
-/
module

public import proofs.«01_k».proof.Defs
public import proofs.«01_k».proof.Proof.Gen.CellPRefIdeal.Read
public import proofs.«01_k».proof.Proof.CellPRefB
public import proofs.«01_k».proof.Proof.CellPMax

@[expose] public section

set_option maxRecDepth 16384

noncomputable section

namespace Cert.Proof.CellP

open Idealize.ShloMosaic Cert.Proof.Cell Cert.CellPRefIdeal Cert.CellPRefIdeal.Gen Cert.CellPRefIdeal.Read

section Stages
variable (x0 x1 x2 x3 : Vec Ideal S16384x2048 .bf16) (x4 : Vec Ideal S16384x4096 .f32) (x5 : Vec Ideal S16384x128 .f32) (x6 x7 : Vec Ideal S2048 .f32)
  (s : Fin 8) (h : Fin 4)

local notation "T" => toks x0 x1 x2 x5 s h

theorem ref_d (t u : Fin 2048) : val_main_v37 (F := Ideal) x5 (ix4 s h t u) = (T).d t u := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_cst_2, val_main_call2_v0, val_main_call2_v1, val_main_call2_v2]
  rw [sel_ge (by omega), ref_b x0 x1 x2 x5, ref_b x0 x1 x2 x5, ref_ig x0 x1 x2 x5]
  rw [show id (constant (F := Ideal) S_ FTy.f32 0xFF800000#32) ix0 = (⊥ : EReal) from ref_neg_inf]
  rfl

theorem ref_max (t : Fin 2048) : val_main_v41 (F := Ideal) x5 (ix3 s h t) = (Finset.univ : Finset (Fin 2048)).fold max ⊥ fun u => (T).d t u := by
  refine (max_last (val_main_v37 (F := Ideal) x5) (val_main_cst_3 (F := Ideal)) reducesTo_S8x4x2048x2048_S8x4x2048_d3 (by decide) h_S_ s h t).trans ?_
  rw [show val_main_cst_3 (F := Ideal) (Shape.Idx.first h_S_) = (⊥ : EReal) from ref_neg_inf]
  exact congrArg (fun g => (Finset.univ : Finset (Fin 2048)).fold max (⊥ : EReal) g) (funext fun u => ref_d x0 x1 x2 x5 s h t u)

theorem ref_mt (t : Fin 2048) : val_main_v42 (F := Ideal) x5 (ix3 s h t) = (T).mt t := by
  pointwise [val_main_v42, val_main_v40, val_main_v39, val_main_v38]
  rw [ref_b x0 x1 x2 x5, ref_max x0 x1 x2 x5, ref_m0 x0 x1 x2 x5]
  unfold Step.mt
  rfl

theorem ref_s (t u : Fin 2048) : val_main_v48 (F := Ideal) x0 x1 x5 (ix4 s h t u) = (T).s t u := by
  pointwise [val_main_v48, val_main_v47, val_main_v46, val_main_v45, val_main_v44, val_main_v43, dot_S8x4x2048x512_S8x4x2048x512_S8x4x2048x2048_3_3_2_2_01_01]
  simp only [ref_q x0 x1 x2 x5, ref_k x0 x1 x2 x5, ref_d x0 x1 x2 x5, ref_mt x0 x1 x2 x5]
  rfl

theorem ref_w (t : Fin 2048) : val_main_v50 (F := Ideal) x5 (ix3 s h t) = (T).w t := by
  pointwise [val_main_v50, val_main_v49, val_main_v40, val_main_v39, val_main_v38]
  simp only [ref_b x0 x1 x2 x5, ref_mt x0 x1 x2 x5, ref_m0 x0 x1 x2 x5]
  rfl

theorem ref_h (t : Fin 2048) (e : Fin 512) : val_main_v67 (F := Ideal) x0 x1 x2 x5 (ix4 s h t e) = (T).h t e := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_4,
    dot_S8x4x2048x2048_S8x4x2048x512_S8x4x2048x512_3_2_2_3_01_01, dot_S8x4x2048x512_S8x4x512x512_S8x4x2048x512_3_2_2_3_01_01, dot_S8x4x2048x512_S8x4x512_S8x4x2048_3_2_2_n_01_01]
  simp only [ref_s x0 x1 x2 x5, ref_v x0 x1 x2 x5, ref_q x0 x1 x2 x5, ref_w x0 x1 x2 x5, ref_mt x0 x1 x2 x5, ref_C x0 x1 x2 x5, ref_N x0 x1 x2 x5]
  unfold Step.h
  rw [zero_sub]
  rfl

theorem ref_m : val_main_v69 (F := Ideal) x5 (ix2 s h) = (T).mt 2047 := by
  pointwise [val_main_v69, val_main_v68]
  exact ref_mt x0 x1 x2 x5 s h 2047

theorem ref_wk (t : Fin 2048) : val_main_v77 (F := Ideal) x5 (ix3 s h t) = (T).wk 2047 t := by
  pointwise [val_main_v77, val_main_v76, val_main_v75, val_main_v74, val_main_v73, val_main_v72, val_main_v71, val_main_v70]
  simp only [ref_b x0 x1 x2 x5, ref_ig x0 x1 x2 x5, ref_m x0 x1 x2 x5]
  rfl

theorem ref_decay : val_main_v82 (F := Ideal) x5 (ix2 s h) = (T).w 2047 := by
  pointwise [val_main_v82, val_main_v81, val_main_v80, val_main_v79, val_main_v78]
  simp only [ref_b x0 x1 x2 x5, ref_m x0 x1 x2 x5, ref_m0 x0 x1 x2 x5]
  rfl

/-- The reference's new matrix state. -/
theorem ref_newC (x e : Fin 512) : val_main_v90 (F := Ideal) x1 x2 x5 (ix4 s h x e) = (T).newC 2047 x e := by
  pointwise [val_main_v90, val_main_v89, val_main_v88, val_main_v87, val_main_v86, val_main_v85, val_main_v84, val_main_v83, dot_S8x4x2048x512_S8x4x2048x512_S8x4x512x512_2_2_3_3_01_01]
  simp only [ref_k x0 x1 x2 x5, ref_v x0 x1 x2 x5, ref_wk x0 x1 x2 x5, ref_decay x0 x1 x2 x5, ref_C x0 x1 x2 x5]
  unfold Step.newC
  simp only [mul_comm ((T).k _ x)]

/-- The reference's new vector state. -/
theorem ref_newN (x : Fin 512) : val_main_v131 (F := Ideal) x1 x5 (ix4 s h 0 x) = (T).newN 2047 x := by
  pointwise [val_main_v131, val_main_v95, val_main_v94, val_main_v93, val_main_v92, val_main_v91, dot_S8x4x2048_S8x4x2048x512_S8x4x512_2_2_n_3_01_01]
  simp only [ref_k x0 x1 x2 x5, ref_wk x0 x1 x2 x5, ref_decay x0 x1 x2 x5, ref_N x0 x1 x2 x5]
  unfold Step.newN
  simp only [mul_comm ((T).k _ x)]

/-- The reference's new maximum, spread over 128 places. -/
theorem ref_newM (y : Fin 128) : val_main_v133 (F := Ideal) x5 (ix4 s h 0 y) = (T).mt 2047 := by
  pointwise [val_main_v133, val_main_v132]
  exact ref_m x0 x1 x2 x5 s h

end Stages

end Cert.Proof.CellP

end
-- ==== Proof.CellPOut.lean ====
/-
  The prompt cell's reference at an index: for each sequence and each head it is one `Step` over all 2048 tokens from the
  empty state, then the normalized and gated output.
-/
module

public import proofs.«01_k».proof.Defs
public import proofs.«01_k».proof.Proof.Gen.CellPRefIdeal.Read
public import proofs.«01_k».proof.Proof.CellPRef

@[expose] public section

set_option maxRecDepth 16384

noncomputable section

namespace Cert.Proof.CellP

open Idealize.ShloMosaic Cert.Proof.Cell Cert.CellPRefIdeal Cert.CellPRefIdeal.Read

section Stages
variable (x0 x1 x2 x3 : Vec Ideal S16384x2048 .bf16) (x4 : Vec Ideal S16384x4096 .f32) (x5 : Vec Ideal S16384x128 .f32) (x6 x7 : Vec Ideal S2048 .f32)
  (s : Fin 8) (h : Fin 4)

local notation "T" => toks x0 x1 x2 x5 s h

/-- The reference's normalized hidden values. -/
theorem ref_norm (t : Fin 2048) (e : Fin 512) : val_main_v114 (F := Ideal) x0 x1 x2 x5 (ix4 s t h e)
    = ((T).h t e - Ideal.div (∑ x, (T).h t x) (Ideal.ofBits .f32 0x44000000#32))
      * Ideal.rsqrt (Ideal.div (∑ x, ((T).h t x - Ideal.div (∑ x, (T).h t x) (Ideal.ofBits .f32 0x44000000#32))
        * ((T).h t x - Ideal.div (∑ x, (T).h t x) (Ideal.ofBits .f32 0x44000000#32))) (Ideal.ofBits .f32 0x44000000#32) + Ideal.ofBits .f32 0x358637BD#32) := by
  simp only [← ref_h x0 x1 x2 x5]
  pointwise [val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_cst_5, val_main_cst_6, val_main_cst_7, val_main_cst_8, val_main_cst_9]

/-- The output at a row of all tokens is the output at the row's sequence and token. -/
theorem ref_row (r : Fin 16384) (y : Fin 2048) (s : Fin 8) (t : Fin 2048) (hs : r.val / 2048 = s.val) (ht : r.val % 2048 = t.val) :
    val_main_v130 (F := Ideal) x0 x1 x2 x3 x4 x5 x6 x7 (ix2 r y) = val_main_v128 (F := Ideal) x0 x1 x2 x3 x4 x5 x6 x7 (ix3 s t y) := by
  pointwise [val_main_v130, val_main_v129]
  congr 1
  funext a; apply Fin.ext
  match a with
  | ⟨0, _⟩ => exact hs
  | ⟨1, _⟩ => exact ht
  | ⟨2, _⟩ => rfl

/-- A column's normalized value is its head's at its coordinate. -/
theorem ref_col (s : Fin 8) (t : Fin 2048) (y : Fin 2048) (h : Fin 4) (e : Fin 512) (hh : y.val / 512 = h.val) (he : y.val % 512 = e.val) :
    val_main_v115 (F := Ideal) x0 x1 x2 x5 (ix3 s t y) = val_main_v114 (F := Ideal) x0 x1 x2 x5 (ix4 s t h e) := by
  pointwise [val_main_v115]
  congr 1
  funext a; apply Fin.ext
  match a with
  | ⟨0, _⟩ => rfl
  | ⟨1, _⟩ => rfl
  | ⟨2, _⟩ => exact hh
  | ⟨3, _⟩ => exact he

/-- The output gate's argument at a token and a column. -/
theorem ref_z (t : Fin 2048) (y : Fin 2048) : val_main_v120 (F := Ideal) x4 (ix3 s t y) = x4 (ix2 (tok s t) (zc y)) := by
  rw [val_main_v120_apply, val_main_v119_apply]
  congr 1
  funext a; apply Fin.ext
  have hy := y.isLt
  match a with
  | ⟨0, _⟩ => show ((s.val * 2048 + t.val) * 4096 + (2048 + y.val)) / 4096 = s.val * 2048 + t.val; omega
  | ⟨1, _⟩ => show ((s.val * 2048 + t.val) * 4096 + (2048 + y.val)) % 4096 = 2048 + y.val; omega

/-- The convolved branch at a token and a column. -/
theorem ref_xc (t : Fin 2048) (y : Fin 2048) : val_main_v122 (F := Ideal) x3 (ix3 s t y) = x3 (ix2 (tok s t) y) := by
  rw [val_main_v122_apply, val_main_v121_apply]
  show x3 _ = x3 _
  congr 1
  funext a; apply Fin.ext
  have hy := y.isLt
  match a with
  | ⟨0, _⟩ => show ((s.val * 2048 + t.val) * 2048 + y.val) / 2048 = s.val * 2048 + t.val; omega
  | ⟨1, _⟩ => show ((s.val * 2048 + t.val) * 2048 + y.val) % 2048 = y.val; omega

/-- The weighted rows plus the weighted convolved branch. -/
theorem ref_sum (t : Fin 2048) (y : Fin 2048) : val_main_v126 (F := Ideal) x0 x1 x2 x3 x5 x6 x7 (ix3 s t y)
    = val_main_v115 (F := Ideal) x0 x1 x2 x5 (ix3 s t y) * x6 (ix1 y) + x7 (ix1 y) * x3 (ix2 (tok s t) y) := by
  rw [val_main_v126_apply, val_main_v118_apply, val_main_v125_apply, ref_xc, val_main_v117_apply, val_main_v116_apply, val_main_v124_apply, val_main_v123_apply]
  rw [show idx_main_v116 (idx_main_v117 (ix3 s t y)) = ix1 y from funext fun a => by match a with | ⟨0, _⟩ => rfl,
    show idx_main_v123 (idx_main_v124 (ix3 s t y)) = ix1 y from funext fun a => by match a with | ⟨0, _⟩ => rfl]
  rfl

/-- The gate at a token and a column. -/
theorem ref_gate (i : S8x2048x2048.Idx) : val_main_v127 (F := Ideal) x4 i
    = val_main_v120 (F := Ideal) x4 i * Ideal.div 1 (1 + Ideal.exp (0 - val_main_v120 (F := Ideal) x4 i)) := by
  pointwise [val_main_v127, val_main_call3_v0, val_main_call3_v1, val_main_call3_v2, val_main_call3_v3, val_main_call3_v4, val_main_call3_v5, val_main_call3_cst, val_main_call3_cst_0]
  rw [zero_sub]

/-- The reference's output at a token, before its rows are put one after another. -/
theorem ref_gated (t : Fin 2048) (e : Fin 512) : val_main_v128 (F := Ideal) x0 x1 x2 x3 x4 x5 x6 x7 (ix3 s t (col h e))
    = outv (fun x => (T).h t x) (x6 (ix1 (col h e))) (x4 (ix2 (tok s t) (zc (col h e)))) (x7 (ix1 (col h e))) (x3 (ix2 (tok s t) (col h e))) e := by
  have e2 := ref_col x0 x1 x2 x5 s t (col h e) h e (by have := e.isLt; simp only [col]; omega) (by have := e.isLt; simp only [col]; omega)
  rw [ref_norm x0 x1 x2 x5] at e2
  rw [val_main_v128_apply, ref_sum, ref_gate, ref_z, e2]
  unfold outv
  rfl

/-- The reference's output at a token's row. -/
theorem ref_out (t : Fin 2048) (e : Fin 512) : val_main_v130 (F := Ideal) x0 x1 x2 x3 x4 x5 x6 x7 (ix2 (tok s t) (col h e))
    = outv (fun x => (T).h t x) (x6 (ix1 (col h e))) (x4 (ix2 (tok s t) (zc (col h e)))) (x7 (ix1 (col h e))) (x3 (ix2 (tok s t) (col h e))) e := by
  rw [ref_row x0 x1 x2 x3 x4 x5 x6 x7 (tok s t) (col h e) s t (by have := t.isLt; simp only [tok]; omega) (by have := t.isLt; simp only [tok]; omega)]
  exact ref_gated x0 x1 x2 x3 x4 x5 x6 x7 s h t e

end Stages

end Cert.Proof.CellP

end
-- ==== Proof.CellPPay.lean ====
/-
  The chunk kernel's values at an index: for the 256 rows of one chunk of one sequence and one head the body computes the
  running sums, the weights, the hidden values and the new state of `Step`, from the state the chunk before left.
-/
module

public import proofs.«01_k».proof.Defs
public import proofs.«01_k».proof.Proof.Gen.CellPIdeal.Skeleton
public import proofs.«01_k».proof.Proof.CellPMath

@[expose] public section

set_option maxRecDepth 16384

noncomputable section

namespace Cert.Proof.CellP

open Idealize.ShloMosaic Cert.Proof.Cell Cert.CellPIdeal Cert.CellPIdeal.Gen

section Terms
variable {F : FTy → Type} [FloatOps F] [Named F]

/-- The row numbers of a square of 256 rows. -/
def rowNo : IVec S256x256 32 := iota Kind.tc S256x256 32 [0] iota_S256x256_d0_w32

/-- The kernel's column of running sums. -/
def bcol (x9 : Vec F S1x1x1x256 .f32) : FVec F S256x1 .f32 := k0_pay13 (k0_pay11 x9) rowNo

/-- The kernel's row of running sums. -/
def brow (x7 : Vec F S1x1x256x1 .f32) : FVec F S1x256 .f32 := k0_pay14 (k0_pay10 x7) rowNo

/-- The kernel's logarithms of the weights. -/
def dmat (x7 : Vec F S1x1x256x1 .f32) (x8 x9 : Vec F S1x1x1x256 .f32) : FVec F S256x256 .f32 :=
  k0_pay16 (k0_pay9 x8) (k0_pay10 x7) (k0_pay11 x9) rowNo

/-- The kernel's running maxima. -/
def mtcol (x7 : Vec F S1x1x256x1 .f32) (x8 x9 : Vec F S1x1x1x256 .f32) (sm : Vec F S1x1 .f32) : FVec F S256x1 .f32 :=
  k0_pay18 (k0_pay9 x8) (k0_pay10 x7) (k0_pay11 x9) rowNo sm

/-- The kernel's hidden values. -/
def hid (x0 x1 x3 : Vec F S256x512 .bf16) (x7 : Vec F S1x1x256x1 .f32) (x8 x9 : Vec F S1x1x1x256 .f32)
    (sC : Vec F S512x512 .f32) (sN : Vec F S1x512 .f32) (sm : Vec F S1x1 .f32) : FVec F S256x512 .f32 :=
  k0_pay21 (mtcol x7 x8 x9 sm) x0 (k0_pay19 (k0_pay9 x8) (k0_pay10 x7) (k0_pay11 x9) rowNo sm x0 x1)
    (k0_pay20 (k0_pay9 x8) (k0_pay10 x7) (k0_pay11 x9) rowNo sm) sC sN x3

/-- The kernel's new matrix state. -/
def newC (x2 : Vec F S1x512x256 .bf16) (x3 : Vec F S256x512 .bf16) (x7 : Vec F S1x1x256x1 .f32) (x8 x9 : Vec F S1x1x1x256 .f32)
    (sC : Vec F S512x512 .f32) (sm : Vec F S1x1 .f32) : FVec F S512x512 .f32 :=
  k0_pay25 (k0_pay9 x8) (brow x7) (k0_pay15 (k0_pay11 x9)) sm (mtcol x7 x8 x9 sm) sC x3 x2

/-- The kernel's new vector state. -/
def newN (x1 : Vec F S256x512 .bf16) (x6 x7 : Vec F S1x1x256x1 .f32) (x8 x9 : Vec F S1x1x1x256 .f32)
    (sN : Vec F S1x512 .f32) (sm : Vec F S1x1 .f32) : FVec F S1x512 .f32 :=
  k0_pay26 sN (k0_pay23 (k0_pay8 x6) (bcol x9) (k0_pay15 (k0_pay11 x9)) (mtcol x7 x8 x9 sm))
    (k0_pay24 (k0_pay15 (k0_pay11 x9)) sm (mtcol x7 x8 x9 sm)) x1

/-- The kernel's new maximum. -/
def newM (x7 : Vec F S1x1x256x1 .f32) (x8 x9 : Vec F S1x1x1x256 .f32) (sm : Vec F S1x1 .f32) : FVec F S1x1 .f32 :=
  k0_pay22 (mtcol x7 x8 x9 sm)

end Terms

/-- The mask's named constant is minus infinity. -/
theorem mask_eq : Named.named (F := Ideal) κ "mask" (φ := .f32) 0xF149F2CA#32 = (⊥ : EReal) :=
  IdealRules.named_const.ideal_named_scalar _ _ _ _ rfl

/-- The pattern of minus infinity. -/
theorem neg_inf : Ideal.ofBits .f32 0xFF800000#32 = (⊥ : EReal) := by simp [Ideal.ofBits, Ideal.ieee]

/-- The state before the first chunk: zeros, and minus infinity for the maximum. -/
theorem pay5_apply (a b : Fin 512) : k0_pay5 (F := Ideal) (ix2 a b) = 0 := by
  pointwise [k0_pay5]

theorem pay6_apply (a : Fin 512) : k0_pay6 (F := Ideal) (ix2 0 a) = 0 := by
  pointwise [k0_pay6]

theorem pay7_apply : k0_pay7 (F := Ideal) (ix2 0 0) = (⊥ : EReal) := by
  pointwise [k0_pay7]
  exact mask_eq

theorem pay8_apply (x : Vec Ideal S1x1x256x1 .f32) (a : Fin 256) : k0_pay8 (F := Ideal) x (ix2 a 0) = x (ix4 0 0 a 0) := by
  pointwise [k0_pay8]

theorem pay9_apply (x : Vec Ideal S1x1x1x256 .f32) (a : Fin 256) : k0_pay9 (F := Ideal) x (ix2 0 a) = x (ix4 0 0 0 a) := by
  pointwise [k0_pay9]

theorem pay10_apply (x : Vec Ideal S1x1x256x1 .f32) (a : Fin 256) : k0_pay10 (F := Ideal) x (ix2 a 0) = logsig (x (ix4 0 0 a 0)) := by
  pointwise [k0_pay10]
  rfl

theorem pay11_apply (x : Vec Ideal S1x1x1x256 .f32) (a : Fin 256) : k0_pay11 (F := Ideal) x (ix2 0 a) = logsig (x (ix4 0 0 0 a)) := by
  pointwise [k0_pay11]
  rfl

theorem pay15_apply (x : Vec Ideal S1x256 .f32) : k0_pay15 (F := Ideal) x (ix2 0 0) = ∑ a : Fin 256, x (ix2 0 a) := by
  pointwise [k0_pay15]

theorem pay27_eq (x : FVec Ideal S512x512 .f32) (a b : Fin 512) : k0_pay27 (F := Ideal) x (ix2 a b) = x (ix2 a b) := by
  pointwise [k0_pay27]

theorem pay29_eq (x : FVec Ideal S1x1 .f32) : k0_pay29 (F := Ideal) x (ix2 0 0) = x (ix2 0 0) := by
  pointwise [k0_pay29]

theorem pay2_eq (x : FVec Ideal S512x512 .f32) (a b : Fin 512) : k0_pay2 (F := Ideal) x (ix4 0 0 a b) = x (ix2 a b) := by
  pointwise [k0_pay2]

theorem pay3_eq (x : FVec Ideal S1x512 .f32) (a : Fin 512) : k0_pay3 (F := Ideal) x (ix4 0 0 0 a) = x (ix2 0 a) := by
  pointwise [k0_pay3]

theorem pay4_eq (x : FVec Ideal S1x1 .f32) (a : Fin 128) : k0_pay4 (F := Ideal) x (ix4 0 0 0 a) = x (ix2 0 0) := by
  pointwise [k0_pay4]

section Blocks
variable (x0 x1 : Vec Ideal S256x512 .bf16) (x2 : Vec Ideal S1x512x256 .bf16) (x3 : Vec Ideal S256x512 .bf16)
  (x6 x7 : Vec Ideal S1x1x256x1 .f32) (x8 x9 : Vec Ideal S1x1x1x256 .f32) (sC : Vec Ideal S512x512 .f32)
  (sN : Vec Ideal S1x512 .f32) (sm : Vec Ideal S1x1 .f32)

/-- What the body reads of one chunk, and the state before it. -/
def rows : Step 256 where
  q i x := x0 (ix2 i x)
  k i x := x1 (ix2 i x)
  v i x := x3 (ix2 i x)
  ig j := x8 (ix4 0 0 0 j)
  lf j := logsig (x9 (ix4 0 0 0 j))
  C x e := sC (ix2 x e)
  N x := sN (ix2 0 x)
  m := sm (ix2 0 0)

local notation "S" => rows x0 x1 x3 x8 x9 sC sN sm

theorem bcol_apply (a : Fin 256) : bcol (F := Ideal) x9 (ix2 a 0) = (S).b a := by
  unfold bcol rowNo
  pointwise [k0_pay13, k0_pay12]
  refine Finset.sum_congr rfl fun j _ => ?_
  rw [sel_ge (by omega), pay11_apply]
  rfl

theorem brow_apply (h7 : ∀ j, x7 (ix4 0 0 j 0) = x9 (ix4 0 0 0 j)) (a : Fin 256) : brow (F := Ideal) x7 (ix2 0 a) = (S).b a := by
  unfold brow rowNo
  pointwise [k0_pay14]
  refine Finset.sum_congr rfl fun j _ => ?_
  rw [sel_le (by omega), pay10_apply, h7]
  rfl

/-- The total the body sums is the running sum at the last row. -/
theorem total_eq : k0_pay15 (F := Ideal) (k0_pay11 x9) (ix2 0 0) = (S).b 255 := by
  rw [pay15_apply]
  refine Finset.sum_congr rfl fun j _ => ?_
  rw [pay11_apply, if_pos (c := j ≤ 255) (by have := j.isLt; show j.val ≤ 255; omega)]
  rfl

theorem dmat_apply (h7 : ∀ j, x7 (ix4 0 0 j 0) = x9 (ix4 0 0 0 j)) (a b : Fin 256) :
    dmat (F := Ideal) x7 x8 x9 (ix2 a b) = (S).d a b := by
  have e1 := bcol_apply x0 x1 x3 x8 x9 sC sN sm a
  have e2 := brow_apply x0 x1 x3 x7 x8 x9 sC sN sm h7 b
  unfold bcol rowNo at e1
  unfold brow rowNo at e2
  unfold dmat rowNo
  pointwise [k0_pay16, k0_pay12]
  rw [sel_ge (by omega), e1, e2, pay9_apply, mask_eq]
  rfl

theorem mt_apply (h7 : ∀ j, x7 (ix4 0 0 j 0) = x9 (ix4 0 0 0 j)) (a : Fin 256) :
    mtcol (F := Ideal) x7 x8 x9 sm (ix2 a 0) = (S).mt a := by
  have e1 := bcol_apply x0 x1 x3 x8 x9 sC sN sm a
  have e2 := dmat_apply x0 x1 x3 x7 x8 x9 sC sN sm h7 a
  unfold bcol at e1
  unfold dmat at e2
  unfold mtcol
  pointwise [k0_pay18, k0_pay17]
  rw [e1, neg_inf]
  simp only [e2]
  rfl

theorem sc_apply (h7 : ∀ j, x7 (ix4 0 0 j 0) = x9 (ix4 0 0 0 j)) (a b : Fin 256) :
    k0_pay19 (F := Ideal) (k0_pay9 x8) (k0_pay10 x7) (k0_pay11 x9) rowNo sm x0 x1 (ix2 a b) = (S).s a b := by
  have e1 := mt_apply x0 x1 x3 x7 x8 x9 sC sN sm h7 a
  have e2 := dmat_apply x0 x1 x3 x7 x8 x9 sC sN sm h7 a b
  unfold mtcol at e1
  unfold dmat at e2
  pointwise [k0_pay19, dot_S256x512_S256x512_S256x256_1_1_0_0_n_n]
  rw [e1, e2]
  rfl

theorem w_apply (h7 : ∀ j, x7 (ix4 0 0 j 0) = x9 (ix4 0 0 0 j)) (a : Fin 256) :
    k0_pay20 (F := Ideal) (k0_pay9 x8) (k0_pay10 x7) (k0_pay11 x9) rowNo sm (ix2 a 0) = (S).w a := by
  have e1 := mt_apply x0 x1 x3 x7 x8 x9 sC sN sm h7 a
  have e2 := bcol_apply x0 x1 x3 x8 x9 sC sN sm a
  unfold mtcol at e1
  unfold bcol at e2
  pointwise [k0_pay20, k0_pay17]
  rw [e1, e2]
  rfl

theorem hid_apply (h7 : ∀ j, x7 (ix4 0 0 j 0) = x9 (ix4 0 0 0 j)) (a : Fin 256) (e : Fin 512) :
    hid (F := Ideal) x0 x1 x3 x7 x8 x9 sC sN sm (ix2 a e) = (S).h a e := by
  unfold hid
  pointwise [k0_pay21, dot_S256x256_S256x512_S256x512_1_0_0_1_n_n, dot_S256x512_S512x512_S256x512_1_0_0_1_n_n]
  rw [w_apply x0 x1 x3 x7 x8 x9 sC sN sm h7, mt_apply x0 x1 x3 x7 x8 x9 sC sN sm h7]
  simp only [sc_apply x0 x1 x3 x7 x8 x9 sC sN sm h7]
  rfl

/-- The kernel's new maximum. -/
theorem newM_apply (h7 : ∀ j, x7 (ix4 0 0 j 0) = x9 (ix4 0 0 0 j)) :
    newM (F := Ideal) x7 x8 x9 sm (ix2 0 0) = (S).mt 255 := by
  rw [← mt_apply x0 x1 x3 x7 x8 x9 sC sN sm h7]
  unfold newM
  pointwise [k0_pay22]

theorem decay_eq (h7 : ∀ j, x7 (ix4 0 0 j 0) = x9 (ix4 0 0 0 j)) :
    k0_pay24 (F := Ideal) (k0_pay15 (k0_pay11 x9)) sm (mtcol x7 x8 x9 sm) (ix2 0 0) = (S).w 255 := by
  have e1 := newM_apply x0 x1 x3 x7 x8 x9 sC sN sm h7
  unfold newM at e1
  pointwise [k0_pay24]
  rw [e1, total_eq x0 x1 x3 x8 x9 sC sN sm]
  rfl

/-- The kernel's new matrix state. -/
theorem newC_apply (h7 : ∀ j, x7 (ix4 0 0 j 0) = x9 (ix4 0 0 0 j)) (h2 : ∀ x j, x2 (ix3 0 x j) = x1 (ix2 j x)) (a b : Fin 512) :
    newC (F := Ideal) x2 x3 x7 x8 x9 sC sm (ix2 a b) = (S).newC 255 a b := by
  have e1 := newM_apply x0 x1 x3 x7 x8 x9 sC sN sm h7
  unfold newM at e1
  unfold newC
  pointwise [k0_pay25, dot_S512x256_S256x512_S512x512_1_0_0_1_n_n]
  rw [decay_eq x0 x1 x3 x7 x8 x9 sC sN sm h7, e1, total_eq x0 x1 x3 x8 x9 sC sN sm]
  simp only [brow_apply x0 x1 x3 x7 x8 x9 sC sN sm h7, pay9_apply, h2]
  rfl

/-- The kernel's new vector state. -/
theorem newN_apply (h7 : ∀ j, x7 (ix4 0 0 j 0) = x9 (ix4 0 0 0 j)) (h6 : ∀ j, x6 (ix4 0 0 j 0) = x8 (ix4 0 0 0 j)) (b : Fin 512) :
    newN (F := Ideal) x1 x6 x7 x8 x9 sN sm (ix2 0 b) = (S).newN 255 b := by
  have e1 := newM_apply x0 x1 x3 x7 x8 x9 sC sN sm h7
  unfold newM at e1
  unfold newN
  pointwise [k0_pay26, k0_pay23]
  rw [decay_eq x0 x1 x3 x7 x8 x9 sC sN sm h7, e1, total_eq x0 x1 x3 x8 x9 sC sN sm]
  simp only [bcol_apply x0 x1 x3 x8 x9 sC sN sm, pay8_apply, h6]
  rfl

/-- The kernel's output rows: the hidden values normalized, weighted, and gated. -/
theorem out_apply (x4 : Vec Ideal S256x512 .bf16) (x5 : Vec Ideal S256x512 .f32) (x10 x11 : Vec Ideal S1x512 .f32)
    (h7 : ∀ j, x7 (ix4 0 0 j 0) = x9 (ix4 0 0 0 j)) (a : Fin 256) (e : Fin 512) :
    k0_pay1 (F := Ideal) (k0_pay30 (hid x0 x1 x3 x7 x8 x9 sC sN sm) x10) x5 x11 x4 (ix2 a e)
      = outv (fun x => (S).h a x) (x10 (ix2 0 e)) (x5 (ix2 a e)) (x11 (ix2 0 e)) (x4 (ix2 a e)) e := by
  pointwise [k0_pay1, k0_pay30]
  simp only [hid_apply x0 x1 x3 x7 x8 x9 sC sN sm h7]
  rfl

end Blocks

end Cert.Proof.CellP

end
-- ==== Proof.Norm.lean ====
/-
  The root-mean-square scale of a row of 1024 numbers, as both the kernels and the references compute it.
-/
module

public import Idealize.ShloMosaic.Lib.Pointwise

@[expose] public section

noncomputable section

namespace Cert.Proof

open Idealize.ShloMosaic

/-- The scale of a root-mean-square normalization: one over the root of the mean square plus a small constant. -/
def rms (f : Fin 1024 → EReal) : EReal :=
  Ideal.rsqrt (Ideal.div (∑ x, f x * f x) (Ideal.ofBits .f32 0x44800000#32) + Ideal.ofBits .f32 0x358637BD#32)

/-- The offset of a load or a store of a whole buffer of two axes. -/
theorem zero2 : (![0, 0] : Fin 2 → Nat) = fun _ => 0 := funext fun a => by fin_cases a <;> rfl

end Cert.Proof

end
-- ==== Proof.CellPay.lean ====
/-
  The cell kernel's values at an index: for the 16 rows of one sequence and one head the body computes the running sums,
  the weights, the hidden values and the new state of `Step`, over the rows it masks.
-/
module

public import proofs.«01_k».proof.Defs
public import proofs.«01_k».proof.Proof.Gen.CellIdeal.Skeleton
public import proofs.«01_k».proof.Proof.CellMath

@[expose] public section

set_option maxRecDepth 16384

noncomputable section

namespace Cert.Proof.Cell

open Idealize.ShloMosaic Cert.CellIdeal Cert.CellIdeal.Gen

section Terms
variable {F : FTy → Type} [FloatOps F] [Named F]

/-- The kernel's column of running sums. -/
def bcol (x9 : Vec F S1x1x1x16 .f32) : FVec F S16x1 .f32 := k0_pay12 (k0_pay7 x9) (iota Kind.tc S16x16 32 [0] iota_S16x16_d0_w32)

/-- The kernel's row of running sums. -/
def brow (x7 : Vec F S1x1x16x1 .f32) : FVec F S1x16 .f32 := k0_pay13 (k0_pay6 x7) (iota Kind.tc S16x16 32 [0] iota_S16x16_d0_w32)

/-- The kernel's logarithms of the weights. -/
def dmat (x7 : Vec F S1x1x16x1 .f32) (x8 x9 : Vec F S1x1x1x16 .f32) : FVec F S16x16 .f32 :=
  k0_pay15 (k0_pay5 x8) (k0_pay6 x7) (k0_pay7 x9) (iota Kind.tc S16x16 32 [0] iota_S16x16_d0_w32)

/-- The kernel's old maximum as a column. -/
def mcol (x14 : Vec F S1x1x1x1 .f32) : FVec F S16x1 .f32 := k0_pay16 (k0_pay3 x14)

/-- The kernel's new maximum. -/
def mnew (x7 : Vec F S1x1x16x1 .f32) (x8 x9 : Vec F S1x1x1x16 .f32) (x14 : Vec F S1x1x1x1 .f32) : FVec F S1x1 .f32 :=
  k0_pay20 (bcol x9) (dmat x7 x8 x9) (mcol x14)

/-- The kernel's hidden values. -/
def hid (x0 x1 x3 : Vec F S16x512 .bf16) (x7 : Vec F S1x1x16x1 .f32) (x8 x9 : Vec F S1x1x1x16 .f32)
    (x12 : Vec F S1x1x512x512 .f32) (x13 : Vec F S1x1x1x512 .f32) (x14 : Vec F S1x1x1x1 .f32) : FVec F S16x512 .f32 :=
  k0_pay19 (bcol x9) (dmat x7 x8 x9) (mcol x14) x0 x1 (k0_pay1 x12) (k0_pay2 x13) x3

end Terms

/-- The mask's named constant is minus infinity. -/
theorem mask_eq : Named.named (F := Ideal) κ "mask" (φ := .f32) 0xF149F2CA#32 = (⊥ : EReal) :=
  IdealRules.named_const.ideal_named_scalar _ _ _ _ rfl

/-- The pattern of minus infinity. -/
theorem neg_inf : Ideal.ofBits .f32 0xFF800000#32 = (⊥ : EReal) := by simp [Ideal.ofBits, Ideal.ieee]

theorem sel_lt4 (a : Fin 16) (x y : EReal) :
    Scalar.select (IntOp.cmpi .slt (BitVec.ofNat 32 a.val) 4#32) x y = if a.val < 4 then x else y := by
  have h : IntOp.cmpi .slt (BitVec.ofNat 32 a.val) 4#32 = if a.val < 4 then 1#1 else 0#1 := by revert a; decide
  rw [h]; split <;> rfl

theorem sel_ge (a b : Fin 16) (x y : EReal) :
    Scalar.select (IntOp.cmpi .sge (BitVec.ofNat 32 a.val) (BitVec.ofNat 32 b.val)) x y = if b ≤ a then x else y := by
  have h : IntOp.cmpi .sge (BitVec.ofNat 32 a.val) (BitVec.ofNat 32 b.val) = if b ≤ a then 1#1 else 0#1 := by revert a b; decide
  rw [h]; split <;> rfl

theorem sel_le (a b : Fin 16) (x y : EReal) :
    Scalar.select (IntOp.cmpi .sle (BitVec.ofNat 32 a.val) (BitVec.ofNat 32 b.val)) x y = if a ≤ b then x else y := by
  have h : IntOp.cmpi .sle (BitVec.ofNat 32 a.val) (BitVec.ofNat 32 b.val) = if a ≤ b then 1#1 else 0#1 := by revert a b; decide
  rw [h]; split <;> rfl

theorem pay6_apply (x : Vec Ideal S1x1x16x1 .f32) (a : Fin 16) : k0_pay6 (F := Ideal) x (ix2 a 0) = logsig (x (ix4 0 0 a 0)) := by
  pointwise [k0_pay6]
  rfl

theorem pay7_apply (x : Vec Ideal S1x1x1x16 .f32) (a : Fin 16) : k0_pay7 (F := Ideal) x (ix2 0 a) = logsig (x (ix4 0 0 0 a)) := by
  pointwise [k0_pay7]
  rfl

theorem pay8_apply (x : Vec Ideal S1x1x16x1 .f32) (a : Fin 16) :
    k0_pay8 (F := Ideal) (k0_pay4 x) (ix2 a 0) = if a.val < 4 then x (ix4 0 0 a 0) else ⊥ := by
  pointwise [k0_pay8, k0_pay4]
  rw [mask_eq, sel_lt4]

theorem pay9_apply (x : Vec Ideal S1x1x1x16 .f32) (a : Fin 16) :
    k0_pay9 (F := Ideal) (k0_pay5 x) (ix2 0 a) = if a.val < 4 then x (ix4 0 0 0 a) else ⊥ := by
  pointwise [k0_pay9, k0_pay5]
  rw [mask_eq, sel_lt4]

theorem pay10_apply (x : Vec Ideal S1x1x1x16 .f32) (a : Fin 16) :
    k0_pay10 (F := Ideal) (k0_pay7 x) (ix2 0 a) = if a.val < 4 then logsig (x (ix4 0 0 0 a)) else 0 := by
  pointwise [k0_pay10]
  rw [sel_lt4, pay7_apply]

theorem mcol_apply (x : Vec Ideal S1x1x1x1 .f32) (a : Fin 16) : mcol (F := Ideal) x (ix2 a 0) = x (ix4 0 0 0 0) := by
  pointwise [mcol, k0_pay16, k0_pay3]

theorem pay14_apply (x : Vec Ideal S1x16 .f32) : k0_pay14 (F := Ideal) x (ix2 0 0) = ∑ a : Fin 16, k0_pay10 (F := Ideal) x (ix2 0 a) := by
  pointwise [k0_pay14]

section Blocks
variable (x0 x1 : Vec Ideal S16x512 .bf16) (x2 : Vec Ideal S1x512x16 .bf16) (x3 : Vec Ideal S16x512 .bf16)
  (x6 x7 : Vec Ideal S1x1x16x1 .f32) (x8 x9 : Vec Ideal S1x1x1x16 .f32) (x12 : Vec Ideal S1x1x512x512 .f32)
  (x13 : Vec Ideal S1x1x1x512 .f32) (x14 : Vec Ideal S1x1x1x1 .f32)

/-- What the body reads of one sequence and one head, the rows past the fourth masked. -/
def rows : Step 16 where
  q i x := x0 (ix2 i x)
  k i x := x1 (ix2 i x)
  v i x := x3 (ix2 i x)
  ig j := if j.val < 4 then x8 (ix4 0 0 0 j) else ⊥
  lf j := if j.val < 4 then logsig (x9 (ix4 0 0 0 j)) else 0
  C x e := x12 (ix4 0 0 x e)
  N x := x13 (ix4 0 0 0 x)
  m := x14 (ix4 0 0 0 0)

local notation "S" => rows x0 x1 x3 x8 x9 x12 x13 x14

/-- The total the body sums is the running sum at the last row. -/
theorem total_eq : k0_pay14 (F := Ideal) (k0_pay7 x9) (ix2 0 0) = (S).b 15 := by
  rw [pay14_apply]
  refine Finset.sum_congr rfl fun j _ => ?_
  rw [pay10_apply, if_pos (c := j ≤ 15) (by have := j.isLt; show j.val ≤ 15; omega)]
  rfl

theorem bcol_apply (a : Fin 16) : bcol (F := Ideal) x9 (ix2 a 0) = (S).b a := by
  unfold bcol
  pointwise [k0_pay12, k0_pay11]
  refine Finset.sum_congr rfl fun j _ => ?_
  rw [sel_ge, pay10_apply]
  rfl

theorem brow_apply (h7 : ∀ j, x7 (ix4 0 0 j 0) = x9 (ix4 0 0 0 j)) (a : Fin 16) : brow (F := Ideal) x7 (ix2 0 a) = (S).b a := by
  unfold brow
  pointwise [k0_pay13]
  refine Finset.sum_congr rfl fun j _ => ?_
  rw [sel_le, sel_lt4, pay6_apply, h7]
  rfl

theorem dmat_apply (h7 : ∀ j, x7 (ix4 0 0 j 0) = x9 (ix4 0 0 0 j)) (a b : Fin 16) :
    dmat (F := Ideal) x7 x8 x9 (ix2 a b) = (S).d a b := by
  unfold dmat
  pointwise [k0_pay15, k0_pay11]
  have e1 := bcol_apply x0 x1 x3 x8 x9 x12 x13 x14 a
  have e2 := brow_apply x0 x1 x3 x7 x8 x9 x12 x13 x14 h7 b
  unfold bcol at e1
  unfold brow at e2
  rw [sel_ge, e1, e2, pay9_apply, mask_eq]
  rfl

theorem mt_apply (h7 : ∀ j, x7 (ix4 0 0 j 0) = x9 (ix4 0 0 0 j)) (a : Fin 16) :
    k0_pay18 (F := Ideal) (bcol x9) (dmat x7 x8 x9) (mcol x14) (ix2 a 0) = (S).mt a := by
  pointwise [k0_pay18, k0_pay17]
  rw [bcol_apply x0 x1 x3 x8 x9 x12 x13 x14, mcol_apply, neg_inf]
  simp only [dmat_apply x0 x1 x3 x7 x8 x9 x12 x13 x14 h7]
  rfl

theorem mnew_apply (h7 : ∀ j, x7 (ix4 0 0 j 0) = x9 (ix4 0 0 0 j)) :
    mnew (F := Ideal) x7 x8 x9 x14 (ix2 0 0) = (S).mt 15 := by
  rw [← mt_apply x0 x1 x3 x7 x8 x9 x12 x13 x14 h7]
  unfold mnew
  pointwise [k0_pay20]

theorem hid_apply (h7 : ∀ j, x7 (ix4 0 0 j 0) = x9 (ix4 0 0 0 j)) (a : Fin 16) (e : Fin 512) :
    hid (F := Ideal) x0 x1 x3 x7 x8 x9 x12 x13 x14 (ix2 a e) = (S).h a e := by
  unfold hid
  pointwise [k0_pay19, k0_pay17, k0_pay1, k0_pay2, dot_S16x512_S16x512_S16x16_1_1_0_0_n_n, dot_S16x16_S16x512_S16x512_1_0_0_1_n_n, dot_S16x512_S512x512_S16x512_1_0_0_1_n_n]
  rw [bcol_apply x0 x1 x3 x8 x9 x12 x13 x14, mcol_apply, mt_apply x0 x1 x3 x7 x8 x9 x12 x13 x14 h7]
  simp only [dmat_apply x0 x1 x3 x7 x8 x9 x12 x13 x14 h7]
  rfl

theorem decay_eq (h7 : ∀ j, x7 (ix4 0 0 j 0) = x9 (ix4 0 0 0 j)) :
    k0_pay22 (F := Ideal) (k0_pay14 (k0_pay7 x9)) (k0_pay3 x14) (mnew x7 x8 x9 x14) (ix2 0 0) = (S).w 15 := by
  pointwise [k0_pay22, k0_pay3]
  rw [mnew_apply x0 x1 x3 x7 x8 x9 x12 x13 x14 h7, total_eq x0 x1 x3 x8 x9 x12 x13 x14]
  rfl

/-- The kernel's new matrix state. -/
theorem newC_apply (h7 : ∀ j, x7 (ix4 0 0 j 0) = x9 (ix4 0 0 0 j)) (h2 : ∀ x j, x2 (ix3 0 x j) = x1 (ix2 j x)) (a b : Fin 512) :
    k0_pay30 (F := Ideal) (k0_pay23 (k0_pay14 (k0_pay7 x9)) (k0_pay3 x14) (k0_pay1 x12) x3 (mnew x7 x8 x9 x14)
      (k0_pay21 (k0_pay9 (k0_pay5 x8)) (brow x7) (k0_pay14 (k0_pay7 x9))) x2) (ix4 0 0 a b) = (S).newC 15 a b := by
  pointwise [k0_pay30, k0_pay23, k0_pay21, k0_pay1, dot_S512x16_S16x512_S512x512_1_0_0_1_n_n]
  rw [decay_eq x0 x1 x3 x7 x8 x9 x12 x13 x14 h7, mnew_apply x0 x1 x3 x7 x8 x9 x12 x13 x14 h7, total_eq x0 x1 x3 x8 x9 x12 x13 x14]
  simp only [brow_apply x0 x1 x3 x7 x8 x9 x12 x13 x14 h7, pay9_apply, h2]
  rfl

/-- The kernel's new vector state. -/
theorem newN_apply (h7 : ∀ j, x7 (ix4 0 0 j 0) = x9 (ix4 0 0 0 j)) (h6 : ∀ j, x6 (ix4 0 0 j 0) = x8 (ix4 0 0 0 j)) (b : Fin 512) :
    k0_pay31 (F := Ideal) (k0_pay24 (k0_pay8 (k0_pay4 x6)) (bcol x9) (k0_pay14 (k0_pay7 x9)) (k0_pay3 x14) (k0_pay2 x13)
      (mnew x7 x8 x9 x14) x1) (ix4 0 0 0 b) = (S).newN 15 b := by
  pointwise [k0_pay31, k0_pay24, k0_pay2]
  rw [decay_eq x0 x1 x3 x7 x8 x9 x12 x13 x14 h7, mnew_apply x0 x1 x3 x7 x8 x9 x12 x13 x14 h7, total_eq x0 x1 x3 x8 x9 x12 x13 x14]
  simp only [bcol_apply x0 x1 x3 x8 x9 x12 x13 x14, pay8_apply, h6]
  rfl

/-- The kernel's new maximum, spread over its block. -/
theorem newM_apply (h7 : ∀ j, x7 (ix4 0 0 j 0) = x9 (ix4 0 0 0 j)) (b : Fin 128) :
    k0_pay32 (F := Ideal) (mnew x7 x8 x9 x14) (ix4 0 0 0 b) = (S).mt 15 := by
  pointwise [k0_pay32]
  exact mnew_apply x0 x1 x3 x7 x8 x9 x12 x13 x14 h7

/-- The kernel's output rows: the hidden values normalized, weighted, and gated. -/
theorem out_apply (x4 : Vec Ideal S16x512 .bf16) (x5 : Vec Ideal S16x512 .f32) (x10 x11 : Vec Ideal S1x512 .f32)
    (h7 : ∀ j, x7 (ix4 0 0 j 0) = x9 (ix4 0 0 0 j)) (a : Fin 16) (e : Fin 512) :
    k0_pay29 (F := Ideal) (hid x0 x1 x3 x7 x8 x9 x12 x13 x14) (k0_pay28 (hid x0 x1 x3 x7 x8 x9 x12 x13 x14))
        (FloatOps.ofBits FTy.f32 0x44000000#32) x10 x5 x11 x4 (ix2 a e)
      = outv (fun x => (S).h a x) (x10 (ix2 0 e)) (x5 (ix2 a e)) (x11 (ix2 0 e)) (x4 (ix2 a e)) e := by
  pointwise [k0_pay29, k0_pay28]
  simp only [hid_apply x0 x1 x3 x7 x8 x9 x12 x13 x14 h7]
  rfl

end Blocks

end Cert.Proof.Cell

end
-- ==== Proof.CellOpen.lean ====
/-
  The cell kernel's body opened: what it leaves in each output's buffer as a term over the input blocks.  The body stores
  the old state in its scratch buffers before it reads them, so the scratch buffers' contents do not matter.
-/
module

public import proofs.«01_k».proof.Defs
public import proofs.«01_k».proof.Proof.Gen.CellIdeal.Value
public import proofs.«01_k».proof.Proof.Norm
public import proofs.«01_k».proof.Proof.CellPay

@[expose] public section

set_option maxRecDepth 16384

noncomputable section

namespace Cert.Proof.Cell

open Idealize.ShloMosaic Idealize.ShloMosaic.TcCoe Idealize.SL.Sem Cert.CellIdeal Cert.CellIdeal.Gen

/-- The offset of a load or a store of a whole buffer of three or four axes. -/
theorem zero3 : (![0, 0, 0] : Fin 3 → Nat) = fun _ => 0 := funext fun a => by fin_cases a <;> rfl

theorem zero4 : (![0, 0, 0, 0] : Fin 4 → Nat) = fun _ => 0 := funext fun a => by fin_cases a <;> rfl

section Opened
variable {F : FTy → Type} [FloatOps F] [Named F]
variable (c : Dev nD) (t : Fin cfg0.N) (x0 : Vec F S16x512 .bf16) (x1 : Vec F S16x512 .bf16) (x2 : Vec F S1x512x16 .bf16) (x3 : Vec F S16x512 .bf16) (x4 : Vec F S16x512 .bf16) (x5 : Vec F S16x512 .f32) (x6 : Vec F S1x1x16x1 .f32) (x7 : Vec F S1x1x16x1 .f32) (x8 : Vec F S1x1x1x16 .f32) (x9 : Vec F S1x1x1x16 .f32) (x10 : Vec F S1x512 .f32) (x11 : Vec F S1x512 .f32) (x12 : Vec F S1x1x512x512 .f32) (x13 : Vec F S1x1x1x512 .f32) (x14 : Vec F S1x1x1x1 .f32)

/-- The output rows. -/
theorem open15 : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14 =
    k0_pay29 (hid x0 x1 x3 x7 x8 x9 x12 x13 x14) (k0_pay28 (hid x0 x1 x3 x7 x8 x9 x12 x13 x14)) (FloatOps.ofBits FTy.f32 0x44000000#32) x10 x5 x11 x4 := by
  unfold out0_A_15
  rw [View.read_writes_eq_canon _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  repeat (first | erw [View.readCov_unit_zero _ zero2] | erw [View.ld_unit_zero zero2] | erw [View.ld_unit_zero zero3] | erw [View.ld_unit_zero zero4])
  rfl

/-- The new matrix state. -/
theorem open16 : out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14 =
    k0_pay30 (k0_pay23 (k0_pay14 (k0_pay7 x9)) (k0_pay3 x14) (k0_pay1 x12) x3 (mnew x7 x8 x9 x14)
      (k0_pay21 (k0_pay9 (k0_pay5 x8)) (brow x7) (k0_pay14 (k0_pay7 x9))) x2) := by
  unfold out0_A_16
  rw [View.read_writes_eq_canon _ _ _ (cover0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14)]
  unfold kernelRun0_A
  dsimp only
  sl_unfold_words
  rw [View.canon_unit_zero zero4]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  repeat (first | erw [View.readCov_unit_zero _ zero2] | erw [View.ld_unit_zero zero2] | erw [View.ld_unit_zero zero3] | erw [View.ld_unit_zero zero4])
  rfl

/-- The new vector state. -/
theorem open17 : out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14 =
    k0_pay31 (k0_pay24 (k0_pay8 (k0_pay4 x6)) (bcol x9) (k0_pay14 (k0_pay7 x9)) (k0_pay3 x14) (k0_pay2 x13)
      (mnew x7 x8 x9 x14) x1) := by
  unfold out0_A_17
  rw [View.read_writes_eq_canon _ _ _ (cover0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14)]
  unfold kernelRun0_A
  dsimp only
  sl_unfold_words
  rw [View.canon_unit_zero zero4]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  repeat (first | erw [View.readCov_unit_zero _ zero2] | erw [View.ld_unit_zero zero2] | erw [View.ld_unit_zero zero3] | erw [View.ld_unit_zero zero4])
  rfl

/-- The new maximum. -/
theorem open18 : out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14 =
    k0_pay32 (mnew x7 x8 x9 x14) := by
  unfold out0_A_18
  rw [View.read_writes_eq_canon _ _ _ (cover0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (hcond0_1 t) x0 x1 x2 x3 x4 x5 x6 x7 x8 x9 x10 x11 x12 x13 x14)]
  unfold kernelRun0_A
  dsimp only
  sl_unfold_words
  rw [View.canon_unit_zero zero4]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  repeat (first | erw [View.readCov_unit_zero _ zero2] | erw [View.ld_unit_zero zero2] | erw [View.ld_unit_zero zero3] | erw [View.ld_unit_zero zero4])
  rfl

end Opened

end Cert.Proof.Cell

end
-- ==== Proof.CellPOpen.lean ====
/-
  The chunk kernel's body opened: what a grid point leaves in its outputs' buffers and in the carried state, as terms over
  the input blocks and the state the point before left.
-/
module

public import proofs.«01_k».proof.Defs
public import proofs.«01_k».proof.Proof.Gen.CellPIdeal.Value
public import proofs.«01_k».proof.Proof.CellOpen
public import proofs.«01_k».proof.Proof.CellPPay

@[expose] public section

set_option maxRecDepth 16384

noncomputable section

namespace Cert.Proof.CellP

open Idealize.ShloMosaic Idealize.ShloMosaic.TcCoe Idealize.SL.Sem Cert.Proof.Cell Cert.CellPIdeal Cert.CellPIdeal.Gen

section Terms
variable {F : FTy → Type} [FloatOps F] [Named F]

/-- The output rows a point stores. -/
def outT (x0 x1 x3 x4 : Vec F S256x512 .bf16) (x5 : Vec F S256x512 .f32) (x7 : Vec F S1x1x256x1 .f32) (x8 x9 : Vec F S1x1x1x256 .f32)
    (x10 x11 : Vec F S1x512 .f32) (sC : Vec F S512x512 .f32) (sN : Vec F S1x512 .f32) (sm : Vec F S1x1 .f32) : Vec F S256x512 .bf16 :=
  k0_pay1 (k0_pay30 (hid x0 x1 x3 x7 x8 x9 sC sN sm) x10) x5 x11 x4

/-- The vector state a point stores. -/
def stN (x1 : Vec F S256x512 .bf16) (x6 x7 : Vec F S1x1x256x1 .f32) (x8 x9 : Vec F S1x1x1x256 .f32)
    (sN : Vec F S1x512 .f32) (sm : Vec F S1x1 .f32) : Vec F S1x512 .f32 :=
  k0_pay28 sN (k0_pay23 (k0_pay8 x6) (bcol x9) (k0_pay15 (k0_pay11 x9)) (mtcol x7 x8 x9 sm))
    (k0_pay24 (k0_pay15 (k0_pay11 x9)) sm (mtcol x7 x8 x9 sm)) x1

theorem rd0 (xs : Vec F S512x512 .f32) : View.read (Elt F) (View.whole cc0_scratch0) ((Memref.isWhole_whole cc0_scratch0).unread xs) = xs :=
  (Memref.isWhole_whole cc0_scratch0).read_unread xs

theorem rd1 (xs : Vec F S1x512 .f32) : View.read (Elt F) (View.whole cc0_scratch1) ((Memref.isWhole_whole cc0_scratch1).unread xs) = xs :=
  (Memref.isWhole_whole cc0_scratch1).read_unread xs

theorem rd2 (xs : Vec F S1x1 .f32) : View.read (Elt F) (View.whole cc0_scratch2) ((Memref.isWhole_whole cc0_scratch2).unread xs) = xs :=
  (Memref.isWhole_whole cc0_scratch2).read_unread xs

theorem ldA {e : EltTy} (x : Vec F S256x512 e) (h) : View.ld x (Rect.unit ![0, 0] ![256, 512] h) = x := View.ld_unit_zero zero2 h x

theorem ldB {e : EltTy} (x : Vec F S1x512x256 e) (h) : View.ld x (Rect.unit ![0, 0, 0] ![1, 512, 256] h) = x := View.ld_unit_zero zero3 h x

theorem ldC {e : EltTy} (x : Vec F S1x1x256x1 e) (h) : View.ld x (Rect.unit ![0, 0, 0, 0] ![1, 1, 256, 1] h) = x := View.ld_unit_zero zero4 h x

theorem ldD {e : EltTy} (x : Vec F S1x1x1x256 e) (h) : View.ld x (Rect.unit ![0, 0, 0, 0] ![1, 1, 1, 256] h) = x := View.ld_unit_zero zero4 h x

theorem ldE {e : EltTy} (x : Vec F S1x512 e) (h) : View.ld x (Rect.unit ![0, 0] ![1, 512] h) = x := View.ld_unit_zero zero2 h x

theorem ldF {e : EltTy} (x : Vec F S512x512 e) (h) : View.ld x (Rect.unit ![0, 0] ![512, 512] h) = x := View.ld_unit_zero zero2 h x

theorem ldG {e : EltTy} (x : Vec F S1x1 e) (h) : View.ld x (Rect.unit ![0, 0] ![1, 1] h) = x := View.ld_unit_zero zero2 h x

theorem rcF {κ : Kind} {sp : Space} {e : EltTy} (v : View sig κ sp S512x512 e) (w : Vec F S512x512 e) (h) :
    v.readCov (Val := Elt F) [⟨Rect.unit ![0, 0] ![512, 512] h, w⟩] (Rect.unit ![0, 0] ![512, 512] h).toLoadRect = w := View.readCov_unit_zero v zero2 h w

theorem rcE {κ : Kind} {sp : Space} {e : EltTy} (v : View sig κ sp S1x512 e) (w : Vec F S1x512 e) (h) :
    v.readCov (Val := Elt F) [⟨Rect.unit ![0, 0] ![1, 512] h, w⟩] (Rect.unit ![0, 0] ![1, 512] h).toLoadRect = w := View.readCov_unit_zero v zero2 h w

theorem rcG {κ : Kind} {sp : Space} {e : EltTy} (v : View sig κ sp S1x1 e) (w : Vec F S1x1 e) (h) :
    v.readCov (Val := Elt F) [⟨Rect.unit ![0, 0] ![1, 1] h, w⟩] (Rect.unit ![0, 0] ![1, 1] h).toLoadRect = w := View.readCov_unit_zero v zero2 h w

variable (m : (ℓ : Loc nD τ sig) → Buf (Elt F) ℓ) (c : Dev nD) (t : Fin cfg0.N)

set_option maxHeartbeats 1000000 in
/-- The first point of a sequence and a head starts from the empty state. -/
theorem after_A (h0 : t.val % 8 = 0) (h1 : ¬ t.val % 8 = 7) :
    (outsAt0 m c t.val t.isLt).1 = outT (iblk m c 0 t) (iblk m c 1 t) (iblk m c 3 t) (iblk m c 4 t) (iblk m c 5 t) (iblk m c 7 t) (iblk m c 8 t) (iblk m c 9 t) (iblk m c 10 t) (iblk m c 11 t) k0_pay5 k0_pay6 k0_pay7
    ∧ (outsAt0 m c t.val t.isLt).2.2.2.2.1 = k0_pay27 (newC (iblk m c 2 t) (iblk m c 3 t) (iblk m c 7 t) (iblk m c 8 t) (iblk m c 9 t) k0_pay5 k0_pay7)
    ∧ (outsAt0 m c t.val t.isLt).2.2.2.2.2.1 = stN (iblk m c 1 t) (iblk m c 6 t) (iblk m c 7 t) (iblk m c 8 t) (iblk m c 9 t) k0_pay6 k0_pay7
    ∧ (outsAt0 m c t.val t.isLt).2.2.2.2.2.2 = k0_pay29 (newM (iblk m c 7 t) (iblk m c 8 t) (iblk m c 9 t) k0_pay7) := by
  rw [outsAt0_A m c t h0 h1]
  unfold out0_A_12 sout0_A_0 sout0_A_1 sout0_A_2
  dsimp only
  refine ⟨(View.read_writes_eq_canon _ _ _ fun y => cover0_A_12 ..).trans ?_, (View.read_writes_eq_canon _ _ _ fun y => scover0_A_0 ..).trans ?_, (View.read_writes_eq_canon _ _ _ fun y => scover0_A_1 ..).trans ?_, (View.read_writes_eq_canon _ _ _ fun y => scover0_A_2 ..).trans ?_⟩
  all_goals
    unfold kernelRun0_A
    dsimp only
    sl_unfold_words
    first
      | rw [View.canon_cons_unit_zero zero2]
      | rw [View.canon_cons_unit_zero zero4]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, rd0, rd1, rd2]
    simp only [ldA, ldB, ldC, ldD, ldE, ldF, ldG, rcE, rcF, rcG]
    rfl

set_option maxHeartbeats 1000000 in
/-- A point in the middle of a sequence. -/
theorem after_B (h0 : ¬ t.val % 8 = 0) (h1 : ¬ t.val % 8 = 7) (sC : Vec F S512x512 .f32) (sN : Vec F S1x512 .f32) (sm : Vec F S1x1 .f32)
    (hC : (outsAt0 m c (t.val - 1) (Nat.lt_of_le_of_lt (Nat.sub_le _ _) t.isLt)).2.2.2.2.1 = sC)
    (hN : (outsAt0 m c (t.val - 1) (Nat.lt_of_le_of_lt (Nat.sub_le _ _) t.isLt)).2.2.2.2.2.1 = sN)
    (hm : (outsAt0 m c (t.val - 1) (Nat.lt_of_le_of_lt (Nat.sub_le _ _) t.isLt)).2.2.2.2.2.2 = sm) :
    (outsAt0 m c t.val t.isLt).1 = outT (iblk m c 0 t) (iblk m c 1 t) (iblk m c 3 t) (iblk m c 4 t) (iblk m c 5 t) (iblk m c 7 t) (iblk m c 8 t) (iblk m c 9 t) (iblk m c 10 t) (iblk m c 11 t) sC sN sm
    ∧ (outsAt0 m c t.val t.isLt).2.2.2.2.1 = k0_pay27 (newC (iblk m c 2 t) (iblk m c 3 t) (iblk m c 7 t) (iblk m c 8 t) (iblk m c 9 t) sC sm)
    ∧ (outsAt0 m c t.val t.isLt).2.2.2.2.2.1 = stN (iblk m c 1 t) (iblk m c 6 t) (iblk m c 7 t) (iblk m c 8 t) (iblk m c 9 t) sN sm
    ∧ (outsAt0 m c t.val t.isLt).2.2.2.2.2.2 = k0_pay29 (newM (iblk m c 7 t) (iblk m c 8 t) (iblk m c 9 t) sm) := by
  rw [outsAt0_B m c t h0 h1, hC, hN, hm]
  unfold out0_B_12 sout0_B_0 sout0_B_1 sout0_B_2
  dsimp only
  refine ⟨(View.read_writes_eq_canon _ _ _ fun y => cover0_B_12 ..).trans ?_, (View.read_writes_eq_canon _ _ _ fun y => scover0_B_0 ..).trans ?_, (View.read_writes_eq_canon _ _ _ fun y => scover0_B_1 ..).trans ?_, (View.read_writes_eq_canon _ _ _ fun y => scover0_B_2 ..).trans ?_⟩
  all_goals
    unfold kernelRun0_B
    dsimp only
    sl_unfold_words
    first
      | rw [View.canon_cons_unit_zero zero2]
      | rw [View.canon_cons_unit_zero zero4]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, rd0, rd1, rd2]
    simp only [ldA, ldB, ldC, ldD, ldE, ldF, ldG, rcE, rcF, rcG]
    rfl

set_option maxHeartbeats 1000000 in
/-- The last point of a sequence and a head also stores the state. -/
theorem after_C (h0 : ¬ t.val % 8 = 0) (h1 : t.val % 8 = 7) (sC : Vec F S512x512 .f32) (sN : Vec F S1x512 .f32) (sm : Vec F S1x1 .f32)
    (hC : (outsAt0 m c (t.val - 1) (Nat.lt_of_le_of_lt (Nat.sub_le _ _) t.isLt)).2.2.2.2.1 = sC)
    (hN : (outsAt0 m c (t.val - 1) (Nat.lt_of_le_of_lt (Nat.sub_le _ _) t.isLt)).2.2.2.2.2.1 = sN)
    (hm : (outsAt0 m c (t.val - 1) (Nat.lt_of_le_of_lt (Nat.sub_le _ _) t.isLt)).2.2.2.2.2.2 = sm) :
    (outsAt0 m c t.val t.isLt).1 = outT (iblk m c 0 t) (iblk m c 1 t) (iblk m c 3 t) (iblk m c 4 t) (iblk m c 5 t) (iblk m c 7 t) (iblk m c 8 t) (iblk m c 9 t) (iblk m c 10 t) (iblk m c 11 t) sC sN sm
    ∧ (outsAt0 m c t.val t.isLt).2.2.2.2.1 = k0_pay27 (newC (iblk m c 2 t) (iblk m c 3 t) (iblk m c 7 t) (iblk m c 8 t) (iblk m c 9 t) sC sm)
    ∧ (outsAt0 m c t.val t.isLt).2.2.2.2.2.1 = stN (iblk m c 1 t) (iblk m c 6 t) (iblk m c 7 t) (iblk m c 8 t) (iblk m c 9 t) sN sm
    ∧ (outsAt0 m c t.val t.isLt).2.2.2.2.2.2 = k0_pay29 (newM (iblk m c 7 t) (iblk m c 8 t) (iblk m c 9 t) sm)
    ∧ (outsAt0 m c t.val t.isLt).2.1 = k0_pay2 (newC (iblk m c 2 t) (iblk m c 3 t) (iblk m c 7 t) (iblk m c 8 t) (iblk m c 9 t) sC sm)
    ∧ (outsAt0 m c t.val t.isLt).2.2.1 = k0_pay3 (newN (iblk m c 1 t) (iblk m c 6 t) (iblk m c 7 t) (iblk m c 8 t) (iblk m c 9 t) sN sm)
    ∧ (outsAt0 m c t.val t.isLt).2.2.2.1 = k0_pay4 (newM (iblk m c 7 t) (iblk m c 8 t) (iblk m c 9 t) sm) := by
  rw [outsAt0_C m c t h0 h1, hC, hN, hm]
  unfold out0_C_12 sout0_C_0 sout0_C_1 sout0_C_2 out0_C_13 out0_C_14 out0_C_15
  dsimp only
  refine ⟨(View.read_writes_eq_canon _ _ _ fun y => cover0_C_12 ..).trans ?_, (View.read_writes_eq_canon _ _ _ fun y => scover0_C_0 ..).trans ?_, (View.read_writes_eq_canon _ _ _ fun y => scover0_C_1 ..).trans ?_, (View.read_writes_eq_canon _ _ _ fun y => scover0_C_2 ..).trans ?_, (View.read_writes_eq_canon _ _ _ fun y => cover0_C_13 ..).trans ?_, (View.read_writes_eq_canon _ _ _ fun y => cover0_C_14 ..).trans ?_, (View.read_writes_eq_canon _ _ _ fun y => cover0_C_15 ..).trans ?_⟩
  all_goals
    unfold kernelRun0_C
    dsimp only
    sl_unfold_words
    first
      | rw [View.canon_cons_unit_zero zero2]
      | rw [View.canon_cons_unit_zero zero4]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, rd0, rd1, rd2]
    simp only [ldA, ldB, ldC, ldD, ldE, ldF, ldG, rcE, rcF, rcG]
    rfl

end Terms

end Cert.Proof.CellP

end
-- ==== Proof.CellPBlk.lean ====
/-
  The prompt cell kernel's input blocks: which elements of the arguments a grid point sees.  Point (4 s + h) 8 + c works on
  chunk c of sequence s at head h: the 256 rows from row 2048 s + 256 c on.
-/
module

public import proofs.«01_k».proof.Defs
public import proofs.«01_k».proof.Proof.Gen.CellPIdeal.Value
public import proofs.«01_k».proof.Proof.CellPTok

@[expose] public section

set_option maxRecDepth 16384

noncomputable section

namespace Cert.Proof.CellP

open Idealize.ShloMosaic Idealize.ShloMosaic.TcCoe Idealize.SL.Sem Cert.CellPIdeal Cert.CellPIdeal.Gen Cert.CellPIdeal.Value

variable (m : (ℓ : Loc nD τ sig) → Buf (Elt Ideal) ℓ)

/-- Row `j` of row block `r`. -/
def row (r : Fin 64) (j : Fin 256) : Fin 16384 := ⟨r.val * 256 + j.val, by have := r.isLt; have := j.isLt; omega⟩

/-- Gate column `r`. -/
def gcol (r : Fin 8) : Fin 128 := ⟨r.val, by have := r.isLt; omega⟩

/-- The input gate's and the forget gate's row for a head. -/
def gin (h : Fin 4) : Fin 8 := ⟨h.val, by have := h.isLt; omega⟩
def gfo (h : Fin 4) : Fin 8 := ⟨4 + h.val, by have := h.isLt; omega⟩

/-! ### The arrays the host prepares -/

theorem V_v1 (c : Dev nD) (r : Fin 64) (x : Fin 2048) (j : Fin 256) :
    V m c main_v1 (ix3 r x j) = m ((c : Thread nD τ).loc main_arg1) (ix2 (row r j) x) := by
  unfold V
  after_results
  pointwise
  rfl

theorem V_v2 (c : Dev nD) (x : Fin 2048) : V m c main_v2 (ix2 0 x) = m ((c : Thread nD τ).loc main_arg6) (ix1 x) := by
  unfold V
  after_results
  pointwise

theorem V_v3 (c : Dev nD) (x : Fin 2048) : V m c main_v3 (ix2 0 x) = m ((c : Thread nD τ).loc main_arg7) (ix1 x) := by
  unfold V
  after_results
  pointwise

theorem V_v7 (c : Dev nD) (r : Fin 64) (g : Fin 8) (j : Fin 256) :
    V m c main_v7 (ix4 r g j 0) = m ((c : Thread nD τ).loc main_arg5) (ix2 (row r j) (gcol g)) := by
  unfold V
  after_results
  pointwise
  rfl

theorem V_v9 (c : Dev nD) (r : Fin 64) (g : Fin 8) (j : Fin 256) :
    V m c main_v9 (ix4 r g 0 j) = m ((c : Thread nD τ).loc main_arg5) (ix2 (row r j) (gcol g)) := by
  unfold V
  after_results
  pointwise
  rfl

/-! ### Where each window's block lies -/

theorem idxA : ∀ t : Fin cfg0.N, (win0_0.index t (0 : Fin 2) = t.val / 32 * 8 + t.val % 8 ∧ win0_0.index t (1 : Fin 2) = t.val / 8 % 4)
    ∧ (win0_1.index t (0 : Fin 2) = t.val / 32 * 8 + t.val % 8 ∧ win0_1.index t (1 : Fin 2) = t.val / 8 % 4)
    ∧ (win0_2.index t (0 : Fin 3) = t.val / 32 * 8 + t.val % 8 ∧ win0_2.index t (1 : Fin 3) = t.val / 8 % 4 ∧ win0_2.index t (2 : Fin 3) = 0)
    ∧ (win0_3.index t (0 : Fin 2) = t.val / 32 * 8 + t.val % 8 ∧ win0_3.index t (1 : Fin 2) = t.val / 8 % 4)
    ∧ (win0_4.index t (0 : Fin 2) = t.val / 32 * 8 + t.val % 8 ∧ win0_4.index t (1 : Fin 2) = t.val / 8 % 4)
    ∧ (win0_5.index t (0 : Fin 2) = t.val / 32 * 8 + t.val % 8 ∧ win0_5.index t (1 : Fin 2) = 4 + t.val / 8 % 4) :=
  (by decide +kernel : ∀ t : Fin grid0.N, _)

theorem idxB : ∀ t : Fin cfg0.N, (win0_6.index t (0 : Fin 4) = t.val / 32 * 8 + t.val % 8 ∧ win0_6.index t (1 : Fin 4) = t.val / 8 % 4 ∧ win0_6.index t (2 : Fin 4) = 0 ∧ win0_6.index t (3 : Fin 4) = 0)
    ∧ (win0_7.index t (0 : Fin 4) = t.val / 32 * 8 + t.val % 8 ∧ win0_7.index t (1 : Fin 4) = 4 + t.val / 8 % 4 ∧ win0_7.index t (2 : Fin 4) = 0 ∧ win0_7.index t (3 : Fin 4) = 0)
    ∧ (win0_8.index t (0 : Fin 4) = t.val / 32 * 8 + t.val % 8 ∧ win0_8.index t (1 : Fin 4) = t.val / 8 % 4 ∧ win0_8.index t (2 : Fin 4) = 0 ∧ win0_8.index t (3 : Fin 4) = 0)
    ∧ (win0_9.index t (0 : Fin 4) = t.val / 32 * 8 + t.val % 8 ∧ win0_9.index t (1 : Fin 4) = 4 + t.val / 8 % 4 ∧ win0_9.index t (2 : Fin 4) = 0 ∧ win0_9.index t (3 : Fin 4) = 0)
    ∧ (win0_10.index t (0 : Fin 2) = 0 ∧ win0_10.index t (1 : Fin 2) = t.val / 8 % 4)
    ∧ (win0_11.index t (0 : Fin 2) = 0 ∧ win0_11.index t (1 : Fin 2) = t.val / 8 % 4) :=
  (by decide +kernel : ∀ t : Fin grid0.N, _)

theorem idxD : ∀ t : Fin cfg0.N, (win0_12.index t (0 : Fin 2) = t.val / 32 * 8 + t.val % 8 ∧ win0_12.index t (1 : Fin 2) = t.val / 8 % 4)
    ∧ (win0_13.index t (0 : Fin 4) = t.val / 32 ∧ win0_13.index t (1 : Fin 4) = t.val / 8 % 4 ∧ win0_13.index t (2 : Fin 4) = 0 ∧ win0_13.index t (3 : Fin 4) = 0)
    ∧ (win0_14.index t (0 : Fin 4) = t.val / 32 ∧ win0_14.index t (1 : Fin 4) = t.val / 8 % 4 ∧ win0_14.index t (2 : Fin 4) = 0 ∧ win0_14.index t (3 : Fin 4) = 0)
    ∧ (win0_15.index t (0 : Fin 4) = t.val / 32 ∧ win0_15.index t (1 : Fin 4) = t.val / 8 % 4 ∧ win0_15.index t (2 : Fin 4) = 0 ∧ win0_15.index t (3 : Fin 4) = 0) :=
  (by decide +kernel : ∀ t : Fin grid0.N, _)

/-- A point's sequence, head and row block. -/
def sq (t : Fin cfg0.N) : Fin 8 := ⟨t.val / 32, by
  have h := lt_of_lt_of_eq t.isLt (show cfg0.N = 256 from N_0)
  omega⟩

def hd (t : Fin cfg0.N) : Fin 4 := ⟨t.val / 8 % 4, by omega⟩

def rb (t : Fin cfg0.N) : Fin 64 := ⟨t.val / 32 * 8 + t.val % 8, by
  have h := lt_of_lt_of_eq t.isLt (show cfg0.N = 256 from N_0)
  omega⟩

/-- A chunk's row `j` within its sequence. -/
def pos (t : Fin cfg0.N) (j : Fin 256) : Fin 2048 := ⟨256 * (t.val % 8) + j.val, by have := j.isLt; omega⟩

theorem row_rb (t : Fin cfg0.N) (j : Fin 256) : row (rb t) j = tok (sq t) (pos t j) := Fin.ext (by
  simp only [row, rb, tok, sq, pos]
  omega)

/-! ### The blocks -/

theorem blk0 (c : Dev nD) (t : Fin cfg0.N) (j : Fin 256) (x : Fin 512) :
    iblk m c 0 t (ix2 j x) = m ((c : Thread nD τ).loc main_arg0) (ix2 (tok (sq t) (pos t j)) (col (hd t) x)) := by
  obtain ⟨⟨e0, e1⟩, -⟩ := idxA t
  rw [← row_rb]
  refine Eq.trans ?_ (congrFun (V_main_arg0 m c) _)
  show V m c main_arg0 (((cfg0.win 0).blk t).view.emb (ix2 j x)) = _
  congr 1
  funext a; apply Fin.ext
  match a with
  | ⟨0, _⟩ => show win0_0.index t (0 : Fin 2) * 256 + 1 * j.val = (t.val / 32 * 8 + t.val % 8) * 256 + j.val; omega
  | ⟨1, _⟩ => show win0_0.index t (1 : Fin 2) * 512 + 1 * x.val = t.val / 8 % 4 * 512 + x.val; omega

theorem blk1 (c : Dev nD) (t : Fin cfg0.N) (j : Fin 256) (x : Fin 512) :
    iblk m c 1 t (ix2 j x) = m ((c : Thread nD τ).loc main_arg1) (ix2 (tok (sq t) (pos t j)) (col (hd t) x)) := by
  obtain ⟨-, ⟨e0, e1⟩, -⟩ := idxA t
  rw [← row_rb]
  refine Eq.trans ?_ (congrFun (V_main_arg1 m c) _)
  show V m c main_arg1 (((cfg0.win 1).blk t).view.emb (ix2 j x)) = _
  congr 1
  funext a; apply Fin.ext
  match a with
  | ⟨0, _⟩ => show win0_1.index t (0 : Fin 2) * 256 + 1 * j.val = (t.val / 32 * 8 + t.val % 8) * 256 + j.val; omega
  | ⟨1, _⟩ => show win0_1.index t (1 : Fin 2) * 512 + 1 * x.val = t.val / 8 % 4 * 512 + x.val; omega

theorem blk3 (c : Dev nD) (t : Fin cfg0.N) (j : Fin 256) (x : Fin 512) :
    iblk m c 3 t (ix2 j x) = m ((c : Thread nD τ).loc main_arg2) (ix2 (tok (sq t) (pos t j)) (col (hd t) x)) := by
  obtain ⟨-, -, -, ⟨e0, e1⟩, -⟩ := idxA t
  rw [← row_rb]
  refine Eq.trans ?_ (congrFun (V_main_arg2 m c) _)
  show V m c main_arg2 (((cfg0.win 3).blk t).view.emb (ix2 j x)) = _
  congr 1
  funext a; apply Fin.ext
  match a with
  | ⟨0, _⟩ => show win0_3.index t (0 : Fin 2) * 256 + 1 * j.val = (t.val / 32 * 8 + t.val % 8) * 256 + j.val; omega
  | ⟨1, _⟩ => show win0_3.index t (1 : Fin 2) * 512 + 1 * x.val = t.val / 8 % 4 * 512 + x.val; omega

theorem blk4 (c : Dev nD) (t : Fin cfg0.N) (j : Fin 256) (x : Fin 512) :
    iblk m c 4 t (ix2 j x) = m ((c : Thread nD τ).loc main_arg3) (ix2 (tok (sq t) (pos t j)) (col (hd t) x)) := by
  obtain ⟨-, -, -, -, ⟨e0, e1⟩, -⟩ := idxA t
  rw [← row_rb]
  refine Eq.trans ?_ (congrFun (V_main_arg3 m c) _)
  show V m c main_arg3 (((cfg0.win 4).blk t).view.emb (ix2 j x)) = _
  congr 1
  funext a; apply Fin.ext
  match a with
  | ⟨0, _⟩ => show win0_4.index t (0 : Fin 2) * 256 + 1 * j.val = (t.val / 32 * 8 + t.val % 8) * 256 + j.val; omega
  | ⟨1, _⟩ => show win0_4.index t (1 : Fin 2) * 512 + 1 * x.val = t.val / 8 % 4 * 512 + x.val; omega

theorem blk5 (c : Dev nD) (t : Fin cfg0.N) (j : Fin 256) (x : Fin 512) :
    iblk m c 5 t (ix2 j x) = m ((c : Thread nD τ).loc main_arg4) (ix2 (tok (sq t) (pos t j)) (zc (col (hd t) x))) := by
  obtain ⟨-, -, -, -, -, ⟨e0, e1⟩⟩ := idxA t
  rw [← row_rb]
  refine Eq.trans ?_ (congrFun (V_main_arg4 m c) _)
  show V m c main_arg4 (((cfg0.win 5).blk t).view.emb (ix2 j x)) = _
  congr 1
  funext a; apply Fin.ext
  match a with
  | ⟨0, _⟩ => show win0_5.index t (0 : Fin 2) * 256 + 1 * j.val = (t.val / 32 * 8 + t.val % 8) * 256 + j.val; omega
  | ⟨1, _⟩ => show win0_5.index t (1 : Fin 2) * 512 + 1 * x.val = 2048 + (t.val / 8 % 4 * 512 + x.val); omega

theorem blk2 (c : Dev nD) (t : Fin cfg0.N) (x : Fin 512) (j : Fin 256) :
    iblk m c 2 t (ix3 0 x j) = m ((c : Thread nD τ).loc main_arg1) (ix2 (tok (sq t) (pos t j)) (col (hd t) x)) := by
  obtain ⟨-, -, ⟨e0, e1, e2⟩, -⟩ := idxA t
  rw [← row_rb]
  refine Eq.trans ?_ (V_v1 m c (rb t) (col (hd t) x) j)
  show V m c main_v1 (((cfg0.win 2).blk t).view.emb (ix3 0 x j)) = _
  congr 1
  funext a; apply Fin.ext
  match a with
  | ⟨0, _⟩ => show win0_2.index t (0 : Fin 3) * 1 + 1 * 0 = t.val / 32 * 8 + t.val % 8; omega
  | ⟨1, _⟩ => show win0_2.index t (1 : Fin 3) * 512 + 1 * x.val = t.val / 8 % 4 * 512 + x.val; omega
  | ⟨2, _⟩ => show win0_2.index t (2 : Fin 3) * 256 + 1 * j.val = j.val; omega

theorem blk6 (c : Dev nD) (t : Fin cfg0.N) (j : Fin 256) :
    iblk m c 6 t (ix4 0 0 j 0) = m ((c : Thread nD τ).loc main_arg5) (ix2 (tok (sq t) (pos t j)) (gi (hd t))) := by
  obtain ⟨⟨e0, e1, e2, e3⟩, -⟩ := idxB t
  rw [← row_rb]
  refine Eq.trans ?_ (V_v7 m c (rb t) (gin (hd t)) j)
  show V m c main_v7 (((cfg0.win 6).blk t).view.emb (ix4 0 0 j 0)) = _
  congr 1
  funext a; apply Fin.ext
  match a with
  | ⟨0, _⟩ => show win0_6.index t (0 : Fin 4) * 1 + 1 * 0 = t.val / 32 * 8 + t.val % 8; omega
  | ⟨1, _⟩ => show win0_6.index t (1 : Fin 4) * 1 + 1 * 0 = t.val / 8 % 4; omega
  | ⟨2, _⟩ => show win0_6.index t (2 : Fin 4) * 256 + 1 * j.val = j.val; omega
  | ⟨3, _⟩ => show win0_6.index t (3 : Fin 4) * 1 + 1 * 0 = 0; omega

theorem blk7 (c : Dev nD) (t : Fin cfg0.N) (j : Fin 256) :
    iblk m c 7 t (ix4 0 0 j 0) = m ((c : Thread nD τ).loc main_arg5) (ix2 (tok (sq t) (pos t j)) (gf (hd t))) := by
  obtain ⟨-, ⟨e0, e1, e2, e3⟩, -⟩ := idxB t
  rw [← row_rb]
  refine Eq.trans ?_ (V_v7 m c (rb t) (gfo (hd t)) j)
  show V m c main_v7 (((cfg0.win 7).blk t).view.emb (ix4 0 0 j 0)) = _
  congr 1
  funext a; apply Fin.ext
  match a with
  | ⟨0, _⟩ => show win0_7.index t (0 : Fin 4) * 1 + 1 * 0 = t.val / 32 * 8 + t.val % 8; omega
  | ⟨1, _⟩ => show win0_7.index t (1 : Fin 4) * 1 + 1 * 0 = 4 + t.val / 8 % 4; omega
  | ⟨2, _⟩ => show win0_7.index t (2 : Fin 4) * 256 + 1 * j.val = j.val; omega
  | ⟨3, _⟩ => show win0_7.index t (3 : Fin 4) * 1 + 1 * 0 = 0; omega

theorem blk8 (c : Dev nD) (t : Fin cfg0.N) (j : Fin 256) :
    iblk m c 8 t (ix4 0 0 0 j) = m ((c : Thread nD τ).loc main_arg5) (ix2 (tok (sq t) (pos t j)) (gi (hd t))) := by
  obtain ⟨-, -, ⟨e0, e1, e2, e3⟩, -⟩ := idxB t
  rw [← row_rb]
  refine Eq.trans ?_ (V_v9 m c (rb t) (gin (hd t)) j)
  show V m c main_v9 (((cfg0.win 8).blk t).view.emb (ix4 0 0 0 j)) = _
  congr 1
  funext a; apply Fin.ext
  match a with
  | ⟨0, _⟩ => show win0_8.index t (0 : Fin 4) * 1 + 1 * 0 = t.val / 32 * 8 + t.val % 8; omega
  | ⟨1, _⟩ => show win0_8.index t (1 : Fin 4) * 1 + 1 * 0 = t.val / 8 % 4; omega
  | ⟨2, _⟩ => show win0_8.index t (2 : Fin 4) * 1 + 1 * 0 = 0; omega
  | ⟨3, _⟩ => show win0_8.index t (3 : Fin 4) * 256 + 1 * j.val = j.val; omega

theorem blk9 (c : Dev nD) (t : Fin cfg0.N) (j : Fin 256) :
    iblk m c 9 t (ix4 0 0 0 j) = m ((c : Thread nD τ).loc main_arg5) (ix2 (tok (sq t) (pos t j)) (gf (hd t))) := by
  obtain ⟨-, -, -, ⟨e0, e1, e2, e3⟩, -⟩ := idxB t
  rw [← row_rb]
  refine Eq.trans ?_ (V_v9 m c (rb t) (gfo (hd t)) j)
  show V m c main_v9 (((cfg0.win 9).blk t).view.emb (ix4 0 0 0 j)) = _
  congr 1
  funext a; apply Fin.ext
  match a with
  | ⟨0, _⟩ => show win0_9.index t (0 : Fin 4) * 1 + 1 * 0 = t.val / 32 * 8 + t.val % 8; omega
  | ⟨1, _⟩ => show win0_9.index t (1 : Fin 4) * 1 + 1 * 0 = 4 + t.val / 8 % 4; omega
  | ⟨2, _⟩ => show win0_9.index t (2 : Fin 4) * 1 + 1 * 0 = 0; omega
  | ⟨3, _⟩ => show win0_9.index t (3 : Fin 4) * 256 + 1 * j.val = j.val; omega

theorem blk10 (c : Dev nD) (t : Fin cfg0.N) (x : Fin 512) :
    iblk m c 10 t (ix2 0 x) = m ((c : Thread nD τ).loc main_arg6) (ix1 (col (hd t) x)) := by
  obtain ⟨-, -, -, -, ⟨e0, e1⟩, -⟩ := idxB t
  refine Eq.trans ?_ (V_v2 m c (col (hd t) x))
  show V m c main_v2 (((cfg0.win 10).blk t).view.emb (ix2 0 x)) = _
  congr 1
  funext a; apply Fin.ext
  match a with
  | ⟨0, _⟩ => show win0_10.index t (0 : Fin 2) * 1 + 1 * 0 = 0; omega
  | ⟨1, _⟩ => show win0_10.index t (1 : Fin 2) * 512 + 1 * x.val = t.val / 8 % 4 * 512 + x.val; omega

theorem blk11 (c : Dev nD) (t : Fin cfg0.N) (x : Fin 512) :
    iblk m c 11 t (ix2 0 x) = m ((c : Thread nD τ).loc main_arg7) (ix1 (col (hd t) x)) := by
  obtain ⟨-, -, -, -, -, ⟨e0, e1⟩⟩ := idxB t
  refine Eq.trans ?_ (V_v3 m c (col (hd t) x))
  show V m c main_v3 (((cfg0.win 11).blk t).view.emb (ix2 0 x)) = _
  congr 1
  funext a; apply Fin.ext
  match a with
  | ⟨0, _⟩ => show win0_11.index t (0 : Fin 2) * 1 + 1 * 0 = 0; omega
  | ⟨1, _⟩ => show win0_11.index t (1 : Fin 2) * 512 + 1 * x.val = t.val / 8 % 4 * 512 + x.val; omega

/-! ### Where each output's block lies -/

theorem emb12 (t : Fin cfg0.N) (j : Fin 256) (x : Fin 512) :
    ((cfg0.win 12).blk t).view.emb (ix2 j x) = ix2 (tok (sq t) (pos t j)) (col (hd t) x) := by
  obtain ⟨⟨e0, e1⟩, -⟩ := idxD t
  rw [← row_rb]
  funext a; apply Fin.ext
  match a with
  | ⟨0, _⟩ => show win0_12.index t (0 : Fin 2) * 256 + 1 * j.val = (t.val / 32 * 8 + t.val % 8) * 256 + j.val; omega
  | ⟨1, _⟩ => show win0_12.index t (1 : Fin 2) * 512 + 1 * x.val = t.val / 8 % 4 * 512 + x.val; omega

theorem emb13 (t : Fin cfg0.N) (x e : Fin 512) :
    ((cfg0.win 13).blk t).view.emb (ix4 0 0 x e) = ix4 (sq t) (hd t) x e := by
  obtain ⟨-, ⟨e0, e1, e2, e3⟩, -⟩ := idxD t
  funext a; apply Fin.ext
  match a with
  | ⟨0, _⟩ => show win0_13.index t (0 : Fin 4) * 1 + 1 * 0 = t.val / 32; omega
  | ⟨1, _⟩ => show win0_13.index t (1 : Fin 4) * 1 + 1 * 0 = t.val / 8 % 4; omega
  | ⟨2, _⟩ => show win0_13.index t (2 : Fin 4) * 512 + 1 * x.val = x.val; omega
  | ⟨3, _⟩ => show win0_13.index t (3 : Fin 4) * 512 + 1 * e.val = e.val; omega

theorem emb14 (t : Fin cfg0.N) (x : Fin 512) :
    ((cfg0.win 14).blk t).view.emb (ix4 0 0 0 x) = ix4 (sq t) (hd t) 0 x := by
  obtain ⟨-, -, ⟨e0, e1, e2, e3⟩, -⟩ := idxD t
  funext a; apply Fin.ext
  match a with
  | ⟨0, _⟩ => show win0_14.index t (0 : Fin 4) * 1 + 1 * 0 = t.val / 32; omega
  | ⟨1, _⟩ => show win0_14.index t (1 : Fin 4) * 1 + 1 * 0 = t.val / 8 % 4; omega
  | ⟨2, _⟩ => show win0_14.index t (2 : Fin 4) * 1 + 1 * 0 = 0; omega
  | ⟨3, _⟩ => show win0_14.index t (3 : Fin 4) * 512 + 1 * x.val = x.val; omega

theorem emb15 (t : Fin cfg0.N) (y : Fin 128) :
    ((cfg0.win 15).blk t).view.emb (ix4 0 0 0 y) = ix4 (sq t) (hd t) 0 y := by
  obtain ⟨-, -, -, ⟨e0, e1, e2, e3⟩⟩ := idxD t
  funext a; apply Fin.ext
  match a with
  | ⟨0, _⟩ => show win0_15.index t (0 : Fin 4) * 1 + 1 * 0 = t.val / 32; omega
  | ⟨1, _⟩ => show win0_15.index t (1 : Fin 4) * 1 + 1 * 0 = t.val / 8 % 4; omega
  | ⟨2, _⟩ => show win0_15.index t (2 : Fin 4) * 1 + 1 * 0 = 0; omega
  | ⟨3, _⟩ => show win0_15.index t (3 : Fin 4) * 128 + 1 * y.val = y.val; omega

/-- The point of a sequence, a head and a chunk. -/
def pt (s : Fin 8) (h : Fin 4) (k : Fin 8) : Fin cfg0.N := ⟨(s.val * 4 + h.val) * 8 + k.val, by
  rw [show cfg0.N = 256 from N_0]
  have := s.isLt; have := h.isLt; have := k.isLt
  omega⟩

/-! ### Every index of a result lies in a block that is written back -/

theorem mem12 (t : Fin cfg0.N) (i : S16384x2048.Idx) :
    i ∈ ((cfg0.win 12).blk t).view.set ↔ ∀ a, win0_12.index t a * win0_12.size a ≤ (i a : Nat) ∧ (i a : Nat) < win0_12.index t a * win0_12.size a + win0_12.xsize (grid0.coords t) a := by
  show i ∈ ((View.whole main_v10_0).slice (win0_12.rect t)).set ↔ _
  rw [View.set_slice_whole, Rect.mem_set_unit]

theorem mem13 (t : Fin cfg0.N) (i : S8x4x512x512.Idx) :
    i ∈ ((cfg0.win 13).blk t).view.set ↔ ∀ a, win0_13.index t a * win0_13.size a ≤ (i a : Nat) ∧ (i a : Nat) < win0_13.index t a * win0_13.size a + win0_13.xsize (grid0.coords t) a := by
  show i ∈ ((View.whole main_v10_1).slice (win0_13.rect t)).set ↔ _
  rw [View.set_slice_whole, Rect.mem_set_unit]

theorem mem14 (t : Fin cfg0.N) (i : S8x4x1x512.Idx) :
    i ∈ ((cfg0.win 14).blk t).view.set ↔ ∀ a, win0_14.index t a * win0_14.size a ≤ (i a : Nat) ∧ (i a : Nat) < win0_14.index t a * win0_14.size a + win0_14.xsize (grid0.coords t) a := by
  show i ∈ ((View.whole main_v10_2).slice (win0_14.rect t)).set ↔ _
  rw [View.set_slice_whole, Rect.mem_set_unit]

theorem mem15 (t : Fin cfg0.N) (i : S8x4x1x128.Idx) :
    i ∈ ((cfg0.win 15).blk t).view.set ↔ ∀ a, win0_15.index t a * win0_15.size a ≤ (i a : Nat) ∧ (i a : Nat) < win0_15.index t a * win0_15.size a + win0_15.xsize (grid0.coords t) a := by
  show i ∈ ((View.whole main_v10_3).slice (win0_15.rect t)).set ↔ _
  rw [View.set_slice_whole, Rect.mem_set_unit]

theorem cover12 (i : S16384x2048.Idx) : ∃ t : Fin cfg0.N, (cfg0.win 12).flush t = true ∧ i ∈ ((cfg0.win 12).blk t).view.set := by
  have h0 : (i 0).val < 16384 := (i 0).isLt
  have h1 : (i 1).val < 2048 := (i 1).isLt
  refine ⟨pt ⟨(i 0).val / 2048, by omega⟩ ⟨(i 1).val / 512, by omega⟩ ⟨(i 0).val % 2048 / 256, by omega⟩, flush0_12 _, ?_⟩
  obtain ⟨⟨e0, e1⟩, -⟩ := idxD (pt ⟨(i 0).val / 2048, by omega⟩ ⟨(i 1).val / 512, by omega⟩ ⟨(i 0).val % 2048 / 256, by omega⟩)
  simp only [pt] at e0 e1
  rw [mem12]
  intro a
  match a with
  | ⟨0, _⟩ => show win0_12.index (pt _ _ _) (0 : Fin 2) * 256 ≤ (i 0).val ∧ (i 0).val < win0_12.index (pt _ _ _) (0 : Fin 2) * 256 + 256; simp only [pt]; omega
  | ⟨1, _⟩ => show win0_12.index (pt _ _ _) (1 : Fin 2) * 512 ≤ (i 1).val ∧ (i 1).val < win0_12.index (pt _ _ _) (1 : Fin 2) * 512 + 512; simp only [pt]; omega

theorem cover13 (i : S8x4x512x512.Idx) : ∃ t : Fin cfg0.N, (cfg0.win 13).flush t = true ∧ i ∈ ((cfg0.win 13).blk t).view.set := by
  have h0 : (i 0).val < 8 := (i 0).isLt
  have h1 : (i 1).val < 4 := (i 1).isLt
  have h2 : (i 2).val < 512 := (i 2).isLt
  have h3 : (i 3).val < 512 := (i 3).isLt
  refine ⟨pt (i 0) (i 1) 7, (flush0_13 _).mpr (by show (((i 0).val * 4 + (i 1).val) * 8 + 7) % 8 = 7; omega), ?_⟩
  obtain ⟨-, ⟨e0, e1, e2, e3⟩, -⟩ := idxD (pt (i 0) (i 1) 7)
  simp only [pt] at e0 e1 e2 e3
  rw [mem13]
  intro a
  match a with
  | ⟨0, _⟩ => show win0_13.index (pt _ _ _) (0 : Fin 4) * 1 ≤ (i 0).val ∧ (i 0).val < win0_13.index (pt _ _ _) (0 : Fin 4) * 1 + 1; simp only [pt]; omega
  | ⟨1, _⟩ => show win0_13.index (pt _ _ _) (1 : Fin 4) * 1 ≤ (i 1).val ∧ (i 1).val < win0_13.index (pt _ _ _) (1 : Fin 4) * 1 + 1; simp only [pt]; omega
  | ⟨2, _⟩ => show win0_13.index (pt _ _ _) (2 : Fin 4) * 512 ≤ (i 2).val ∧ (i 2).val < win0_13.index (pt _ _ _) (2 : Fin 4) * 512 + 512; simp only [pt]; omega
  | ⟨3, _⟩ => show win0_13.index (pt _ _ _) (3 : Fin 4) * 512 ≤ (i 3).val ∧ (i 3).val < win0_13.index (pt _ _ _) (3 : Fin 4) * 512 + 512; simp only [pt]; omega

theorem cover14 (i : S8x4x1x512.Idx) : ∃ t : Fin cfg0.N, (cfg0.win 14).flush t = true ∧ i ∈ ((cfg0.win 14).blk t).view.set := by
  have h0 : (i 0).val < 8 := (i 0).isLt
  have h1 : (i 1).val < 4 := (i 1).isLt
  have h2 : (i 2).val < 1 := (i 2).isLt
  have h3 : (i 3).val < 512 := (i 3).isLt
  refine ⟨pt (i 0) (i 1) 7, (flush0_14 _).mpr (by show (((i 0).val * 4 + (i 1).val) * 8 + 7) % 8 = 7; omega), ?_⟩
  obtain ⟨-, -, ⟨e0, e1, e2, e3⟩, -⟩ := idxD (pt (i 0) (i 1) 7)
  simp only [pt] at e0 e1 e2 e3
  rw [mem14]
  intro a
  match a with
  | ⟨0, _⟩ => show win0_14.index (pt _ _ _) (0 : Fin 4) * 1 ≤ (i 0).val ∧ (i 0).val < win0_14.index (pt _ _ _) (0 : Fin 4) * 1 + 1; simp only [pt]; omega
  | ⟨1, _⟩ => show win0_14.index (pt _ _ _) (1 : Fin 4) * 1 ≤ (i 1).val ∧ (i 1).val < win0_14.index (pt _ _ _) (1 : Fin 4) * 1 + 1; simp only [pt]; omega
  | ⟨2, _⟩ => show win0_14.index (pt _ _ _) (2 : Fin 4) * 1 ≤ (i 2).val ∧ (i 2).val < win0_14.index (pt _ _ _) (2 : Fin 4) * 1 + 1; simp only [pt]; omega
  | ⟨3, _⟩ => show win0_14.index (pt _ _ _) (3 : Fin 4) * 512 ≤ (i 3).val ∧ (i 3).val < win0_14.index (pt _ _ _) (3 : Fin 4) * 512 + 512; simp only [pt]; omega

theorem cover15 (i : S8x4x1x128.Idx) : ∃ t : Fin cfg0.N, (cfg0.win 15).flush t = true ∧ i ∈ ((cfg0.win 15).blk t).view.set := by
  have h0 : (i 0).val < 8 := (i 0).isLt
  have h1 : (i 1).val < 4 := (i 1).isLt
  have h2 : (i 2).val < 1 := (i 2).isLt
  have h3 : (i 3).val < 128 := (i 3).isLt
  refine ⟨pt (i 0) (i 1) 7, (flush0_15 _).mpr (by show (((i 0).val * 4 + (i 1).val) * 8 + 7) % 8 = 7; omega), ?_⟩
  obtain ⟨-, -, -, ⟨e0, e1, e2, e3⟩⟩ := idxD (pt (i 0) (i 1) 7)
  simp only [pt] at e0 e1 e2 e3
  rw [mem15]
  intro a
  match a with
  | ⟨0, _⟩ => show win0_15.index (pt _ _ _) (0 : Fin 4) * 1 ≤ (i 0).val ∧ (i 0).val < win0_15.index (pt _ _ _) (0 : Fin 4) * 1 + 1; simp only [pt]; omega
  | ⟨1, _⟩ => show win0_15.index (pt _ _ _) (1 : Fin 4) * 1 ≤ (i 1).val ∧ (i 1).val < win0_15.index (pt _ _ _) (1 : Fin 4) * 1 + 1; simp only [pt]; omega
  | ⟨2, _⟩ => show win0_15.index (pt _ _ _) (2 : Fin 4) * 1 ≤ (i 2).val ∧ (i 2).val < win0_15.index (pt _ _ _) (2 : Fin 4) * 1 + 1; simp only [pt]; omega
  | ⟨3, _⟩ => show win0_15.index (pt _ _ _) (3 : Fin 4) * 128 ≤ (i 3).val ∧ (i 3).val < win0_15.index (pt _ _ _) (3 : Fin 4) * 128 + 128; simp only [pt]; omega

end Cert.Proof.CellP

end
-- ==== Proof.CellPSeq.lean ====
/-
  The prompt cell's sequences of real numbers, and the state the kernel carries along them: if the launch arguments are
  finite, then before each chunk the scratch buffers hold what the tokens before the chunk sum up to.
-/
module

public import proofs.«01_k».proof.Defs
public import proofs.«01_k».proof.Proof.Gen.CellPIdeal.Value
public import proofs.«01_k».proof.Proof.Gen.Pre_finite_inputs
public import proofs.«01_k».proof.Proof.CellPMath
public import proofs.«01_k».proof.Proof.CellPPay
public import proofs.«01_k».proof.Proof.CellPOpen
public import proofs.«01_k».proof.Proof.CellPTok
public import proofs.«01_k».proof.Proof.CellPBlk

@[expose] public section

set_option maxRecDepth 16384

noncomputable section

namespace Cert.Proof.CellP

open Idealize.ShloMosaic Idealize.ShloMosaic.TcCoe Idealize.SL.Sem Cert.Proof.Cell Cert.CellPIdeal Cert.CellPIdeal.Gen Cert.CellPIdeal.Value

/-! ### The precondition -/

theorem inf_bf16 : Ideal.ofBits .bf16 0x7F80#16 = (⊤ : EReal) := by simp [Ideal.ofBits, Ideal.ieee]

theorem inf_f32 : Ideal.ofBits .f32 0x7F800000#32 = (⊤ : EReal) := by simp [Ideal.ofBits, Ideal.ieee]

/-- A number whose absolute value is below infinity is real. -/
theorem real_of_abs (x b : EReal) (hb : b = ⊤) (h : Ideal.cmp .olt (max x (-x)) b = 1#1) : x = (x.toReal : EReal) := by
  have h2 : max x (-x) < ⊤ := hb ▸ (Ideal.cmp_olt_eq_one _ _).1 h
  refine (EReal.coe_toReal (fun e => ?_) (fun e => ?_)).symm
  · rw [e] at h2
    exact absurd (lt_of_le_of_lt (le_max_left _ _) h2) (lt_irrefl _)
  · rw [e, EReal.neg_bot] at h2
    exact absurd (lt_of_le_of_lt (le_max_right _ _) h2) (lt_irrefl _)

variable (m : (ℓ : Loc nD τ sig) → Buf (Elt Ideal) ℓ)

/-- The queries, keys, values and gates of a device are real numbers. -/
structure Finite (c : Dev nD) : Prop where
  q : ∀ (a : Fin 16384) (b : Fin 2048), (m ((c : Thread nD τ).loc main_arg0) (ix2 a b) : EReal) = ((m ((c : Thread nD τ).loc main_arg0) (ix2 a b) : EReal).toReal : EReal)
  k : ∀ (a : Fin 16384) (b : Fin 2048), (m ((c : Thread nD τ).loc main_arg1) (ix2 a b) : EReal) = ((m ((c : Thread nD τ).loc main_arg1) (ix2 a b) : EReal).toReal : EReal)
  v : ∀ (a : Fin 16384) (b : Fin 2048), (m ((c : Thread nD τ).loc main_arg2) (ix2 a b) : EReal) = ((m ((c : Thread nD τ).loc main_arg2) (ix2 a b) : EReal).toReal : EReal)
  g : ∀ (a : Fin 16384) (b : Fin 128), (m ((c : Thread nD τ).loc main_arg5) (ix2 a b) : EReal) = ((m ((c : Thread nD τ).loc main_arg5) (ix2 a b) : EReal).toReal : EReal)

theorem finite_of_pre [Cert.Pre_finite_inputs.Facts] (h : Cert.Pre_CellPIdeal_finite_inputs m) (c : Dev nD) : Finite m c where
  q a b := real_of_abs _ _ inf_bf16 (congrFun (h c).1 (ix2 a b))
  k a b := real_of_abs _ _ inf_bf16 (congrFun (h c).2.1 (ix2 a b))
  v a b := real_of_abs _ _ inf_bf16 (congrFun (h c).2.2.1 (ix2 a b))
  g a b := real_of_abs _ _ inf_f32 (congrFun (h c).2.2.2 (ix2 a b))

/-! ### The sequences -/

/-- The tokens of a sequence at a head. -/
def ptok (c : Dev nD) (s : Fin 8) (h : Fin 4) : Step 2048 :=
  toks (m ((c : Thread nD τ).loc main_arg0)) (m ((c : Thread nD τ).loc main_arg1)) (m ((c : Thread nD τ).loc main_arg2)) (m ((c : Thread nD τ).loc main_arg5)) s h

/-- A place in a sequence. -/
def at' (i : ℕ) : Fin 2048 := ⟨i % 2048, Nat.mod_lt _ (by omega)⟩

theorem at'_val (t : Fin 2048) : at' (0 + t.val) = t := Fin.ext (by
  have := t.isLt
  simp only [at']
  omega)

theorem at'_pos (t : Fin cfg0.N) (j : Fin 256) : at' (256 * (t.val % 8) + j.val) = pos t j := Fin.ext (by
  have := j.isLt
  simp only [at', pos]
  omega)

/-- The same as a sequence of real numbers. -/
def pseq (c : Dev nD) (s : Fin 8) (h : Fin 4) : Seq where
  q i x := ((ptok m c s h).q (at' i) x).toReal
  k i x := ((ptok m c s h).k (at' i) x).toReal
  v i x := ((ptok m c s h).v (at' i) x).toReal
  ig i := ((ptok m c s h).ig (at' i)).toReal
  lf i := ((ptok m c s h).lf (at' i)).toReal

section
variable (c : Dev nD) (hf : Finite m c)
include hf

theorem lf_real (s : Fin 8) (h : Fin 4) (t : Fin 2048) : (ptok m c s h).lf t = (((ptok m c s h).lf t).toReal : EReal) := by
  show logsig (m ((c : Thread nD τ).loc main_arg5) (ix2 (tok s t) (gf h))) = ((logsig (m ((c : Thread nD τ).loc main_arg5) (ix2 (tok s t) (gf h)))).toReal : EReal)
  rw [hf.g (tok s t) (gf h)]
  exact logsig_real _

/-- The reference takes all tokens at once, from the empty state. -/
theorem at_all (s : Fin 8) (h : Fin 4) : (pseq m c s h).At (ptok m c s h) 0 where
  q i x := by
    show _ = (((ptok m c s h).q (at' (0 + i.val)) x).toReal : EReal)
    rw [at'_val]; exact hf.q _ _
  k i x := by
    show _ = (((ptok m c s h).k (at' (0 + i.val)) x).toReal : EReal)
    rw [at'_val]; exact hf.k _ _
  v i x := by
    show _ = (((ptok m c s h).v (at' (0 + i.val)) x).toReal : EReal)
    rw [at'_val]; exact hf.v _ _
  ig i := by
    show _ = (((ptok m c s h).ig (at' (0 + i.val))).toReal : EReal)
    rw [at'_val]; exact hf.g _ _
  lf i := by
    show _ = (((ptok m c s h).lf (at' (0 + i.val))).toReal : EReal)
    rw [at'_val]; exact lf_real m c hf s h i
  C x e := by
    show (0 : EReal) = ((∑ j ∈ Finset.range 0, _ : ℝ) : EReal)
    rw [Finset.sum_range_zero, EReal.coe_zero]
  N x := by
    show (0 : EReal) = ((∑ j ∈ Finset.range 0, _ : ℝ) : EReal)
    rw [Finset.sum_range_zero, EReal.coe_zero]
  m := (if_pos rfl).symm

end

/-! ### The state along the chunks -/

/-- The real sequence of a point. -/
abbrev sqn (c : Dev nD) (t : Fin cfg0.N) : Seq := pseq m c (sq t) (hd t)

/-- The state before point `t` is what the tokens before its chunk sum up to. -/
structure Good (c : Dev nD) (t : Fin cfg0.N) (sC : Vec Ideal S512x512 .f32) (sN : Vec Ideal S1x512 .f32) (sm : Vec Ideal S1x1 .f32) : Prop where
  C : ∀ x e, sC (ix2 x e) = ((sqn m c t).C (256 * (t.val % 8)) x e : EReal)
  N : ∀ x, sN (ix2 0 x) = ((sqn m c t).N (256 * (t.val % 8)) x : EReal)
  mx : sm (ix2 0 0) = if 256 * (t.val % 8) = 0 then ⊥ else ((sqn m c t).M (256 * (t.val % 8) - 1) : EReal)

/-- What point `t` stores over a state. -/
structure Stores (c : Dev nD) (t : Fin cfg0.N) (sC : Vec Ideal S512x512 .f32) (sN : Vec Ideal S1x512 .f32) (sm : Vec Ideal S1x1 .f32) : Prop where
  out : (outsAt0 m c t.val t.isLt).1 = outT (iblk m c 0 t) (iblk m c 1 t) (iblk m c 3 t) (iblk m c 4 t) (iblk m c 5 t) (iblk m c 7 t) (iblk m c 8 t) (iblk m c 9 t) (iblk m c 10 t) (iblk m c 11 t) sC sN sm
  C : (outsAt0 m c t.val t.isLt).2.2.2.2.1 = k0_pay27 (newC (iblk m c 2 t) (iblk m c 3 t) (iblk m c 7 t) (iblk m c 8 t) (iblk m c 9 t) sC sm)
  N : (outsAt0 m c t.val t.isLt).2.2.2.2.2.1 = stN (iblk m c 1 t) (iblk m c 6 t) (iblk m c 7 t) (iblk m c 8 t) (iblk m c 9 t) sN sm
  mx : (outsAt0 m c t.val t.isLt).2.2.2.2.2.2 = k0_pay29 (newM (iblk m c 7 t) (iblk m c 8 t) (iblk m c 9 t) sm)
  last : t.val % 8 = 7 → (outsAt0 m c t.val t.isLt).2.1 = k0_pay2 (newC (iblk m c 2 t) (iblk m c 3 t) (iblk m c 7 t) (iblk m c 8 t) (iblk m c 9 t) sC sm)
    ∧ (outsAt0 m c t.val t.isLt).2.2.1 = k0_pay3 (newN (iblk m c 1 t) (iblk m c 6 t) (iblk m c 7 t) (iblk m c 8 t) (iblk m c 9 t) sN sm)
    ∧ (outsAt0 m c t.val t.isLt).2.2.2.1 = k0_pay4 (newM (iblk m c 7 t) (iblk m c 8 t) (iblk m c 9 t) sm)

theorem h7 (c : Dev nD) (t : Fin cfg0.N) (j : Fin 256) : iblk m c 7 t (ix4 0 0 j 0) = iblk m c 9 t (ix4 0 0 0 j) :=
  (blk7 m c t j).trans (blk9 m c t j).symm

theorem h6 (c : Dev nD) (t : Fin cfg0.N) (j : Fin 256) : iblk m c 6 t (ix4 0 0 j 0) = iblk m c 8 t (ix4 0 0 0 j) :=
  (blk6 m c t j).trans (blk8 m c t j).symm

theorem h2 (c : Dev nD) (t : Fin cfg0.N) (x : Fin 512) (j : Fin 256) : iblk m c 2 t (ix3 0 x j) = iblk m c 1 t (ix2 j x) :=
  (blk2 m c t x j).trans (blk1 m c t j x).symm

/-- The stored vector state is the new vector state. -/
theorem stN_apply (x1 : Vec Ideal S256x512 .bf16) (x6 x7 : Vec Ideal S1x1x256x1 .f32) (x8 x9 : Vec Ideal S1x1x1x256 .f32)
    (sN : Vec Ideal S1x512 .f32) (sm : Vec Ideal S1x1 .f32) (b : Fin 512) :
    stN (F := Ideal) x1 x6 x7 x8 x9 sN sm (ix2 0 b) = newN (F := Ideal) x1 x6 x7 x8 x9 sN sm (ix2 0 b) := by
  unfold stN newN
  pointwise [k0_pay28]

/-- The rows of a point, over a state. -/
def prow (c : Dev nD) (t : Fin cfg0.N) (sC : Vec Ideal S512x512 .f32) (sN : Vec Ideal S1x512 .f32) (sm : Vec Ideal S1x1 .f32) : Step 256 :=
  rows (iblk m c 0 t) (iblk m c 1 t) (iblk m c 3 t) (iblk m c 8 t) (iblk m c 9 t) sC sN sm

section
variable (c : Dev nD) (hf : Finite m c)
include hf

/-- Over such a state the rows of a point are a chunk of its sequence. -/
theorem at_chunk (t : Fin cfg0.N) (sC : Vec Ideal S512x512 .f32) (sN : Vec Ideal S1x512 .f32) (sm : Vec Ideal S1x1 .f32) (hg : Good m c t sC sN sm) :
    (sqn m c t).At (prow m c t sC sN sm) (256 * (t.val % 8)) where
  q i x := by
    refine (blk0 m c t i x).trans ?_
    show _ = (((ptok m c (sq t) (hd t)).q (at' (256 * (t.val % 8) + i.val)) x).toReal : EReal)
    rw [at'_pos]; exact hf.q _ _
  k i x := by
    refine (blk1 m c t i x).trans ?_
    show _ = (((ptok m c (sq t) (hd t)).k (at' (256 * (t.val % 8) + i.val)) x).toReal : EReal)
    rw [at'_pos]; exact hf.k _ _
  v i x := by
    refine (blk3 m c t i x).trans ?_
    show _ = (((ptok m c (sq t) (hd t)).v (at' (256 * (t.val % 8) + i.val)) x).toReal : EReal)
    rw [at'_pos]; exact hf.v _ _
  ig i := by
    refine (blk8 m c t i).trans ?_
    show _ = (((ptok m c (sq t) (hd t)).ig (at' (256 * (t.val % 8) + i.val))).toReal : EReal)
    rw [at'_pos]; exact hf.g _ _
  lf i := by
    show logsig (iblk m c 9 t (ix4 0 0 0 i)) = (((ptok m c (sq t) (hd t)).lf (at' (256 * (t.val % 8) + i.val))).toReal : EReal)
    rw [blk9, at'_pos]
    exact lf_real m c hf (sq t) (hd t) (pos t i)
  C x e := hg.C x e
  N x := hg.N x
  m := hg.mx

theorem le_255 (j : Fin 256) : j ≤ 255 := by have := j.isLt; show j.val ≤ 255; omega

/-- The state a point leaves is the right one for the next chunk. -/
theorem next (t u : Fin cfg0.N) (hu : u.val = t.val + 1) (h0 : ¬ u.val % 8 = 0) (sC : Vec Ideal S512x512 .f32) (sN : Vec Ideal S1x512 .f32) (sm : Vec Ideal S1x1 .f32)
    (hg : Good m c t sC sN sm) (hs : Stores m c t sC sN sm) :
    Good m c u (outsAt0 m c t.val t.isLt).2.2.2.2.1 (outsAt0 m c t.val t.isLt).2.2.2.2.2.1 (outsAt0 m c t.val t.isLt).2.2.2.2.2.2 := by
  have e1 : sq u = sq t := Fin.ext (by show u.val / 32 = t.val / 32; omega)
  have e2 : hd u = hd t := Fin.ext (by show u.val / 8 % 4 = t.val / 8 % 4; omega)
  have e3 : 256 * (u.val % 8) = 256 * (t.val % 8) + (255 : Fin 256).val + 1 := by show 256 * (u.val % 8) = 256 * (t.val % 8) + 255 + 1; omega
  have H := at_chunk m c hf t sC sN sm hg
  have es : sqn m c u = sqn m c t := by unfold sqn; rw [e1, e2]
  refine ⟨fun x e => ?_, fun x => ?_, ?_⟩
  · rw [hs.C, es, e3, ← H.newC 255 (le_255 m c hf) x e]
    refine (pay27_eq _ x e).trans ?_
    exact newC_apply (iblk m c 0 t) (iblk m c 1 t) (iblk m c 2 t) (iblk m c 3 t) (iblk m c 7 t) (iblk m c 8 t) (iblk m c 9 t) sC sN sm (h7 m c t) (h2 m c t) x e
  · rw [hs.N, es, e3, ← H.newN 255 (le_255 m c hf) x]
    refine (stN_apply _ _ _ _ _ _ _ x).trans ?_
    exact newN_apply (iblk m c 0 t) (iblk m c 1 t) (iblk m c 3 t) (iblk m c 6 t) (iblk m c 7 t) (iblk m c 8 t) (iblk m c 9 t) sC sN sm (h7 m c t) (h6 m c t) x
  · rw [hs.mx, if_neg (by omega), es, e3, Nat.add_sub_cancel, ← H.mt 255]
    refine (pay29_eq _).trans ?_
    exact newM_apply (iblk m c 0 t) (iblk m c 1 t) (iblk m c 3 t) (iblk m c 7 t) (iblk m c 8 t) (iblk m c 9 t) sC sN sm (h7 m c t)

/-- The first chunk starts from the empty state. -/
theorem first (t : Fin cfg0.N) (h0 : t.val % 8 = 0) : Good m c t (k0_pay5 (F := Ideal)) (k0_pay6 (F := Ideal)) (k0_pay7 (F := Ideal)) where
  C x e := by
    rw [h0]
    refine (pay5_apply x e).trans ?_
    show (0 : EReal) = ((∑ j ∈ Finset.range 0, _ : ℝ) : EReal)
    rw [Finset.sum_range_zero, EReal.coe_zero]
  N x := by
    rw [h0]
    refine (pay6_apply x).trans ?_
    show (0 : EReal) = ((∑ j ∈ Finset.range 0, _ : ℝ) : EReal)
    rw [Finset.sum_range_zero, EReal.coe_zero]
  mx := pay7_apply.trans (if_pos (by omega)).symm

/-- Every point works over the right state. -/
theorem state : ∀ (n : ℕ) (hn : n < cfg0.N), ∃ sC sN sm, Good m c ⟨n, hn⟩ sC sN sm ∧ Stores m c ⟨n, hn⟩ sC sN sm := by
  intro n
  induction n with
  | zero =>
    intro hn
    have h1 : ¬ 0 % 8 = 7 := by omega
    obtain ⟨a, b, d, e⟩ := after_A m c ⟨0, hn⟩ (Nat.zero_mod _) h1
    exact ⟨_, _, _, first m c hf ⟨0, hn⟩ (Nat.zero_mod _), ⟨a, b, d, e, fun h => absurd h h1⟩⟩
  | succ n ih =>
    intro hn
    by_cases h0 : (n + 1) % 8 = 0
    · have h1 : ¬ (n + 1) % 8 = 7 := by omega
      obtain ⟨a, b, d, e⟩ := after_A m c ⟨n + 1, hn⟩ h0 h1
      exact ⟨_, _, _, first m c hf ⟨n + 1, hn⟩ h0, ⟨a, b, d, e, fun h => absurd h h1⟩⟩
    · obtain ⟨sC, sN, sm, hg, hs⟩ := ih (Nat.lt_of_succ_lt hn)
      have hg' := next m c hf ⟨n, Nat.lt_of_succ_lt hn⟩ ⟨n + 1, hn⟩ rfl h0 sC sN sm hg hs
      by_cases h1 : (n + 1) % 8 = 7
      · obtain ⟨a, b, d, e, l⟩ := after_C m c ⟨n + 1, hn⟩ h0 h1 _ _ _ rfl rfl rfl
        exact ⟨_, _, _, hg', ⟨a, b, d, e, fun _ => l⟩⟩
      · obtain ⟨a, b, d, e⟩ := after_B m c ⟨n + 1, hn⟩ h0 h1 _ _ _ rfl rfl rfl
        exact ⟨_, _, _, hg', ⟨a, b, d, e, fun h => absurd h h1⟩⟩

end

end Cert.Proof.CellP

end
-- ==== Proof.CellP.lean ====
/-
  The recurrent cell of the prompt batch: the kernel goes through a sequence in chunks of 256 tokens and carries the state,
  the reference takes the sequence as a whole; over finite inputs the results are the same.
-/
module

public import proofs.«01_k».proof.Defs
public import proofs.«01_k».proof.Proof.Gen.CellPIdeal.Value
public import proofs.«01_k».proof.Proof.Gen.CellPRefIdeal.Run
public import proofs.«01_k».proof.Proof.Gen.CellPRefIdeal.Read
public import proofs.«01_k».proof.Proof.Gen.Pre_finite_inputs
public import proofs.«01_k».proof.Proof.CellPOut
public import proofs.«01_k».proof.Proof.CellPSeq

@[expose] public section

set_option maxRecDepth 16384

noncomputable section

namespace Cert.Proof.CellP

open Idealize.ShloMosaic Idealize.ShloMosaic.TcCoe Idealize.SL.Sem Cert.Proof.Cell Cert.CellPIdeal Cert.CellPIdeal.Gen Cert.CellPIdeal.Value
open Cert.CellPRefIdeal.Read (val_main_v130 val_main_v90 val_main_v131 val_main_v133)

variable (m : (ℓ : Loc nD τ sig) → Buf (Elt Ideal) ℓ)

/-- The reference's results of the launch arguments. -/
def G0 (c : Dev nD) : Vec Ideal S16384x2048 .bf16 :=
  val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def G1 (c : Dev nD) : Vec Ideal S8x4x512x512 .f32 :=
  val_main_v90 (F := Ideal) (m ((c : Thread nD τ).loc main_arg1)) (m ((c : Thread nD τ).loc main_arg2)) (m ((c : Thread nD τ).loc main_arg5))
def G2 (c : Dev nD) : Vec Ideal S8x4x1x512 .f32 :=
  val_main_v131 (F := Ideal) (m ((c : Thread nD τ).loc main_arg1)) (m ((c : Thread nD τ).loc main_arg5))
def G3 (c : Dev nD) : Vec Ideal S8x4x1x128 .f32 :=
  val_main_v133 (F := Ideal) (m ((c : Thread nD τ).loc main_arg5))

theorem le_2047 (j : Fin 2048) : j ≤ 2047 := by have := j.isLt; show j.val ≤ 2047; omega

/-- The whole block is written back. -/
theorem cut12 (t : Fin cfg0.N) (v : Vec Ideal S256x512 .bf16) (i : Fin 256) (e : Fin 512) :
    (cfg0.win 12).cut (grid0.coords t) v (ix2 i e) = v (ix2 i e) := rfl

/-- What a point's block of an output array holds. -/
theorem read12 (t : Fin cfg0.N) (v : Vec Ideal S16384x2048 .bf16) (i : Fin 256) (e : Fin 512) :
    ((cfg0.win 12).blk t).view.read (Elt Ideal) v (ix2 i e) = v (ix2 (tok (sq t) (pos t i)) (col (hd t) e)) := by
  rw [← emb12]
  rfl

section
variable (c : Dev nD) (hf : Finite m c)
include hf

/-- A chunk's hidden values are those of the whole sequence. -/
theorem hidden (t : Fin cfg0.N) (sC : Vec Ideal S512x512 .f32) (sN : Vec Ideal S1x512 .f32) (sm : Vec Ideal S1x1 .f32) (hg : Good m c t sC sN sm) (i : Fin 256) (e : Fin 512) :
    (prow m c t sC sN sm).h i e = (ptok m c (sq t) (hd t)).h (pos t i) e := by
  rw [(at_chunk m c hf t sC sN sm hg).h i e, (at_all m c hf (sq t) (hd t)).h (pos t i) e, Nat.zero_add]
  rfl

/-- What a point writes of the output. -/
theorem flushed12_ref (t : Fin cfg0.N) :
    (dats m 0 c).flushed 12 t = ((cfg0.win 12).blk t).view.read (Elt Ideal) (G0 m c) := by
  obtain ⟨sC, sN, sm, hg, hs⟩ := state m c hf t.val t.isLt
  funext y
  obtain ⟨i, e, rfl⟩ : ∃ (i : Fin 256) (e : Fin 512), y = ix2 i e :=
    ⟨y 0, y 1, funext fun a => by match a with | ⟨0, _⟩ => rfl | ⟨1, _⟩ => rfl⟩
  refine Eq.trans ?_ (read12 t (G0 m c) i e).symm
  rw [flushed12, hs.out]
  refine (cut12 t _ i e).trans ?_
  unfold outT
  refine (out_apply (iblk m c 0 t) (iblk m c 1 t) (iblk m c 3 t) (iblk m c 7 t) (iblk m c 8 t) (iblk m c 9 t) sC sN sm (iblk m c 4 t) (iblk m c 5 t) (iblk m c 10 t) (iblk m c 11 t) (h7 m c t) i e).trans ?_
  rw [G0, ref_out, blk10, blk5, blk11, blk4]
  have hh : (fun x => (prow m c t sC sN sm).h i x) = fun x => (ptok m c (sq t) (hd t)).h (pos t i) x := funext fun x => hidden m c hf t sC sN sm hg i x
  unfold prow ptok at hh
  rw [hh]

/-- The last chunk ends at the sequence's end. -/
theorem last_off (t : Fin cfg0.N) (h : t.val % 8 = 7) : 256 * (t.val % 8) + (255 : Fin 256).val = 0 + (2047 : Fin 2048).val := by
  rw [h]; rfl

/-- What the last chunk of a sequence writes of the states. -/
theorem flushed13_ref (t : Fin cfg0.N) (h : (cfg0.win 13).flush t = true) :
    (dats m 0 c).flushed 13 t = ((cfg0.win 13).blk t).view.read (Elt Ideal) (G1 m c) := by
  have hl := (flush0_13 t).1 h
  obtain ⟨sC, sN, sm, hg, hs⟩ := state m c hf t.val t.isLt
  funext y
  obtain ⟨x, e, rfl⟩ : ∃ (x e : Fin 512), y = ix4 0 0 x e :=
    ⟨y 2, y 3, funext fun a => by match a with | ⟨0, _⟩ => exact Subsingleton.elim (α := Fin 1) _ _ | ⟨1, _⟩ => exact Subsingleton.elim (α := Fin 1) _ _ | ⟨2, _⟩ => rfl | ⟨3, _⟩ => rfl⟩
  show (dats m 0 c).flushed 13 t (ix4 0 0 x e) = G1 m c (((cfg0.win 13).blk t).view.emb (ix4 0 0 x e))
  rw [emb13, flushed13]
  refine (congrFun (hs.last hl).1 (ix4 0 0 x e)).trans ?_
  refine (pay2_eq _ x e).trans ?_
  refine (newC_apply (iblk m c 0 t) (iblk m c 1 t) (iblk m c 2 t) (iblk m c 3 t) (iblk m c 7 t) (iblk m c 8 t) (iblk m c 9 t) sC sN sm (h7 m c t) (h2 m c t) x e).trans ?_
  rw [G1, ref_newC (m ((c : Thread nD τ).loc main_arg0))]
  refine ((at_chunk m c hf t sC sN sm hg).newC 255 (le_255 m c hf) x e).trans ?_
  rw [last_off m c hf t hl]
  exact ((at_all m c hf (sq t) (hd t)).newC 2047 le_2047 x e).symm

theorem flushed14_ref (t : Fin cfg0.N) (h : (cfg0.win 14).flush t = true) :
    (dats m 0 c).flushed 14 t = ((cfg0.win 14).blk t).view.read (Elt Ideal) (G2 m c) := by
  have hl := (flush0_14 t).1 h
  obtain ⟨sC, sN, sm, hg, hs⟩ := state m c hf t.val t.isLt
  funext y
  obtain ⟨x, rfl⟩ : ∃ (x : Fin 512), y = ix4 0 0 0 x :=
    ⟨y 3, funext fun a => by match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
  show (dats m 0 c).flushed 14 t (ix4 0 0 0 x) = G2 m c (((cfg0.win 14).blk t).view.emb (ix4 0 0 0 x))
  rw [emb14, flushed14]
  refine (congrFun (hs.last hl).2.1 (ix4 0 0 0 x)).trans ?_
  refine (pay3_eq _ x).trans ?_
  refine (newN_apply (iblk m c 0 t) (iblk m c 1 t) (iblk m c 3 t) (iblk m c 6 t) (iblk m c 7 t) (iblk m c 8 t) (iblk m c 9 t) sC sN sm (h7 m c t) (h6 m c t) x).trans ?_
  rw [G2, ref_newN (m ((c : Thread nD τ).loc main_arg0)) _ (m ((c : Thread nD τ).loc main_arg2))]
  refine ((at_chunk m c hf t sC sN sm hg).newN 255 (le_255 m c hf) x).trans ?_
  rw [last_off m c hf t hl]
  exact ((at_all m c hf (sq t) (hd t)).newN 2047 le_2047 x).symm

theorem flushed15_ref (t : Fin cfg0.N) (h : (cfg0.win 15).flush t = true) :
    (dats m 0 c).flushed 15 t = ((cfg0.win 15).blk t).view.read (Elt Ideal) (G3 m c) := by
  have hl := (flush0_15 t).1 h
  obtain ⟨sC, sN, sm, hg, hs⟩ := state m c hf t.val t.isLt
  funext y
  obtain ⟨x, rfl⟩ : ∃ (x : Fin 128), y = ix4 0 0 0 x :=
    ⟨y 3, funext fun a => by match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
  show (dats m 0 c).flushed 15 t (ix4 0 0 0 x) = G3 m c (((cfg0.win 15).blk t).view.emb (ix4 0 0 0 x))
  rw [emb15, flushed15]
  refine (congrFun (hs.last hl).2.2 (ix4 0 0 0 x)).trans ?_
  refine (pay4_eq _ x).trans ?_
  refine (newM_apply (iblk m c 0 t) (iblk m c 1 t) (iblk m c 3 t) (iblk m c 7 t) (iblk m c 8 t) (iblk m c 9 t) sC sN sm (h7 m c t)).trans ?_
  rw [G3, ref_newM (m ((c : Thread nD τ).loc main_arg0)) (m ((c : Thread nD τ).loc main_arg1)) (m ((c : Thread nD τ).loc main_arg2))]
  refine ((at_chunk m c hf t sC sN sm hg).mt 255).trans ?_
  rw [last_off m c hf t hl]
  exact ((at_all m c hf (sq t) (hd t)).mt 2047).symm

theorem final12 : (dats m 0 c).arrAt 12 cfg0.N = G0 m c :=
  (dats m 0 c).arrAt_eq_of_cover 12 (G0 m c) (fun t _ => flushed12_ref m c hf t) cover12

theorem final13 : (dats m 0 c).arrAt 13 cfg0.N = G1 m c :=
  (dats m 0 c).arrAt_eq_of_cover 13 (G1 m c) (fun t ht => flushed13_ref m c hf t ht) cover13

theorem final14 : (dats m 0 c).arrAt 14 cfg0.N = G2 m c :=
  (dats m 0 c).arrAt_eq_of_cover 14 (G2 m c) (fun t ht => flushed14_ref m c hf t ht) cover14

theorem final15 : (dats m 0 c).arrAt 15 cfg0.N = G3 m c :=
  (dats m 0 c).arrAt_eq_of_cover 15 (G3 m c) (fun t ht => flushed15_ref m c hf t ht) cover15

end

/-- Both programs run, and from finite queries, keys, values and gates both end with the reference's values. -/
theorem algebraic : Cert.algebraic_CellPIdeal_CellPRefIdeal_pre_finite_inputs (hCellPIdeal := Cert.CellPIdeal.Gen.facts) (hCellPRefIdeal := Cert.CellPRefIdeal.Gen.facts) (hPre_finite_inputs := Cert.Pre_finite_inputs.Gen.facts) :=
  fun m g m' g' hpre hag => by
    have hfin : ∀ c, Finite m c := letI := Cert.Pre_finite_inputs.Gen.facts; finite_of_pre m hpre
    exact ⟨G0 m, G1 m, G2 m, G3 m,
      (θ_run _ _ _).mono (fun _ h c => ⟨(h c).1.trans (final12 m c (hfin c)), (h c).2.1.trans (final13 m c (hfin c)),
        (h c).2.2.1.trans (final14 m c (hfin c)), (h c).2.2.2.1.trans (final15 m c (hfin c)), (h c).2.2.2.2⟩) (run_blocks m g),
      (θ_run _ _ _).mono (fun _ h c => by
        obtain ⟨e0, e1, e2, e3, e4, e5, e6, e7⟩ := hag c
        refine ⟨(h c).1.trans ?_, (h c).2.1.trans ?_, (h c).2.2.1.trans ?_, (h c).2.2.2.1.trans ?_, (h c).2.2.2.2⟩
        · rw [Cert.CellPRefIdeal.Read.val_main_v130_eq, G0, ← e0, ← e1, ← e2, ← e3, ← e4, ← e5, ← e6, ← e7]
        · rw [Cert.CellPRefIdeal.Read.val_main_v90_eq, G1, ← e1, ← e2, ← e5]
        · rw [Cert.CellPRefIdeal.Read.val_main_v131_eq, G2, ← e1, ← e5]
        · rw [Cert.CellPRefIdeal.Read.val_main_v133_eq, G3, ← e5]) (Cert.CellPRefIdeal.Value.run m' g')⟩

end Cert.Proof.CellP

end
-- ==== Proof.CellRef.lean ====
/-
  The cell's reference at an index: for each sequence and each head it is one `Step` over the four tokens, then the
  normalized and gated output.
-/
module

public import proofs.«01_k».proof.Defs
public import proofs.«01_k».proof.Proof.Gen.CellRefIdeal.Read
public import proofs.«01_k».proof.Proof.CellCum

@[expose] public section

set_option maxRecDepth 16384

noncomputable section

namespace Cert.Proof.Cell

open Idealize.ShloMosaic Cert.CellRefIdeal Cert.CellRefIdeal.Read

/-- The row of token `t` of sequence `s`. -/
def tok (s : Fin 128) (t : Fin 4) : Fin 2048 := ⟨s.val * 16 + t.val, by have := s.isLt; have := t.isLt; omega⟩

/-- The column of coordinate `x` of head `h`. -/
def col (h : Fin 4) (x : Fin 512) : Fin 2048 := ⟨h.val * 512 + x.val, by have := h.isLt; have := x.isLt; omega⟩

/-- The column of head `h`'s input gate. -/
def gi (h : Fin 4) : Fin 128 := ⟨h.val, by have := h.isLt; omega⟩

/-- The column of head `h`'s forget gate. -/
def gf (h : Fin 4) : Fin 128 := ⟨4 + h.val, by have := h.isLt; omega⟩

/-- The column of the output gate that belongs to column `y`. -/
def zc (y : Fin 2048) : Fin 4096 := ⟨2048 + y.val, by have := y.isLt; omega⟩

theorem ref_neg_inf : Ideal.ofBits .f32 0xFF800000#32 = (⊥ : EReal) := by simp [Ideal.ofBits, Ideal.ieee]

theorem ref_sel_ge (a b : Fin 4) (x y : EReal) :
    Scalar.select (IntOp.cmpi .sge (BitVec.ofNat 32 a.val) (BitVec.ofNat 32 b.val)) x y = if b ≤ a then x else y := by
  have h : IntOp.cmpi .sge (BitVec.ofNat 32 a.val) (BitVec.ofNat 32 b.val) = if b ≤ a then 1#1 else 0#1 := by revert a b; decide
  rw [h]; split <;> rfl

section Stages
variable (x0 x1 x2 x3 : Vec Ideal S2048x2048 .bf16) (x4 : Vec Ideal S2048x4096 .f32) (x5 : Vec Ideal S2048x128 .f32) (x6 x7 : Vec Ideal S2048 .f32)
  (x8 : Vec Ideal S128x4x512x512 .f32) (x9 : Vec Ideal S128x4x512 .f32) (x10 : Vec Ideal S128x4 .f32) (s : Fin 128) (h : Fin 4)

/-- The four tokens of sequence `s` at head `h`, and the state before them. -/
def toks : Step 4 where
  q t x := x0 (ix2 (tok s t) (col h x))
  k t x := x1 (ix2 (tok s t) (col h x))
  v t x := x2 (ix2 (tok s t) (col h x))
  ig t := x5 (ix2 (tok s t) (gi h))
  lf t := logsig (x5 (ix2 (tok s t) (gf h)))
  C x e := x8 (ix4 s h x e)
  N x := x9 (ix3 s h x)
  m := x10 (ix2 s h)

local notation "T" => toks x0 x1 x2 x5 x8 x9 x10 s h

theorem ref_ig (t : Fin 4) : val_main_v3 (F := Ideal) x5 (ix3 s h t) = (T).ig t := by
  pointwise [val_main_v3, val_main_v2, val_main_v1, val_main_v0]
  rfl

theorem ref_lf (t : Fin 4) : val_main_v6 (F := Ideal) x5 (ix3 s h t) = (T).lf t := by
  pointwise [val_main_v6, val_main_v5, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v4, val_main_v1, val_main_v0]
  rw [if_neg (fun hne => hne rfl)]
  exact logsig_eq _

theorem ref_q (t : Fin 4) (x : Fin 512) : val_main_v11 (F := Ideal) x0 (ix4 s h t x) = (T).q t x := by
  pointwise [val_main_v11, val_main_v10, val_main_v9, val_main_v8, val_main_v7]
  rfl

theorem ref_k (t : Fin 4) (x : Fin 512) : val_main_v16 (F := Ideal) x1 (ix4 s h t x) = (T).k t x := by
  pointwise [val_main_v16, val_main_v15, val_main_v14, val_main_v13, val_main_v12]
  rfl

theorem ref_v (t : Fin 4) (x : Fin 512) : val_main_v21 (F := Ideal) x2 (ix4 s h t x) = (T).v t x := by
  pointwise [val_main_v21, val_main_v20, val_main_v19, val_main_v18, val_main_v17]
  rfl

theorem ref_b (t : Fin 4) : val_main_v22 (F := Ideal) x5 (ix3 s h t) = (T).b t := by
  unfold val_main_v22
  rw [cumsum _ _ (fun i => by pointwise [val_main_call1_call0_v0, val_main_call1_call0_cst])]
  exact Finset.sum_congr rfl fun j _ => by rw [ref_lf x0 x1 x2 x5 x8 x9 x10]

theorem ref_d (t u : Fin 4) : val_main_v38 (F := Ideal) x5 (ix4 s h t u) = (T).d t u := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_cst, val_main_call2_v0, val_main_call2_v1, val_main_call2_v2]
  rw [ref_sel_ge, ref_b x0 x1 x2 x5 x8 x9 x10, ref_b x0 x1 x2 x5 x8 x9 x10, ref_ig x0 x1 x2 x5 x8 x9 x10]
  rw [show id (constant (F := Ideal) S_ FTy.f32 0xFF800000#32) ix0 = (⊥ : EReal) from ref_neg_inf]
  rfl

theorem ref_mt (t : Fin 4) : val_main_v43 (F := Ideal) x5 x10 (ix3 s h t) = (T).mt t := by
  pointwise [val_main_v43, val_main_v42, val_main_cst_0, val_main_v41, val_main_v40, val_main_v39]
  simp only [ref_b x0 x1 x2 x5 x8 x9 x10, ref_d x0 x1 x2 x5 x8 x9 x10, ref_neg_inf]
  rfl

theorem ref_s (t u : Fin 4) : val_main_v49 (F := Ideal) x0 x1 x5 x10 (ix4 s h t u) = (T).s t u := by
  pointwise [val_main_v49, val_main_v48, val_main_v47, val_main_v46, val_main_v45, val_main_v44, dot_S128x4x4x512_S128x4x4x512_S128x4x4x4_3_3_2_2_01_01]
  simp only [ref_q x0 x1 x2 x5 x8 x9 x10, ref_k x0 x1 x2 x5 x8 x9 x10, ref_d x0 x1 x2 x5 x8 x9 x10, ref_mt x0 x1 x2 x5 x8 x9 x10]
  rfl

theorem ref_w (t : Fin 4) : val_main_v51 (F := Ideal) x5 x10 (ix3 s h t) = (T).w t := by
  pointwise [val_main_v51, val_main_v50, val_main_v41, val_main_v40, val_main_v39]
  simp only [ref_b x0 x1 x2 x5 x8 x9 x10, ref_mt x0 x1 x2 x5 x8 x9 x10]
  rfl

theorem ref_h (t : Fin 4) (e : Fin 512) : val_main_v68 (F := Ideal) x0 x1 x2 x5 x8 x9 x10 (ix4 s h t e) = (T).h t e := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_cst_1,
    dot_S128x4x4x4_S128x4x4x512_S128x4x4x512_3_2_2_3_01_01, dot_S128x4x4x512_S128x4x512x512_S128x4x4x512_3_2_2_3_01_01, dot_S128x4x4x512_S128x4x512_S128x4x4_3_2_2_n_01_01]
  simp only [ref_s x0 x1 x2 x5 x8 x9 x10, ref_v x0 x1 x2 x5 x8 x9 x10, ref_q x0 x1 x2 x5 x8 x9 x10, ref_w x0 x1 x2 x5 x8 x9 x10, ref_mt x0 x1 x2 x5 x8 x9 x10]
  unfold Step.h
  rw [zero_sub]
  rfl

theorem ref_m : val_main_v70 (F := Ideal) x5 x10 (ix2 s h) = (T).mt 3 := by
  pointwise [val_main_v70, val_main_v69]
  exact ref_mt x0 x1 x2 x5 x8 x9 x10 s h 3

theorem ref_wk (t : Fin 4) : val_main_v78 (F := Ideal) x5 x10 (ix3 s h t) = (T).wk 3 t := by
  pointwise [val_main_v78, val_main_v77, val_main_v76, val_main_v75, val_main_v74, val_main_v73, val_main_v72, val_main_v71]
  simp only [ref_b x0 x1 x2 x5 x8 x9 x10, ref_ig x0 x1 x2 x5 x8 x9 x10, ref_m x0 x1 x2 x5 x8 x9 x10]
  rfl

theorem ref_decay : val_main_v83 (F := Ideal) x5 x10 (ix2 s h) = (T).w 3 := by
  pointwise [val_main_v83, val_main_v82, val_main_v81, val_main_v80, val_main_v79]
  simp only [ref_b x0 x1 x2 x5 x8 x9 x10, ref_m x0 x1 x2 x5 x8 x9 x10]
  rfl

/-- The reference's new matrix state. -/
theorem ref_newC (x e : Fin 512) : val_main_v91 (F := Ideal) x1 x2 x5 x8 x10 (ix4 s h x e) = (T).newC 3 x e := by
  pointwise [val_main_v91, val_main_v90, val_main_v89, val_main_v88, val_main_v87, val_main_v86, val_main_v85, val_main_v84, dot_S128x4x4x512_S128x4x4x512_S128x4x512x512_2_2_3_3_01_01]
  simp only [ref_k x0 x1 x2 x5 x8 x9 x10, ref_v x0 x1 x2 x5 x8 x9 x10, ref_wk x0 x1 x2 x5 x8 x9 x10, ref_decay x0 x1 x2 x5 x8 x9 x10]
  unfold Step.newC
  simp only [mul_comm ((T).k _ x)]
  rfl

/-- The reference's new vector state. -/
theorem ref_newN (x : Fin 512) : val_main_v135 (F := Ideal) x1 x5 x9 x10 (ix4 s h 0 x) = (T).newN 3 x := by
  pointwise [val_main_v135, val_main_v96, val_main_v95, val_main_v94, val_main_v93, val_main_v92, dot_S128x4x4_S128x4x4x512_S128x4x512_2_2_n_3_01_01]
  simp only [ref_k x0 x1 x2 x5 x8 x9 x10, ref_wk x0 x1 x2 x5 x8 x9 x10, ref_decay x0 x1 x2 x5 x8 x9 x10]
  unfold Step.newN
  simp only [mul_comm ((T).k _ x)]
  rfl

/-- The reference's new maximum, spread over 128 places. -/
theorem ref_newM (y : Fin 128) : val_main_v137 (F := Ideal) x5 x10 (ix4 s h 0 y) = (T).mt 3 := by
  pointwise [val_main_v137, val_main_v136]
  exact ref_m x0 x1 x2 x5 x8 x9 x10 s h

/-- The reference's normalized hidden values. -/
theorem ref_norm (t : Fin 4) (e : Fin 512) : val_main_v115 (F := Ideal) x0 x1 x2 x5 x8 x9 x10 (ix4 s t h e)
    = ((T).h t e - Ideal.div (∑ x, (T).h t x) (Ideal.ofBits .f32 0x44000000#32))
      * Ideal.rsqrt (Ideal.div (∑ x, ((T).h t x - Ideal.div (∑ x, (T).h t x) (Ideal.ofBits .f32 0x44000000#32))
        * ((T).h t x - Ideal.div (∑ x, (T).h t x) (Ideal.ofBits .f32 0x44000000#32))) (Ideal.ofBits .f32 0x44000000#32) + Ideal.ofBits .f32 0x358637BD#32) := by
  simp only [← ref_h x0 x1 x2 x5 x8 x9 x10]
  pointwise [val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_cst_2, val_main_cst_3, val_main_cst_4, val_main_cst_5, val_main_cst_6]

/-- The reference's output at a token's row. -/
theorem ref_out (t : Fin 4) (e : Fin 512) : val_main_v134 (F := Ideal) x0 x1 x2 x3 x4 x5 x6 x7 x8 x9 x10 (ix2 (tok s t) (col h e))
    = outv (fun x => (T).h t x) (x6 (ix1 (col h e))) (x4 (ix2 (tok s t) (zc (col h e)))) (x7 (ix1 (col h e))) (x3 (ix2 (tok s t) (col h e))) e := by
  have hs := s.isLt
  have ht := t.isLt
  have he := e.isLt
  have e1 : val_main_v134 (F := Ideal) x0 x1 x2 x3 x4 x5 x6 x7 x8 x9 x10 (ix2 (tok s t) (col h e))
      = val_main_v131 (F := Ideal) x0 x1 x2 x3 x4 x5 x6 x7 x8 x9 x10 (ix3 s t (col h e)) := by
    pointwise [val_main_v134, val_main_v133, val_main_v132]
    have d1 : (tok s t).val / 16 = s.val := by show (s.val * 16 + t.val) / 16 = s.val; omega
    have d2 : (tok s t).val % 16 = t.val := by show (s.val * 16 + t.val) % 16 = t.val; omega
    rw [dif_pos ⟨by omega, by omega⟩]
    congr 1
    funext a; apply Fin.ext
    match a with
    | ⟨0, _⟩ => exact d1
    | ⟨1, _⟩ => exact d2
    | ⟨2, _⟩ => rfl
  have e2 : val_main_v116 (F := Ideal) x0 x1 x2 x5 x8 x9 x10 (ix3 s t (col h e)) = val_main_v115 (F := Ideal) x0 x1 x2 x5 x8 x9 x10 (ix4 s t h e) := by
    pointwise [val_main_v116]
    congr 1
    funext a; apply Fin.ext
    match a with
    | ⟨0, _⟩ => rfl
    | ⟨1, _⟩ => rfl
    | ⟨2, _⟩ => show (h.val * 512 + e.val) / 512 = h.val; omega
    | ⟨3, _⟩ => show (h.val * 512 + e.val) % 512 = e.val; omega
  rw [e1]
  pointwise [val_main_v131, val_main_v130, val_main_v129, val_main_v128, val_main_v127, val_main_v126, val_main_v125, val_main_v124, val_main_v123, val_main_v122, val_main_v121, val_main_v120, val_main_v119, val_main_v118, val_main_v117, val_main_call3_v0, val_main_call3_v1, val_main_call3_v2, val_main_call3_v3, val_main_call3_v4, val_main_call3_v5, val_main_call3_cst, val_main_call3_cst_0]
  rw [e2, ref_norm x0 x1 x2 x5 x8 x9 x10]
  unfold outv
  rw [zero_sub]
  rfl

end Stages

end Cert.Proof.Cell

end
-- ==== Proof.CellBlk.lean ====
/-
  The cell kernel's input blocks: which elements of the arguments a grid point sees.  Point 4 s + h works on head h of
  sequence s, whose 16 rows are the rows from 16 s on.
-/
module

public import proofs.«01_k».proof.Defs
public import proofs.«01_k».proof.Proof.Gen.CellIdeal.Value
public import proofs.«01_k».proof.Proof.CellRef
public import proofs.«01_k».proof.Proof.CellPay

@[expose] public section

set_option maxRecDepth 16384

noncomputable section

namespace Cert.Proof.Cell

open Idealize.ShloMosaic Idealize.ShloMosaic.TcCoe Idealize.SL.Sem Cert.CellIdeal Cert.CellIdeal.Gen Cert.CellIdeal.Value

variable (m : (ℓ : Loc nD τ sig) → Buf (Elt Ideal) ℓ)

/-- Row `j` of sequence `s`. -/
def row16 (s : Fin 128) (j : Fin 16) : Fin 2048 := ⟨s.val * 16 + j.val, by omega⟩

theorem row16_up (s : Fin 128) (i : Fin 4) : row16 s (up i) = tok s i := Fin.ext rfl

/-- Gate column `r`. -/
def gcol (r : Fin 8) : Fin 128 := ⟨r.val, by omega⟩

/-- The input gate's and the forget gate's row for a head. -/
def gin (h : Fin 4) : Fin 8 := ⟨h.val, by omega⟩
def gfo (h : Fin 4) : Fin 8 := ⟨4 + h.val, by omega⟩

/-! ### The arrays the host prepares -/

theorem V_v1 (c : Dev nD) (s : Fin 128) (x : Fin 2048) (j : Fin 16) :
    V m c main_v1 (ix3 s x j) = m ((c : Thread nD τ).loc main_arg1) (ix2 (row16 s j) x) := by
  unfold V
  after_results
  pointwise
  rfl

theorem V_v2 (c : Dev nD) (x : Fin 2048) : V m c main_v2 (ix2 0 x) = m ((c : Thread nD τ).loc main_arg6) (ix1 x) := by
  unfold V
  after_results
  pointwise

theorem V_v3 (c : Dev nD) (x : Fin 2048) : V m c main_v3 (ix2 0 x) = m ((c : Thread nD τ).loc main_arg7) (ix1 x) := by
  unfold V
  after_results
  pointwise

theorem V_v7 (c : Dev nD) (s : Fin 128) (r : Fin 8) (j : Fin 16) :
    V m c main_v7 (ix4 s r j 0) = m ((c : Thread nD τ).loc main_arg5) (ix2 (row16 s j) (gcol r)) := by
  unfold V
  after_results
  pointwise
  rfl

theorem V_v9 (c : Dev nD) (s : Fin 128) (r : Fin 8) (j : Fin 16) :
    V m c main_v9 (ix4 s r 0 j) = m ((c : Thread nD τ).loc main_arg5) (ix2 (row16 s j) (gcol r)) := by
  unfold V
  after_results
  pointwise
  rfl

theorem V_v10 (c : Dev nD) (s : Fin 128) (h : Fin 4) (x : Fin 512) :
    V m c main_v10 (ix4 s h 0 x) = m ((c : Thread nD τ).loc main_arg9) (ix3 s h x) := by
  unfold V
  after_results
  pointwise

theorem V_v11 (c : Dev nD) (s : Fin 128) (h : Fin 4) :
    V m c main_v11 (ix4 s h 0 0) = m ((c : Thread nD τ).loc main_arg10) (ix2 s h) := by
  unfold V
  after_results
  pointwise

/-! ### Where each window's block lies -/

theorem idxA : ∀ t : Fin cfg0.N, (win0_0.index t (0 : Fin 2) = t.val / 4 ∧ win0_0.index t (1 : Fin 2) = t.val % 4)
    ∧ (win0_1.index t (0 : Fin 2) = t.val / 4 ∧ win0_1.index t (1 : Fin 2) = t.val % 4)
    ∧ (win0_2.index t (0 : Fin 3) = t.val / 4 ∧ win0_2.index t (1 : Fin 3) = t.val % 4 ∧ win0_2.index t (2 : Fin 3) = 0)
    ∧ (win0_3.index t (0 : Fin 2) = t.val / 4 ∧ win0_3.index t (1 : Fin 2) = t.val % 4)
    ∧ (win0_4.index t (0 : Fin 2) = t.val / 4 ∧ win0_4.index t (1 : Fin 2) = t.val % 4)
    ∧ (win0_5.index t (0 : Fin 2) = t.val / 4 ∧ win0_5.index t (1 : Fin 2) = 4 + t.val % 4) :=
  (by decide +kernel : ∀ t : Fin grid0.N, _)

theorem idxB : ∀ t : Fin cfg0.N,
    (win0_6.index t (0 : Fin 4) = t.val / 4 ∧ win0_6.index t (1 : Fin 4) = t.val % 4 ∧ win0_6.index t (2 : Fin 4) = 0 ∧ win0_6.index t (3 : Fin 4) = 0)
    ∧ (win0_7.index t (0 : Fin 4) = t.val / 4 ∧ win0_7.index t (1 : Fin 4) = 4 + t.val % 4 ∧ win0_7.index t (2 : Fin 4) = 0 ∧ win0_7.index t (3 : Fin 4) = 0)
    ∧ (win0_8.index t (0 : Fin 4) = t.val / 4 ∧ win0_8.index t (1 : Fin 4) = t.val % 4 ∧ win0_8.index t (2 : Fin 4) = 0 ∧ win0_8.index t (3 : Fin 4) = 0)
    ∧ (win0_9.index t (0 : Fin 4) = t.val / 4 ∧ win0_9.index t (1 : Fin 4) = 4 + t.val % 4 ∧ win0_9.index t (2 : Fin 4) = 0 ∧ win0_9.index t (3 : Fin 4) = 0)
    ∧ (win0_10.index t (0 : Fin 2) = 0 ∧ win0_10.index t (1 : Fin 2) = t.val % 4)
    ∧ (win0_11.index t (0 : Fin 2) = 0 ∧ win0_11.index t (1 : Fin 2) = t.val % 4) :=
  (by decide +kernel : ∀ t : Fin grid0.N, _)

theorem idxC : ∀ t : Fin cfg0.N,
    (win0_12.index t (0 : Fin 4) = t.val / 4 ∧ win0_12.index t (1 : Fin 4) = t.val % 4 ∧ win0_12.index t (2 : Fin 4) = 0 ∧ win0_12.index t (3 : Fin 4) = 0)
    ∧ (win0_13.index t (0 : Fin 4) = t.val / 4 ∧ win0_13.index t (1 : Fin 4) = t.val % 4 ∧ win0_13.index t (2 : Fin 4) = 0 ∧ win0_13.index t (3 : Fin 4) = 0)
    ∧ (win0_14.index t (0 : Fin 4) = t.val / 4 ∧ win0_14.index t (1 : Fin 4) = t.val % 4 ∧ win0_14.index t (2 : Fin 4) = 0 ∧ win0_14.index t (3 : Fin 4) = 0) :=
  (by decide +kernel : ∀ t : Fin grid0.N, _)

theorem idxD : ∀ t : Fin cfg0.N,
    (win0_15.index t (0 : Fin 2) = t.val / 4 ∧ win0_15.index t (1 : Fin 2) = t.val % 4)
    ∧ (win0_16.index t (0 : Fin 4) = t.val / 4 ∧ win0_16.index t (1 : Fin 4) = t.val % 4 ∧ win0_16.index t (2 : Fin 4) = 0 ∧ win0_16.index t (3 : Fin 4) = 0)
    ∧ (win0_17.index t (0 : Fin 4) = t.val / 4 ∧ win0_17.index t (1 : Fin 4) = t.val % 4 ∧ win0_17.index t (2 : Fin 4) = 0 ∧ win0_17.index t (3 : Fin 4) = 0)
    ∧ (win0_18.index t (0 : Fin 4) = t.val / 4 ∧ win0_18.index t (1 : Fin 4) = t.val % 4 ∧ win0_18.index t (2 : Fin 4) = 0 ∧ win0_18.index t (3 : Fin 4) = 0) :=
  (by decide +kernel : ∀ t : Fin grid0.N, _)

/-- A point's sequence and head. -/
def sq (t : Fin cfg0.N) : Fin 128 := ⟨t.val / 4, by
  have h := lt_of_lt_of_eq t.isLt (show cfg0.N = 512 from N_0)
  omega⟩

def hd (t : Fin cfg0.N) : Fin 4 := ⟨t.val % 4, by omega⟩

/-! ### The blocks -/

theorem blk0 (c : Dev nD) (t : Fin cfg0.N) (j : Fin 16) (x : Fin 512) :
    iblk m c 0 t (ix2 j x) = m ((c : Thread nD τ).loc main_arg0) (ix2 (row16 (sq t) j) (col (hd t) x)) := by
  obtain ⟨⟨e0, e1⟩, -⟩ := idxA t
  rw [← V_main_arg0 m c]
  show V m c main_arg0 (((cfg0.win 0).blk t).view.emb (ix2 j x)) = _
  congr 1
  funext a; apply Fin.ext
  match a with
  | ⟨0, _⟩ => show win0_0.index t (0 : Fin 2) * 16 + 1 * j.val = t.val / 4 * 16 + j.val; omega
  | ⟨1, _⟩ => show win0_0.index t (1 : Fin 2) * 512 + 1 * x.val = t.val % 4 * 512 + x.val; omega

theorem blk1 (c : Dev nD) (t : Fin cfg0.N) (j : Fin 16) (x : Fin 512) :
    iblk m c 1 t (ix2 j x) = m ((c : Thread nD τ).loc main_arg1) (ix2 (row16 (sq t) j) (col (hd t) x)) := by
  obtain ⟨-, ⟨e0, e1⟩, -⟩ := idxA t
  rw [← V_main_arg1 m c]
  show V m c main_arg1 (((cfg0.win 1).blk t).view.emb (ix2 j x)) = _
  congr 1
  funext a; apply Fin.ext
  match a with
  | ⟨0, _⟩ => show win0_1.index t (0 : Fin 2) * 16 + 1 * j.val = t.val / 4 * 16 + j.val; omega
  | ⟨1, _⟩ => show win0_1.index t (1 : Fin 2) * 512 + 1 * x.val = t.val % 4 * 512 + x.val; omega

theorem blk2 (c : Dev nD) (t : Fin cfg0.N) (x : Fin 512) (j : Fin 16) :
    iblk m c 2 t (ix3 0 x j) = m ((c : Thread nD τ).loc main_arg1) (ix2 (row16 (sq t) j) (col (hd t) x)) := by
  obtain ⟨-, -, ⟨e0, e1, e2⟩, -⟩ := idxA t
  rw [← V_v1 m c]
  show V m c main_v1 (((cfg0.win 2).blk t).view.emb (ix3 0 x j)) = _
  congr 1
  funext a; apply Fin.ext
  match a with
  | ⟨0, _⟩ => show win0_2.index t (0 : Fin 3) * 1 + 1 * 0 = t.val / 4; omega
  | ⟨1, _⟩ => show win0_2.index t (1 : Fin 3) * 512 + 1 * x.val = t.val % 4 * 512 + x.val; omega
  | ⟨2, _⟩ => show win0_2.index t (2 : Fin 3) * 16 + 1 * j.val = j.val; omega

theorem blk3 (c : Dev nD) (t : Fin cfg0.N) (j : Fin 16) (x : Fin 512) :
    iblk m c 3 t (ix2 j x) = m ((c : Thread nD τ).loc main_arg2) (ix2 (row16 (sq t) j) (col (hd t) x)) := by
  obtain ⟨-, -, -, ⟨e0, e1⟩, -⟩ := idxA t
  rw [← V_main_arg2 m c]
  show V m c main_arg2 (((cfg0.win 3).blk t).view.emb (ix2 j x)) = _
  congr 1
  funext a; apply Fin.ext
  match a with
  | ⟨0, _⟩ => show win0_3.index t (0 : Fin 2) * 16 + 1 * j.val = t.val / 4 * 16 + j.val; omega
  | ⟨1, _⟩ => show win0_3.index t (1 : Fin 2) * 512 + 1 * x.val = t.val % 4 * 512 + x.val; omega

theorem blk4 (c : Dev nD) (t : Fin cfg0.N) (j : Fin 16) (x : Fin 512) :
    iblk m c 4 t (ix2 j x) = m ((c : Thread nD τ).loc main_arg3) (ix2 (row16 (sq t) j) (col (hd t) x)) := by
  obtain ⟨-, -, -, -, ⟨e0, e1⟩, -⟩ := idxA t
  rw [← V_main_arg3 m c]
  show V m c main_arg3 (((cfg0.win 4).blk t).view.emb (ix2 j x)) = _
  congr 1
  funext a; apply Fin.ext
  match a with
  | ⟨0, _⟩ => show win0_4.index t (0 : Fin 2) * 16 + 1 * j.val = t.val / 4 * 16 + j.val; omega
  | ⟨1, _⟩ => show win0_4.index t (1 : Fin 2) * 512 + 1 * x.val = t.val % 4 * 512 + x.val; omega

theorem blk5 (c : Dev nD) (t : Fin cfg0.N) (j : Fin 16) (x : Fin 512) :
    iblk m c 5 t (ix2 j x) = m ((c : Thread nD τ).loc main_arg4) (ix2 (row16 (sq t) j) (zc (col (hd t) x))) := by
  obtain ⟨-, -, -, -, -, ⟨e0, e1⟩⟩ := idxA t
  rw [← V_main_arg4 m c]
  show V m c main_arg4 (((cfg0.win 5).blk t).view.emb (ix2 j x)) = _
  congr 1
  funext a; apply Fin.ext
  match a with
  | ⟨0, _⟩ => show win0_5.index t (0 : Fin 2) * 16 + 1 * j.val = t.val / 4 * 16 + j.val; omega
  | ⟨1, _⟩ => show win0_5.index t (1 : Fin 2) * 512 + 1 * x.val = 2048 + (t.val % 4 * 512 + x.val); omega

theorem blk6 (c : Dev nD) (t : Fin cfg0.N) (j : Fin 16) :
    iblk m c 6 t (ix4 0 0 j 0) = m ((c : Thread nD τ).loc main_arg5) (ix2 (row16 (sq t) j) (gi (hd t))) := by
  obtain ⟨⟨e0, e1, e2, e3⟩, -⟩ := idxB t
  refine Eq.trans ?_ (V_v7 m c (sq t) (gin (hd t)) j)
  show V m c main_v7 (((cfg0.win 6).blk t).view.emb (ix4 0 0 j 0)) = _
  congr 1
  funext a; apply Fin.ext
  match a with
  | ⟨0, _⟩ => show win0_6.index t (0 : Fin 4) * 1 + 1 * 0 = t.val / 4; omega
  | ⟨1, _⟩ => show win0_6.index t (1 : Fin 4) * 1 + 1 * 0 = t.val % 4; omega
  | ⟨2, _⟩ => show win0_6.index t (2 : Fin 4) * 16 + 1 * j.val = j.val; omega
  | ⟨3, _⟩ => show win0_6.index t (3 : Fin 4) * 1 + 1 * 0 = 0; omega

theorem blk7 (c : Dev nD) (t : Fin cfg0.N) (j : Fin 16) :
    iblk m c 7 t (ix4 0 0 j 0) = m ((c : Thread nD τ).loc main_arg5) (ix2 (row16 (sq t) j) (gf (hd t))) := by
  obtain ⟨-, ⟨e0, e1, e2, e3⟩, -⟩ := idxB t
  refine Eq.trans ?_ (V_v7 m c (sq t) (gfo (hd t)) j)
  show V m c main_v7 (((cfg0.win 7).blk t).view.emb (ix4 0 0 j 0)) = _
  congr 1
  funext a; apply Fin.ext
  match a with
  | ⟨0, _⟩ => show win0_7.index t (0 : Fin 4) * 1 + 1 * 0 = t.val / 4; omega
  | ⟨1, _⟩ => show win0_7.index t (1 : Fin 4) * 1 + 1 * 0 = 4 + t.val % 4; omega
  | ⟨2, _⟩ => show win0_7.index t (2 : Fin 4) * 16 + 1 * j.val = j.val; omega
  | ⟨3, _⟩ => show win0_7.index t (3 : Fin 4) * 1 + 1 * 0 = 0; omega

theorem blk8 (c : Dev nD) (t : Fin cfg0.N) (j : Fin 16) :
    iblk m c 8 t (ix4 0 0 0 j) = m ((c : Thread nD τ).loc main_arg5) (ix2 (row16 (sq t) j) (gi (hd t))) := by
  obtain ⟨-, -, ⟨e0, e1, e2, e3⟩, -⟩ := idxB t
  refine Eq.trans ?_ (V_v9 m c (sq t) (gin (hd t)) j)
  show V m c main_v9 (((cfg0.win 8).blk t).view.emb (ix4 0 0 0 j)) = _
  congr 1
  funext a; apply Fin.ext
  match a with
  | ⟨0, _⟩ => show win0_8.index t (0 : Fin 4) * 1 + 1 * 0 = t.val / 4; omega
  | ⟨1, _⟩ => show win0_8.index t (1 : Fin 4) * 1 + 1 * 0 = t.val % 4; omega
  | ⟨2, _⟩ => show win0_8.index t (2 : Fin 4) * 1 + 1 * 0 = 0; omega
  | ⟨3, _⟩ => show win0_8.index t (3 : Fin 4) * 16 + 1 * j.val = j.val; omega

theorem blk9 (c : Dev nD) (t : Fin cfg0.N) (j : Fin 16) :
    iblk m c 9 t (ix4 0 0 0 j) = m ((c : Thread nD τ).loc main_arg5) (ix2 (row16 (sq t) j) (gf (hd t))) := by
  obtain ⟨-, -, -, ⟨e0, e1, e2, e3⟩, -⟩ := idxB t
  refine Eq.trans ?_ (V_v9 m c (sq t) (gfo (hd t)) j)
  show V m c main_v9 (((cfg0.win 9).blk t).view.emb (ix4 0 0 0 j)) = _
  congr 1
  funext a; apply Fin.ext
  match a with
  | ⟨0, _⟩ => show win0_9.index t (0 : Fin 4) * 1 + 1 * 0 = t.val / 4; omega
  | ⟨1, _⟩ => show win0_9.index t (1 : Fin 4) * 1 + 1 * 0 = 4 + t.val % 4; omega
  | ⟨2, _⟩ => show win0_9.index t (2 : Fin 4) * 1 + 1 * 0 = 0; omega
  | ⟨3, _⟩ => show win0_9.index t (3 : Fin 4) * 16 + 1 * j.val = j.val; omega

theorem blk10 (c : Dev nD) (t : Fin cfg0.N) (x : Fin 512) :
    iblk m c 10 t (ix2 0 x) = m ((c : Thread nD τ).loc main_arg6) (ix1 (col (hd t) x)) := by
  obtain ⟨-, -, -, -, ⟨e0, e1⟩, -⟩ := idxB t
  rw [← V_v2 m c]
  show V m c main_v2 (((cfg0.win 10).blk t).view.emb (ix2 0 x)) = _
  congr 1
  funext a; apply Fin.ext
  match a with
  | ⟨0, _⟩ => show win0_10.index t (0 : Fin 2) * 1 + 1 * 0 = 0; omega
  | ⟨1, _⟩ => show win0_10.index t (1 : Fin 2) * 512 + 1 * x.val = t.val % 4 * 512 + x.val; omega

theorem blk11 (c : Dev nD) (t : Fin cfg0.N) (x : Fin 512) :
    iblk m c 11 t (ix2 0 x) = m ((c : Thread nD τ).loc main_arg7) (ix1 (col (hd t) x)) := by
  obtain ⟨-, -, -, -, -, ⟨e0, e1⟩⟩ := idxB t
  rw [← V_v3 m c]
  show V m c main_v3 (((cfg0.win 11).blk t).view.emb (ix2 0 x)) = _
  congr 1
  funext a; apply Fin.ext
  match a with
  | ⟨0, _⟩ => show win0_11.index t (0 : Fin 2) * 1 + 1 * 0 = 0; omega
  | ⟨1, _⟩ => show win0_11.index t (1 : Fin 2) * 512 + 1 * x.val = t.val % 4 * 512 + x.val; omega

theorem blk12 (c : Dev nD) (t : Fin cfg0.N) (x e : Fin 512) :
    iblk m c 12 t (ix4 0 0 x e) = m ((c : Thread nD τ).loc main_arg8) (ix4 (sq t) (hd t) x e) := by
  obtain ⟨⟨e0, e1, e2, e3⟩, -⟩ := idxC t
  rw [← V_main_arg8 m c]
  show V m c main_arg8 (((cfg0.win 12).blk t).view.emb (ix4 0 0 x e)) = _
  congr 1
  funext a; apply Fin.ext
  match a with
  | ⟨0, _⟩ => show win0_12.index t (0 : Fin 4) * 1 + 1 * 0 = t.val / 4; omega
  | ⟨1, _⟩ => show win0_12.index t (1 : Fin 4) * 1 + 1 * 0 = t.val % 4; omega
  | ⟨2, _⟩ => show win0_12.index t (2 : Fin 4) * 512 + 1 * x.val = x.val; omega
  | ⟨3, _⟩ => show win0_12.index t (3 : Fin 4) * 512 + 1 * e.val = e.val; omega

theorem blk13 (c : Dev nD) (t : Fin cfg0.N) (x : Fin 512) :
    iblk m c 13 t (ix4 0 0 0 x) = m ((c : Thread nD τ).loc main_arg9) (ix3 (sq t) (hd t) x) := by
  obtain ⟨-, ⟨e0, e1, e2, e3⟩, -⟩ := idxC t
  rw [← V_v10 m c]
  show V m c main_v10 (((cfg0.win 13).blk t).view.emb (ix4 0 0 0 x)) = _
  congr 1
  funext a; apply Fin.ext
  match a with
  | ⟨0, _⟩ => show win0_13.index t (0 : Fin 4) * 1 + 1 * 0 = t.val / 4; omega
  | ⟨1, _⟩ => show win0_13.index t (1 : Fin 4) * 1 + 1 * 0 = t.val % 4; omega
  | ⟨2, _⟩ => show win0_13.index t (2 : Fin 4) * 1 + 1 * 0 = 0; omega
  | ⟨3, _⟩ => show win0_13.index t (3 : Fin 4) * 512 + 1 * x.val = x.val; omega

theorem blk14 (c : Dev nD) (t : Fin cfg0.N) :
    iblk m c 14 t (ix4 0 0 0 0) = m ((c : Thread nD τ).loc main_arg10) (ix2 (sq t) (hd t)) := by
  obtain ⟨-, -, ⟨e0, e1, e2, e3⟩⟩ := idxC t
  rw [← V_v11 m c]
  show V m c main_v11 (((cfg0.win 14).blk t).view.emb (ix4 0 0 0 0)) = _
  congr 1
  funext a; apply Fin.ext
  match a with
  | ⟨0, _⟩ => show win0_14.index t (0 : Fin 4) * 1 + 1 * 0 = t.val / 4; omega
  | ⟨1, _⟩ => show win0_14.index t (1 : Fin 4) * 1 + 1 * 0 = t.val % 4; omega
  | ⟨2, _⟩ => show win0_14.index t (2 : Fin 4) * 1 + 1 * 0 = 0; omega
  | ⟨3, _⟩ => show win0_14.index t (3 : Fin 4) * 1 + 1 * 0 = 0; omega

/-! ### Where each output's block lies -/

theorem emb15 (t : Fin cfg0.N) (j : Fin 16) (x : Fin 512) :
    ((cfg0.win 15).blk t).view.emb (ix2 j x) = ix2 (row16 (sq t) j) (col (hd t) x) := by
  obtain ⟨⟨e0, e1⟩, -⟩ := idxD t
  funext a; apply Fin.ext
  match a with
  | ⟨0, _⟩ => show win0_15.index t (0 : Fin 2) * 16 + 1 * j.val = t.val / 4 * 16 + j.val; omega
  | ⟨1, _⟩ => show win0_15.index t (1 : Fin 2) * 512 + 1 * x.val = t.val % 4 * 512 + x.val; omega

theorem emb16 (t : Fin cfg0.N) (x e : Fin 512) :
    ((cfg0.win 16).blk t).view.emb (ix4 0 0 x e) = ix4 (sq t) (hd t) x e := by
  obtain ⟨-, ⟨e0, e1, e2, e3⟩, -⟩ := idxD t
  funext a; apply Fin.ext
  match a with
  | ⟨0, _⟩ => show win0_16.index t (0 : Fin 4) * 1 + 1 * 0 = t.val / 4; omega
  | ⟨1, _⟩ => show win0_16.index t (1 : Fin 4) * 1 + 1 * 0 = t.val % 4; omega
  | ⟨2, _⟩ => show win0_16.index t (2 : Fin 4) * 512 + 1 * x.val = x.val; omega
  | ⟨3, _⟩ => show win0_16.index t (3 : Fin 4) * 512 + 1 * e.val = e.val; omega

theorem emb17 (t : Fin cfg0.N) (x : Fin 512) :
    ((cfg0.win 17).blk t).view.emb (ix4 0 0 0 x) = ix4 (sq t) (hd t) 0 x := by
  obtain ⟨-, -, ⟨e0, e1, e2, e3⟩, -⟩ := idxD t
  funext a; apply Fin.ext
  match a with
  | ⟨0, _⟩ => show win0_17.index t (0 : Fin 4) * 1 + 1 * 0 = t.val / 4; omega
  | ⟨1, _⟩ => show win0_17.index t (1 : Fin 4) * 1 + 1 * 0 = t.val % 4; omega
  | ⟨2, _⟩ => show win0_17.index t (2 : Fin 4) * 1 + 1 * 0 = 0; omega
  | ⟨3, _⟩ => show win0_17.index t (3 : Fin 4) * 512 + 1 * x.val = x.val; omega

theorem emb18 (t : Fin cfg0.N) (y : Fin 128) :
    ((cfg0.win 18).blk t).view.emb (ix4 0 0 0 y) = ix4 (sq t) (hd t) 0 y := by
  obtain ⟨-, -, -, ⟨e0, e1, e2, e3⟩⟩ := idxD t
  funext a; apply Fin.ext
  match a with
  | ⟨0, _⟩ => show win0_18.index t (0 : Fin 4) * 1 + 1 * 0 = t.val / 4; omega
  | ⟨1, _⟩ => show win0_18.index t (1 : Fin 4) * 1 + 1 * 0 = t.val % 4; omega
  | ⟨2, _⟩ => show win0_18.index t (2 : Fin 4) * 1 + 1 * 0 = 0; omega
  | ⟨3, _⟩ => show win0_18.index t (3 : Fin 4) * 128 + 1 * y.val = y.val; omega

/-- The point of a sequence and a head. -/
def pt (s : Fin 128) (h : Fin 4) : Fin cfg0.N := ⟨s.val * 4 + h.val, by
  rw [show cfg0.N = 512 from N_0]
  omega⟩

theorem sq_pt (s : Fin 128) (h : Fin 4) : sq (pt s h) = s := Fin.ext (by show (s.val * 4 + h.val) / 4 = s.val; omega)

theorem hd_pt (s : Fin 128) (h : Fin 4) : hd (pt s h) = h := Fin.ext (by show (s.val * 4 + h.val) % 4 = h.val; omega)

/-! ### Every index of a result lies in the block of its sequence and head -/

theorem mem15 (t : Fin cfg0.N) (i : S2048x2048.Idx) :
    i ∈ ((cfg0.win 15).blk t).view.set ↔ ∀ a, win0_15.index t a * win0_15.size a ≤ (i a : Nat) ∧ (i a : Nat) < win0_15.index t a * win0_15.size a + win0_15.xsize (grid0.coords t) a := by
  show i ∈ ((View.whole main_v12_0).slice (win0_15.rect t)).set ↔ _
  rw [View.set_slice_whole, Rect.mem_set_unit]

theorem mem16 (t : Fin cfg0.N) (i : S128x4x512x512.Idx) :
    i ∈ ((cfg0.win 16).blk t).view.set ↔ ∀ a, win0_16.index t a * win0_16.size a ≤ (i a : Nat) ∧ (i a : Nat) < win0_16.index t a * win0_16.size a + win0_16.xsize (grid0.coords t) a := by
  show i ∈ ((View.whole main_v12_1).slice (win0_16.rect t)).set ↔ _
  rw [View.set_slice_whole, Rect.mem_set_unit]

theorem mem17 (t : Fin cfg0.N) (i : S128x4x1x512.Idx) :
    i ∈ ((cfg0.win 17).blk t).view.set ↔ ∀ a, win0_17.index t a * win0_17.size a ≤ (i a : Nat) ∧ (i a : Nat) < win0_17.index t a * win0_17.size a + win0_17.xsize (grid0.coords t) a := by
  show i ∈ ((View.whole main_v12_2).slice (win0_17.rect t)).set ↔ _
  rw [View.set_slice_whole, Rect.mem_set_unit]

theorem mem18 (t : Fin cfg0.N) (i : S128x4x1x128.Idx) :
    i ∈ ((cfg0.win 18).blk t).view.set ↔ ∀ a, win0_18.index t a * win0_18.size a ≤ (i a : Nat) ∧ (i a : Nat) < win0_18.index t a * win0_18.size a + win0_18.xsize (grid0.coords t) a := by
  show i ∈ ((View.whole main_v12_3).slice (win0_18.rect t)).set ↔ _
  rw [View.set_slice_whole, Rect.mem_set_unit]

theorem cover15 (i : S2048x2048.Idx) : ∃ t : Fin cfg0.N, (cfg0.win 15).flush t = true ∧ i ∈ ((cfg0.win 15).blk t).view.set := by
  have h0 : (i 0).val < 2048 := (i 0).isLt
  have h1 : (i 1).val < 2048 := (i 1).isLt
  refine ⟨pt ⟨(i 0).val / 16, by omega⟩ ⟨(i 1).val / 512, by omega⟩, flush0_15 _, ?_⟩
  obtain ⟨⟨e0, e1⟩, -⟩ := idxD (pt ⟨(i 0).val / 16, by omega⟩ ⟨(i 1).val / 512, by omega⟩)
  simp only [pt] at e0 e1
  rw [mem15]
  intro a
  match a with
  | ⟨0, _⟩ => show win0_15.index (pt _ _) (0 : Fin 2) * 16 ≤ (i 0).val ∧ (i 0).val < win0_15.index (pt _ _) (0 : Fin 2) * 16 + 16; simp only [pt]; omega
  | ⟨1, _⟩ => show win0_15.index (pt _ _) (1 : Fin 2) * 512 ≤ (i 1).val ∧ (i 1).val < win0_15.index (pt _ _) (1 : Fin 2) * 512 + 512; simp only [pt]; omega

theorem cover16 (i : S128x4x512x512.Idx) : ∃ t : Fin cfg0.N, (cfg0.win 16).flush t = true ∧ i ∈ ((cfg0.win 16).blk t).view.set := by
  have h2 : (i 2).val < 512 := (i 2).isLt
  have h3 : (i 3).val < 512 := (i 3).isLt
  have h1 : (i 1).val < 4 := (i 1).isLt
  refine ⟨pt (i 0) (i 1), flush0_16 _, ?_⟩
  obtain ⟨-, ⟨e0, e1, e2, e3⟩, -⟩ := idxD (pt (i 0) (i 1))
  simp only [pt] at e0 e1 e2 e3
  rw [mem16]
  intro a
  match a with
  | ⟨0, _⟩ => show win0_16.index (pt _ _) (0 : Fin 4) * 1 ≤ (i 0).val ∧ (i 0).val < win0_16.index (pt _ _) (0 : Fin 4) * 1 + 1; simp only [pt]; omega
  | ⟨1, _⟩ => show win0_16.index (pt _ _) (1 : Fin 4) * 1 ≤ (i 1).val ∧ (i 1).val < win0_16.index (pt _ _) (1 : Fin 4) * 1 + 1; simp only [pt]; omega
  | ⟨2, _⟩ => show win0_16.index (pt _ _) (2 : Fin 4) * 512 ≤ (i 2).val ∧ (i 2).val < win0_16.index (pt _ _) (2 : Fin 4) * 512 + 512; simp only [pt]; omega
  | ⟨3, _⟩ => show win0_16.index (pt _ _) (3 : Fin 4) * 512 ≤ (i 3).val ∧ (i 3).val < win0_16.index (pt _ _) (3 : Fin 4) * 512 + 512; simp only [pt]; omega

theorem cover17 (i : S128x4x1x512.Idx) : ∃ t : Fin cfg0.N, (cfg0.win 17).flush t = true ∧ i ∈ ((cfg0.win 17).blk t).view.set := by
  have h2 : (i 2).val < 1 := (i 2).isLt
  have h3 : (i 3).val < 512 := (i 3).isLt
  have h1 : (i 1).val < 4 := (i 1).isLt
  refine ⟨pt (i 0) (i 1), flush0_17 _, ?_⟩
  obtain ⟨-, -, ⟨e0, e1, e2, e3⟩, -⟩ := idxD (pt (i 0) (i 1))
  simp only [pt] at e0 e1 e2 e3
  rw [mem17]
  intro a
  match a with
  | ⟨0, _⟩ => show win0_17.index (pt _ _) (0 : Fin 4) * 1 ≤ (i 0).val ∧ (i 0).val < win0_17.index (pt _ _) (0 : Fin 4) * 1 + 1; simp only [pt]; omega
  | ⟨1, _⟩ => show win0_17.index (pt _ _) (1 : Fin 4) * 1 ≤ (i 1).val ∧ (i 1).val < win0_17.index (pt _ _) (1 : Fin 4) * 1 + 1; simp only [pt]; omega
  | ⟨2, _⟩ => show win0_17.index (pt _ _) (2 : Fin 4) * 1 ≤ (i 2).val ∧ (i 2).val < win0_17.index (pt _ _) (2 : Fin 4) * 1 + 1; simp only [pt]; omega
  | ⟨3, _⟩ => show win0_17.index (pt _ _) (3 : Fin 4) * 512 ≤ (i 3).val ∧ (i 3).val < win0_17.index (pt _ _) (3 : Fin 4) * 512 + 512; simp only [pt]; omega

theorem cover18 (i : S128x4x1x128.Idx) : ∃ t : Fin cfg0.N, (cfg0.win 18).flush t = true ∧ i ∈ ((cfg0.win 18).blk t).view.set := by
  have h2 : (i 2).val < 1 := (i 2).isLt
  have h3 : (i 3).val < 128 := (i 3).isLt
  have h1 : (i 1).val < 4 := (i 1).isLt
  refine ⟨pt (i 0) (i 1), flush0_18 _, ?_⟩
  obtain ⟨-, -, -, ⟨e0, e1, e2, e3⟩⟩ := idxD (pt (i 0) (i 1))
  simp only [pt] at e0 e1 e2 e3
  rw [mem18]
  intro a
  match a with
  | ⟨0, _⟩ => show win0_18.index (pt _ _) (0 : Fin 4) * 1 ≤ (i 0).val ∧ (i 0).val < win0_18.index (pt _ _) (0 : Fin 4) * 1 + 1; simp only [pt]; omega
  | ⟨1, _⟩ => show win0_18.index (pt _ _) (1 : Fin 4) * 1 ≤ (i 1).val ∧ (i 1).val < win0_18.index (pt _ _) (1 : Fin 4) * 1 + 1; simp only [pt]; omega
  | ⟨2, _⟩ => show win0_18.index (pt _ _) (2 : Fin 4) * 1 ≤ (i 2).val ∧ (i 2).val < win0_18.index (pt _ _) (2 : Fin 4) * 1 + 1; simp only [pt]; omega
  | ⟨3, _⟩ => show win0_18.index (pt _ _) (3 : Fin 4) * 128 ≤ (i 3).val ∧ (i 3).val < win0_18.index (pt _ _) (3 : Fin 4) * 128 + 128; simp only [pt]; omega

end Cert.Proof.Cell

end
-- ==== Proof.Cell.lean ====
/-
  The recurrent cell of the sample batch: the four token rows of a sequence stand first among 16 rows whose other rows hold
  weightless filling, so a grid point's results are the reference's step over the four rows.
-/
module

public import proofs.«01_k».proof.Defs
public import proofs.«01_k».proof.Proof.Gen.CellIdeal.Value
public import proofs.«01_k».proof.Proof.Gen.CellRefIdeal.Run
public import proofs.«01_k».proof.Proof.Gen.CellRefIdeal.Read
public import proofs.«01_k».proof.Proof.Gen.On_tokens_only
public import proofs.«01_k».proof.Proof.CellMath
public import proofs.«01_k».proof.Proof.CellPay
public import proofs.«01_k».proof.Proof.CellOpen
public import proofs.«01_k».proof.Proof.CellRef
public import proofs.«01_k».proof.Proof.CellBlk

@[expose] public section

set_option maxRecDepth 16384

noncomputable section

namespace Cert.Proof.Cell

open Idealize.ShloMosaic Idealize.ShloMosaic.TcCoe Idealize.SL.Sem Cert.CellIdeal Cert.CellIdeal.Gen Cert.CellIdeal.Value
open Cert.CellRefIdeal.Read (val_main_v91 val_main_v134 val_main_v135 val_main_v137)

/-- The mask of the output: a row's place among the 16 rows of its sequence is below 4. -/
theorem token_row [Cert.On_tokens_only.Facts] (x0 x1 x2 x3 : FVec Ideal S2048x2048 .bf16) (x4 : FVec Ideal S2048x4096 .f32) (x5 : FVec Ideal S2048x128 .f32)
    (x6 x7 : FVec Ideal S2048 .f32) (x8 : FVec Ideal S128x4x512x512 .f32) (x9 : FVec Ideal S128x4x512 .f32) (x10 : FVec Ideal S128x4 .f32)
    (i : S2048x2048.Idx) (hi : (Cert.On_tokens_only.fn (F := Ideal) x0 x1 x2 x3 x4 x5 x6 x7 x8 x9 x10).1 i = 1#1) : (i 0).val % 16 < 4 := by
  have key : ∀ r : Fin 2048, IntOp.cmpi .slt (IntOp.remsi .host (BitVec.ofNat 32 r.val) 16#32) 4#32 = 1#1 → r.val % 16 < 4 := by decide +kernel
  exact key (i 0) hi

variable (m : (ℓ : Loc nD τ sig) → Buf (Elt Ideal) ℓ)

/-- The 16 rows of a point. -/
def prow (c : Dev nD) (t : Fin cfg0.N) : Step 16 :=
  rows (iblk m c 0 t) (iblk m c 1 t) (iblk m c 3 t) (iblk m c 8 t) (iblk m c 9 t) (iblk m c 12 t) (iblk m c 13 t) (iblk m c 14 t)

/-- The four tokens of a point. -/
def ptok (c : Dev nD) (t : Fin cfg0.N) : Step 4 :=
  toks (m ((c : Thread nD τ).loc main_arg0)) (m ((c : Thread nD τ).loc main_arg1)) (m ((c : Thread nD τ).loc main_arg2)) (m ((c : Thread nD τ).loc main_arg5))
    (m ((c : Thread nD τ).loc main_arg8)) (m ((c : Thread nD τ).loc main_arg9)) (m ((c : Thread nD τ).loc main_arg10)) (sq t) (hd t)

/-- The rows are the tokens and filling. -/
theorem filled (c : Dev nD) (t : Fin cfg0.N) : Filled (prow m c t) (ptok m c t) where
  q i x := by
    show iblk m c 0 t (ix2 (up i) x) = _
    rw [blk0, row16_up]; rfl
  k i x := by
    show iblk m c 1 t (ix2 (up i) x) = _
    rw [blk1, row16_up]; rfl
  v i x := by
    show iblk m c 3 t (ix2 (up i) x) = _
    rw [blk3, row16_up]; rfl
  ig i := by
    refine (if_pos (show (up i).val < 4 from i.isLt)).trans ((blk8 m c t (up i)).trans ?_)
    rw [row16_up]; rfl
  lf i := by
    show (if (up i).val < 4 then logsig (iblk m c 9 t (ix4 0 0 0 (up i))) else 0) = _
    rw [if_pos (show (up i).val < 4 from i.isLt), blk9, row16_up]; rfl
  C x e := blk12 m c t x e
  N x := blk13 m c t x
  m := blk14 m c t
  ig_rest j hj := if_neg (by omega)
  lf_rest j hj := if_neg (by omega)

theorem h7 (c : Dev nD) (t : Fin cfg0.N) (j : Fin 16) : iblk m c 7 t (ix4 0 0 j 0) = iblk m c 9 t (ix4 0 0 0 j) :=
  (blk7 m c t j).trans (blk9 m c t j).symm

theorem h6 (c : Dev nD) (t : Fin cfg0.N) (j : Fin 16) : iblk m c 6 t (ix4 0 0 j 0) = iblk m c 8 t (ix4 0 0 0 j) :=
  (blk6 m c t j).trans (blk8 m c t j).symm

theorem h2 (c : Dev nD) (t : Fin cfg0.N) (x : Fin 512) (j : Fin 16) : iblk m c 2 t (ix3 0 x j) = iblk m c 1 t (ix2 j x) :=
  (blk2 m c t x j).trans (blk1 m c t j x).symm

/-- The reference's results of the launch arguments. -/
def G0 (c : Dev nD) : Vec Ideal S2048x2048 .bf16 :=
  val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
def G1 (c : Dev nD) : Vec Ideal S128x4x512x512 .f32 :=
  val_main_v91 (F := Ideal) (m ((c : Thread nD τ).loc main_arg1)) (m ((c : Thread nD τ).loc main_arg2)) (m ((c : Thread nD τ).loc main_arg5)) (m ((c : Thread nD τ).loc main_arg8)) (m ((c : Thread nD τ).loc main_arg10))
def G2 (c : Dev nD) : Vec Ideal S128x4x1x512 .f32 :=
  val_main_v135 (F := Ideal) (m ((c : Thread nD τ).loc main_arg1)) (m ((c : Thread nD τ).loc main_arg5)) (m ((c : Thread nD τ).loc main_arg9)) (m ((c : Thread nD τ).loc main_arg10))
def G3 (c : Dev nD) : Vec Ideal S128x4x1x128 .f32 :=
  val_main_v137 (F := Ideal) (m ((c : Thread nD τ).loc main_arg5)) (m ((c : Thread nD τ).loc main_arg10))

/-- What a point writes of the output, at a token's row. -/
theorem flushed15_ref (c : Dev nD) (t : Fin cfg0.N) (i : Fin 4) (e : Fin 512) :
    (dats m 0 c).flushed 15 t (ix2 (up i) e) = G0 m c (ix2 (tok (sq t) i) (col (hd t) e)) := by
  rw [flushed15_A, open15]
  refine (out_apply (iblk m c 0 t) (iblk m c 1 t) (iblk m c 3 t) (iblk m c 7 t) (iblk m c 8 t) (iblk m c 9 t) (iblk m c 12 t) (iblk m c 13 t) (iblk m c 14 t) (iblk m c 4 t) (iblk m c 5 t) (iblk m c 10 t) (iblk m c 11 t) (h7 m c t) (up i) e).trans ?_
  rw [G0, ref_out, blk10, blk5, blk11, blk4, row16_up]
  have hh : (fun x => (prow m c t).h (up i) x) = fun x => (ptok m c t).h i x := funext fun x => (filled m c t).h i x
  unfold prow ptok at hh
  rw [hh]

/-- What a point writes of the states. -/
theorem flushed16_ref (c : Dev nD) (t : Fin cfg0.N) :
    (dats m 0 c).flushed 16 t = ((cfg0.win 16).blk t).view.read (Elt Ideal) (G1 m c) := by
  funext y
  obtain ⟨x, e, rfl⟩ : ∃ (x e : Fin 512), y = ix4 0 0 x e :=
    ⟨y 2, y 3, funext fun a => by match a with | ⟨0, _⟩ => exact Subsingleton.elim (α := Fin 1) _ _ | ⟨1, _⟩ => exact Subsingleton.elim (α := Fin 1) _ _ | ⟨2, _⟩ => rfl | ⟨3, _⟩ => rfl⟩
  show (dats m 0 c).flushed 16 t (ix4 0 0 x e) = G1 m c (((cfg0.win 16).blk t).view.emb (ix4 0 0 x e))
  rw [emb16, flushed16_A, open16]
  refine (newC_apply (iblk m c 0 t) (iblk m c 1 t) (iblk m c 2 t) (iblk m c 3 t) (iblk m c 7 t) (iblk m c 8 t) (iblk m c 9 t) (iblk m c 12 t) (iblk m c 13 t) (iblk m c 14 t) (h7 m c t) (h2 m c t) x e).trans ?_
  rw [G1, ref_newC (m ((c : Thread nD τ).loc main_arg0)) _ _ _ _ (m ((c : Thread nD τ).loc main_arg9))]
  exact (filled m c t).newC x e

theorem flushed17_ref (c : Dev nD) (t : Fin cfg0.N) :
    (dats m 0 c).flushed 17 t = ((cfg0.win 17).blk t).view.read (Elt Ideal) (G2 m c) := by
  funext y
  obtain ⟨x, rfl⟩ : ∃ (x : Fin 512), y = ix4 0 0 0 x :=
    ⟨y 3, funext fun a => by match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
  show (dats m 0 c).flushed 17 t (ix4 0 0 0 x) = G2 m c (((cfg0.win 17).blk t).view.emb (ix4 0 0 0 x))
  rw [emb17, flushed17_A, open17]
  refine (newN_apply (iblk m c 0 t) (iblk m c 1 t) (iblk m c 3 t) (iblk m c 6 t) (iblk m c 7 t) (iblk m c 8 t) (iblk m c 9 t) (iblk m c 12 t) (iblk m c 13 t) (iblk m c 14 t) (h7 m c t) (h6 m c t) x).trans ?_
  rw [G2, ref_newN (m ((c : Thread nD τ).loc main_arg0)) _ (m ((c : Thread nD τ).loc main_arg2)) _ (m ((c : Thread nD τ).loc main_arg8))]
  exact (filled m c t).newN x

theorem flushed18_ref (c : Dev nD) (t : Fin cfg0.N) :
    (dats m 0 c).flushed 18 t = ((cfg0.win 18).blk t).view.read (Elt Ideal) (G3 m c) := by
  funext y
  obtain ⟨x, rfl⟩ : ∃ (x : Fin 128), y = ix4 0 0 0 x :=
    ⟨y 3, funext fun a => by match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
  show (dats m 0 c).flushed 18 t (ix4 0 0 0 x) = G3 m c (((cfg0.win 18).blk t).view.emb (ix4 0 0 0 x))
  rw [emb18, flushed18_A, open18]
  refine (newM_apply (iblk m c 0 t) (iblk m c 1 t) (iblk m c 3 t) (iblk m c 7 t) (iblk m c 8 t) (iblk m c 9 t) (iblk m c 12 t) (iblk m c 13 t) (iblk m c 14 t) (h7 m c t) x).trans ?_
  rw [G3, ref_newM (m ((c : Thread nD τ).loc main_arg0)) (m ((c : Thread nD τ).loc main_arg1)) (m ((c : Thread nD τ).loc main_arg2)) _ (m ((c : Thread nD τ).loc main_arg8)) (m ((c : Thread nD τ).loc main_arg9))]
  exact (filled m c t).mt_last

/-- The output after the run at a token's row. -/
theorem final15 (c : Dev nD) (i : S2048x2048.Idx) : (i 0).val % 16 < 4 → (dats m 0 c).arrAt 15 cfg0.N i = G0 m c i := by
  refine (dats m 0 c).arrAt_forall_of_cover 15 (fun i v => (i 0).val % 16 < 4 → v = G0 m c i) (fun t _ y => ?_) cover15 i
  obtain ⟨j, e, rfl⟩ : ∃ (j : Fin 16) (e : Fin 512), y = ix2 j e :=
    ⟨y 0, y 1, funext fun a => by match a with | ⟨0, _⟩ => rfl | ⟨1, _⟩ => rfl⟩
  rw [emb15]
  intro hj
  have hj' : ((sq t).val * 16 + j.val) % 16 < 4 := hj
  obtain ⟨i, rfl⟩ : ∃ i : Fin 4, j = up i := ⟨⟨j.val, by omega⟩, Fin.ext rfl⟩
  rw [row16_up]
  exact flushed15_ref m c t i e

theorem final16 (c : Dev nD) : (dats m 0 c).arrAt 16 cfg0.N = G1 m c :=
  (dats m 0 c).arrAt_eq_of_cover 16 (G1 m c) (fun t _ => flushed16_ref m c t) cover16

theorem final17 (c : Dev nD) : (dats m 0 c).arrAt 17 cfg0.N = G2 m c :=
  (dats m 0 c).arrAt_eq_of_cover 17 (G2 m c) (fun t _ => flushed17_ref m c t) cover17

theorem final18 (c : Dev nD) : (dats m 0 c).arrAt 18 cfg0.N = G3 m c :=
  (dats m 0 c).arrAt_eq_of_cover 18 (G3 m c) (fun t _ => flushed18_ref m c t) cover18

/-- Both programs run; the states are the reference's everywhere and the output is the reference's at the tokens' rows. -/
theorem algebraic : Cert.algebraic_CellIdeal_CellRefIdeal_on_tokens_only (hCellIdeal := Cert.CellIdeal.Gen.facts) (hCellRefIdeal := Cert.CellRefIdeal.Gen.facts) (hOn_tokens_only := Cert.On_tokens_only.Gen.facts) :=
  fun m g m' g' _ hag => ⟨G0 m, G1 m, G2 m, G3 m,
    (θ_run _ _ _).mono (fun _ h c => ⟨fun i hi => (congrFun (h c).1 i).trans (final15 m c i (token_row _ _ _ _ _ _ _ _ _ _ _ i hi)),
      fun i _ => congrFun ((h c).2.1.trans (final16 m c)) i,
      fun i _ => congrFun ((h c).2.2.1.trans (final17 m c)) i,
      fun i _ => congrFun ((h c).2.2.2.1.trans (final18 m c)) i, (h c).2.2.2.2⟩) (run_blocks m g),
    (θ_run _ _ _).mono (fun _ h c => by
      obtain ⟨e0, e1, e2, e3, e4, e5, e6, e7, e8, e9, e10⟩ := hag c
      refine ⟨fun i _ => congrFun ((h c).1.trans ?_) i, fun i _ => congrFun ((h c).2.1.trans ?_) i,
        fun i _ => congrFun ((h c).2.2.1.trans ?_) i, fun i _ => congrFun ((h c).2.2.2.1.trans ?_) i, (h c).2.2.2.2⟩
      · rw [Cert.CellRefIdeal.Read.val_main_v134_eq, G0, ← e0, ← e1, ← e2, ← e3, ← e4, ← e5, ← e6, ← e7, ← e8, ← e9, ← e10]
      · rw [Cert.CellRefIdeal.Read.val_main_v91_eq, G1, ← e1, ← e2, ← e5, ← e8, ← e10]
      · rw [Cert.CellRefIdeal.Read.val_main_v135_eq, G2, ← e1, ← e5, ← e9, ← e10]
      · rw [Cert.CellRefIdeal.Read.val_main_v137_eq, G3, ← e5, ← e10]) (Cert.CellRefIdeal.Value.run m' g')⟩

end Cert.Proof.Cell

end
-- ==== Proof.Up.lean ====
/-
  The normalized projection: the first column block of a row block leaves the normalized rows in the scratch buffer, the
  column blocks after it multiply the same rows, and the blocks together are the reference's value.
-/
module

public import proofs.«01_k».proof.Defs
public import proofs.«01_k».proof.Proof.Gen.UpIdeal.Value
public import proofs.«01_k».proof.Proof.Gen.UpRefIdeal.Run
public import proofs.«01_k».proof.Proof.Gen.UpRefIdeal.Read
public import proofs.«01_k».proof.Proof.Norm

@[expose] public section

set_option maxRecDepth 16384

noncomputable section

namespace Cert.Proof.Up

open Idealize.ShloMosaic Idealize.ShloMosaic.TcCoe Idealize.SL.Sem Cert.UpIdeal Cert.UpIdeal.Gen Cert.UpIdeal.Value
open Cert.UpRefIdeal.Read (val_main_v13)

section Opened
variable {F : FTy → Type} [FloatOps F]
variable (c : Dev nD) (t : Fin cfg0.N) (x0 : Vec F S512x1024 .f32) (x1 : Vec F S1x1024 .f32) (x2 : Vec F S1024x1024 .bf16) (xs : Vec F S512x1024 .bf16)

/-- What the first column block of a row block stores. -/
theorem out_A (h) : out0_A_3 c (grid0.coords t) (ms0_0 t) (hs0_0 t) (ms0_1 t) (hs0_1 t) (ms0_2 t) (hs0_2 t) (ms0_3 t) (hs0_3 t) scM0_0 (Memref.isWhole_whole _) h x0 x1 x2
    = k0_pay2 (k0_pay1 x0 x1) x2 := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  erw [View.readCov_unit_zero _ zero2, View.ld_unit_zero zero2, View.ld_unit_zero zero2, View.ld_unit_zero zero2]

/-- What it leaves in the scratch buffer. -/
theorem sout_A (h) : sout0_A_0 c (grid0.coords t) (ms0_0 t) (hs0_0 t) (ms0_1 t) (hs0_1 t) (ms0_2 t) (hs0_2 t) (ms0_3 t) (hs0_3 t) scM0_0 (Memref.isWhole_whole _) h x0 x1 x2
    = k0_pay1 x0 x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  rw [View.ld_unit_zero zero2, View.ld_unit_zero zero2]

/-- What a later column block stores, over the scratch buffer's contents. -/
theorem out_B (h) : out0_B_3 c (grid0.coords t) (ms0_0 t) (hs0_0 t) (ms0_1 t) (hs0_1 t) (ms0_2 t) (hs0_2 t) (ms0_3 t) (hs0_3 t) scM0_0 (Memref.isWhole_whole _) h x0 x1 x2 xs
    = k0_pay2 xs x2 := by
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) scM0_0 (Memref.isWhole_whole _) h x0 x1 x2 xs)]
  unfold kernelRun0_B
  dsimp only
  sl_unfold_words
  rw [View.canon_unit_zero zero2]
  simp only [View.readAt_eq_ld, (hs0_0 t).read_unread, (hs0_1 t).read_unread, (hs0_2 t).read_unread]
  rw [show View.read (Elt F) (View.whole cc0_scratch0) ((Memref.isWhole_whole cc0_scratch0).unread xs) = xs from (Memref.isWhole_whole cc0_scratch0).read_unread xs,
    View.ld_unit_zero zero2, View.ld_unit_zero zero2]

/-- It leaves the scratch buffer as it was. -/
theorem sout_B (h) : sout0_B_0 c (grid0.coords t) (ms0_0 t) (hs0_0 t) (ms0_1 t) (hs0_1 t) (ms0_2 t) (hs0_2 t) (ms0_3 t) (hs0_3 t) scM0_0 (Memref.isWhole_whole _) h x0 x1 x2 xs
    = xs := rfl

end Opened

/-- The normalized rows at a row and a column. -/
theorem pay1_apply (x0 : Vec Ideal S512x1024 .f32) (x1 : Vec Ideal S1x1024 .f32) (a : Fin 512) (k : Fin 1024) :
    k0_pay1 (F := Ideal) x0 x1 (ix2 a k) = x0 (ix2 a k) * rms (fun y => x0 (ix2 a y)) * x1 (ix2 0 k) := by
  unfold rms
  pointwise [k0_pay1]

/-- The product at a row and a column. -/
theorem pay2_apply (xs : Vec Ideal S512x1024 .bf16) (x2 : Vec Ideal S1024x1024 .bf16) (a : Fin 512) (b : Fin 1024) :
    k0_pay2 (F := Ideal) xs x2 (ix2 a b) = ∑ k, xs (ix2 a k) * x2 (ix2 k b) := by
  pointwise [k0_pay2, dot_S512x1024_S1024x1024_S512x1024_1_0_0_1_n_n]

/-- The reference's normalized row. -/
def nrm (X : Vec Ideal S16384x1024 .f32) (nw : Vec Ideal S1024 .f32) (r : Fin 16384) (k : Fin 1024) : EReal :=
  X (ix2 r k) * rms (fun y => X (ix2 r y)) * nw (ix1 k)

open Cert.UpRefIdeal.Read in
/-- The reference's result at a row and a column. -/
theorem ref_apply (X : Vec Ideal S16384x1024 .f32) (nw : Vec Ideal S1024 .f32) (W : Vec Ideal S1024x4096 .f32) (a : Fin 16384) (b : Fin 4096) :
    val_main_v13 (F := Ideal) X nw W (ix2 a b) = ∑ k, nrm X nw a k * W (ix2 k b) := by
  unfold nrm rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    Cert.UpRefIdeal.dot_S16384x1024_S1024x4096_S16384x4096_1_0_0_1_n_n]

variable (m : (ℓ : Loc nD τ sig) → Buf (Elt Ideal) ℓ)

/-- The host views the norm weight as one row. -/
theorem V_v1 (c : Dev nD) (b : Fin 1024) : V m c main_v1 (ix2 0 b) = m ((c : Thread nD τ).loc main_arg1) (ix1 b) := by
  unfold V
  after_results
  pointwise

/-- The host casts the weight, which at the ideal instance is no change. -/
theorem V_v0 (c : Dev nD) : V m c main_v0 = m ((c : Thread nD τ).loc main_arg2) := by
  unfold V
  after_results
  rfl

/-- Where each window's block lies: four column blocks in turn at each block of 512 rows. -/
theorem idx : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4)
    ∧ (win0_3.index t (0 : Fin 2) = t.val / 4 ∧ win0_3.index t (1 : Fin 2) = t.val % 4) :=
  (by decide +kernel : ∀ t : Fin grid0.N, _)

theorem row_lt (t : Fin cfg0.N) (a : Fin 512) : t.val / 4 * 512 + a.val < 16384 := by
  have h := lt_of_lt_of_eq t.isLt (show cfg0.N = 128 from N_0)
  have := a.isLt
  omega

theorem col_lt (t : Fin cfg0.N) (b : Fin 1024) : t.val % 4 * 1024 + b.val < 4096 := by
  have := b.isLt
  omega

/-- The array row of row `a` of point `t`'s block. -/
def row (t : Fin cfg0.N) (a : Fin 512) : Fin 16384 := ⟨t.val / 4 * 512 + a.val, row_lt t a⟩

/-- The array column of column `b` of point `t`'s block. -/
def col (t : Fin cfg0.N) (b : Fin 1024) : Fin 4096 := ⟨t.val % 4 * 1024 + b.val, col_lt t b⟩

theorem blk0 (c : Dev nD) (t : Fin cfg0.N) (a : Fin 512) (k : Fin 1024) :
    iblk m c 0 t (ix2 a k) = m ((c : Thread nD τ).loc main_arg0) (ix2 (row t a) k) := by
  obtain ⟨⟨e0, e1⟩, -⟩ := idx t
  rw [← V_main_arg0 m c]
  show V m c main_arg0 (((cfg0.win 0).blk t).view.emb (ix2 a k)) = _
  congr 1
  funext x; apply Fin.ext
  match x with
  | ⟨0, _⟩ => show win0_0.index t (0 : Fin 2) * 512 + 1 * a.val = t.val / 4 * 512 + a.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  obtain ⟨-, ⟨e0, e1⟩, -⟩ := idx t
  rw [← V_v1 m c]
  show V m c main_v1 (((cfg0.win 1).blk t).view.emb (ix2 0 k)) = _
  congr 1
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k b : Fin 1024) :
    iblk m c 2 t (ix2 k b) = m ((c : Thread nD τ).loc main_arg2) (ix2 k (col t b)) := by
  obtain ⟨-, -, ⟨e0, e1⟩, -⟩ := idx t
  rw [← V_v0 m c]
  show V m c main_v0 (((cfg0.win 2).blk t).view.emb (ix2 k b)) = _
  congr 1
  funext x; apply Fin.ext
  match x with
  | ⟨0, _⟩ => show win0_2.index t (0 : Fin 2) * 1024 + 1 * k.val = k.val; omega
  | ⟨1, _⟩ => show win0_2.index t (1 : Fin 2) * 1024 + 1 * b.val = t.val % 4 * 1024 + b.val; omega

theorem emb3 (t : Fin cfg0.N) (a : Fin 512) (b : Fin 1024) :
    ((cfg0.win 3).blk t).view.emb (ix2 a b) = ix2 (row t a) (col t b) := by
  obtain ⟨-, -, -, ⟨e0, e1⟩⟩ := idx t
  funext x; apply Fin.ext
  match x with
  | ⟨0, _⟩ => show win0_3.index t (0 : Fin 2) * 512 + 1 * a.val = t.val / 4 * 512 + a.val; omega
  | ⟨1, _⟩ => show win0_3.index t (1 : Fin 2) * 1024 + 1 * b.val = t.val % 4 * 1024 + b.val; omega

/-- The normalized rows of the launch arguments. -/
abbrev rows (c : Dev nD) : Fin 16384 → Fin 1024 → EReal :=
  nrm (m ((c : Thread nD τ).loc main_arg0)) (m ((c : Thread nD τ).loc main_arg1))

/-- The body's normalized rows of a point's block are those of the launch arguments. -/
theorem norm_blk (c : Dev nD) (t : Fin cfg0.N) (a : Fin 512) (k : Fin 1024) :
    k0_pay1 (F := Ideal) (iblk m c 0 t) (iblk m c 1 t) (ix2 a k) = rows m c (row t a) k := by
  rw [pay1_apply, rows, nrm]
  simp only [blk0, blk1]

/-- After each point the scratch buffer holds the normalized rows of the point's row block. -/
theorem scratch (c : Dev nD) : ∀ (n : ℕ) (hn : n < cfg0.N) (a : Fin 512) (k : Fin 1024),
    (outsAt0 m c n hn).2 (ix2 a k) = rows m c (row ⟨n, hn⟩ a) k := by
  intro n
  induction n with
  | zero =>
    intro hn a k
    rw [outsAt0_A m c ⟨0, hn⟩ (Nat.zero_mod _)]
    dsimp only
    rw [sout_A, norm_blk]
  | succ n ih =>
    intro hn a k
    by_cases h0 : (n + 1) % 4 = 0
    · rw [outsAt0_A m c ⟨n + 1, hn⟩ h0]
      dsimp only
      rw [sout_A, norm_blk]
    · rw [outsAt0_B m c ⟨n + 1, hn⟩ h0]
      dsimp only
      rw [sout_B]
      simp only [Nat.add_sub_cancel]
      rw [ih (Nat.lt_of_succ_lt hn)]
      congr 1
      apply Fin.ext
      show n / 4 * 512 + a.val = (n + 1) / 4 * 512 + a.val
      omega

/-- The reference's value of the launch arguments. -/
def G (c : Dev nD) : Vec Ideal S16384x4096 .f32 :=
  val_main_v13 (F := Ideal) (m ((c : Thread nD τ).loc main_arg0)) (m ((c : Thread nD τ).loc main_arg1)) (m ((c : Thread nD τ).loc main_arg2))

/-- What a grid point writes back is its block of the reference's value. -/
theorem flushed_eq (c : Dev nD) (t : Fin cfg0.N) :
    (dats m 0 c).flushed 3 t = ((cfg0.win 3).blk t).view.read (Elt Ideal) (G m c) := by
  funext y
  obtain ⟨a, b, rfl⟩ : ∃ (a : Fin 512) (b : Fin 1024), y = ix2 a b :=
    ⟨y 0, y 1, funext fun x => by match x with | ⟨0, _⟩ => rfl | ⟨1, _⟩ => rfl⟩
  show (dats m 0 c).flushed 3 t (ix2 a b) = G m c (((cfg0.win 3).blk t).view.emb (ix2 a b))
  rw [emb3, G, ref_apply]
  by_cases h0 : t.val % 4 = 0
  · rw [flushed3_A m c t h0, out_A]
    show k0_pay2 (F := Ideal) _ _ (ix2 a b) = _
    rw [pay2_apply]
    simp only [blk2, norm_blk]
  · rw [flushed3_B m c t h0, out_B]
    show k0_pay2 (F := Ideal) _ _ (ix2 a b) = _
    rw [pay2_apply]
    simp only [blk2, scratch]
    rw [show row ⟨t.val - 1, Nat.lt_of_le_of_lt (Nat.sub_le _ _) t.isLt⟩ a = row t a from Fin.ext (by
      show (t.val - 1) / 4 * 512 + a.val = t.val / 4 * 512 + a.val
      omega)]

/-- Every index of the result lies in some block. -/
theorem covered (i : S16384x4096.Idx) : ∃ t : Fin cfg0.N, (cfg0.win 3).flush t = true ∧ i ∈ ((cfg0.win 3).blk t).view.set :=
  (covered_iff3 i).2 (by
    have h0 : (i 0).val < 16384 := (i 0).isLt
    have h1 : (i 1).val < 4096 := (i 1).isLt
    omega)

/-- The result array after the run is the reference's value. -/
theorem final (c : Dev nD) : (dats m 0 c).arrAt 3 cfg0.N = G m c :=
  (dats m 0 c).arrAt_eq_of_cover 3 (G m c) (fun t _ => flushed_eq m c t) covered

/-- Both programs run, and both end with the reference's value of the arguments. -/
theorem algebraic : Cert.algebraic_UpIdeal_UpRefIdeal (hUpIdeal := Cert.UpIdeal.Gen.facts) (hUpRefIdeal := Cert.UpRefIdeal.Gen.facts) :=
  fun m g m' g' _ hag => ⟨G m,
    (θ_run _ _ _).mono (fun _ h c => ⟨(h c).1.trans (final m c), (h c).2⟩) (run_blocks m g),
    (θ_run _ _ _).mono (fun _ h c => ⟨(h c).1.trans (by
        obtain ⟨e0, e1, e2⟩ := hag c
        rw [Cert.UpRefIdeal.Read.val_main_v13_eq, e0, e1, e2]
        rfl), (h c).2⟩) (Cert.UpRefIdeal.Value.run m' g')⟩

end Cert.Proof.Up

end
-- ==== Proof.Down.lean ====
/-
  The down projection with its residual: what the kernel's grid leaves in the result array is the reference's
  value, block of rows by block of rows.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.Norm

@[expose] public section

set_option maxRecDepth 16384

noncomputable section

namespace Cert.Proof.Down

open Idealize.ShloMosaic Idealize.ShloMosaic.TcCoe Idealize.SL.Sem Cert.DownIdeal Cert.DownIdeal.Gen Cert.DownIdeal.Value
open Cert.DownRefIdeal.Read (val_main_v15)

/-- The body's one store covers its buffer, and its loads read whole buffers. -/
theorem out_eq {F : FTy → Type} [FloatOps F] (x0 : Vec F S512x2048 .bf16) (x1 : Vec F S2048x1024 .bf16) (x2 : Vec F S1x1024 .f32) (x3 : Vec F S512x1024 .f32) :
    out0_4 x0 x1 x2 x3 = k0_pay1 x0 x1 x3 x2 := by
  unfold out0_4
  rw [View.canon_unit_zero zero2, View.ld_unit_zero zero2, View.ld_unit_zero zero2, View.ld_unit_zero zero2, View.ld_unit_zero zero2]

/-- The body's payload at a row and a column. -/
theorem pay_apply (x0 : Vec Ideal S512x2048 .bf16) (x1 : Vec Ideal S2048x1024 .bf16) (x2 : Vec Ideal S1x1024 .f32) (x3 : Vec Ideal S512x1024 .f32)
    (a : Fin 512) (b : Fin 1024) :
    k0_pay1 (F := Ideal) x0 x1 x3 x2 (ix2 a b) = x3 (ix2 a b)
      + (∑ k, x0 (ix2 a k) * x1 (ix2 k b)) * rms (fun y => ∑ k, x0 (ix2 a k) * x1 (ix2 k y)) * x2 (ix2 0 b) := by
  unfold rms
  pointwise [k0_pay1, dot_S512x2048_S2048x1024_S512x1024_1_0_0_1_n_n]

open Cert.DownRefIdeal.Read in
/-- The reference's result at a row and a column. -/
theorem ref_apply (A : Vec Ideal S16384x2048 .bf16) (W : Vec Ideal S2048x1024 .f32) (nw : Vec Ideal S1024 .f32) (X : Vec Ideal S16384x1024 .f32)
    (a : Fin 16384) (b : Fin 1024) :
    val_main_v15 (F := Ideal) A W nw X (ix2 a b) = X (ix2 a b)
      + (∑ k, A (ix2 a k) * W (ix2 k b)) * rms (fun y => ∑ k, A (ix2 a k) * W (ix2 k y)) * nw (ix1 b) := by
  unfold rms
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.DownRefIdeal.dot_S16384x2048_S2048x1024_S16384x1024_1_0_0_1_n_n]

variable (m : (ℓ : Loc nD τ sig) → Buf (Elt Ideal) ℓ)

/-- The host casts the weight, which at the ideal instance is no change. -/
theorem V_v0 (c : Dev nD) : V m c main_v0 = m ((c : Thread nD τ).loc main_arg1) := by
  unfold V
  after_results
  rfl

/-- The host views the norm weight as one row. -/
theorem V_v1 (c : Dev nD) (b : Fin 1024) : V m c main_v1 (ix2 0 b) = m ((c : Thread nD τ).loc main_arg2) (ix1 b) := by
  unfold V
  after_results
  pointwise

/-- Where each window's block lies: blocks of 512 rows follow the grid, the weight and the norm weight stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem row_lt (t : Fin cfg0.N) (a : Fin 512) : t.val * 512 + a.val < 16384 := by
  have h := lt_of_lt_of_eq t.isLt (show cfg0.N = 32 from N_0)
  have := a.isLt
  omega

/-- The array row of row `a` of block `t`. -/
def row (t : Fin cfg0.N) (a : Fin 512) : Fin 16384 := ⟨t.val * 512 + a.val, row_lt t a⟩

theorem blk0 (c : Dev nD) (t : Fin cfg0.N) (a : Fin 512) (k : Fin 2048) :
    iblk m c 0 t (ix2 a k) = m ((c : Thread nD τ).loc main_arg0) (ix2 (row t a) k) := by
  obtain ⟨⟨e0, e1⟩, -⟩ := idx t
  rw [← V_main_arg0 m c]
  show V m c main_arg0 (((cfg0.win 0).blk t).view.emb (ix2 a k)) = _
  congr 1
  funext x; apply Fin.ext
  match x with
  | ⟨0, _⟩ => show win0_0.index t (0 : Fin 2) * 512 + 1 * a.val = t.val * 512 + a.val; omega
  | ⟨1, _⟩ => show win0_0.index t (1 : Fin 2) * 2048 + 1 * k.val = k.val; omega

theorem blk1 (c : Dev nD) (t : Fin cfg0.N) (k : Fin 2048) (b : Fin 1024) :
    iblk m c 1 t (ix2 k b) = m ((c : Thread nD τ).loc main_arg1) (ix2 k b) := by
  obtain ⟨-, ⟨e0, e1⟩, -⟩ := idx t
  rw [← V_v0 m c]
  show V m c main_v0 (((cfg0.win 1).blk t).view.emb (ix2 k b)) = _
  congr 1
  funext x; apply Fin.ext
  match x with
  | ⟨0, _⟩ => show win0_1.index t (0 : Fin 2) * 2048 + 1 * k.val = k.val; omega
  | ⟨1, _⟩ => show win0_1.index t (1 : Fin 2) * 1024 + 1 * b.val = b.val; omega

theorem blk2 (c : Dev nD) (t : Fin cfg0.N) (b : Fin 1024) :
    iblk m c 2 t (ix2 0 b) = m ((c : Thread nD τ).loc main_arg2) (ix1 b) := by
  obtain ⟨-, -, ⟨e0, e1⟩, -⟩ := idx t
  rw [← V_v1 m c]
  show V m c main_v1 (((cfg0.win 2).blk t).view.emb (ix2 0 b)) = _
  congr 1
  funext x; apply Fin.ext
  match x with
  | ⟨0, _⟩ => show win0_2.index t (0 : Fin 2) * 1 + 1 * 0 = 0; omega
  | ⟨1, _⟩ => show win0_2.index t (1 : Fin 2) * 1024 + 1 * b.val = b.val; omega

theorem blk3 (c : Dev nD) (t : Fin cfg0.N) (a : Fin 512) (b : Fin 1024) :
    iblk m c 3 t (ix2 a b) = m ((c : Thread nD τ).loc main_arg3) (ix2 (row t a) b) := by
  obtain ⟨-, -, -, ⟨e0, e1⟩, -⟩ := idx t
  rw [← V_main_arg3 m c]
  show V m c main_arg3 (((cfg0.win 3).blk t).view.emb (ix2 a b)) = _
  congr 1
  funext x; apply Fin.ext
  match x with
  | ⟨0, _⟩ => show win0_3.index t (0 : Fin 2) * 512 + 1 * a.val = t.val * 512 + a.val; omega
  | ⟨1, _⟩ => show win0_3.index t (1 : Fin 2) * 1024 + 1 * b.val = b.val; omega

theorem emb4 (t : Fin cfg0.N) (a : Fin 512) (b : Fin 1024) :
    ((cfg0.win 4).blk t).view.emb (ix2 a b) = ix2 (row t a) b := by
  obtain ⟨-, -, -, -, ⟨e0, e1⟩⟩ := idx t
  funext x; apply Fin.ext
  match x with
  | ⟨0, _⟩ => show win0_4.index t (0 : Fin 2) * 512 + 1 * a.val = t.val * 512 + a.val; omega
  | ⟨1, _⟩ => show win0_4.index t (1 : Fin 2) * 1024 + 1 * b.val = b.val; omega

/-- The reference's value of the launch arguments. -/
def G (c : Dev nD) : Vec Ideal S16384x1024 .f32 :=
  val_main_v15 (F := Ideal) (m ((c : Thread nD τ).loc main_arg0)) (m ((c : Thread nD τ).loc main_arg1))
    (m ((c : Thread nD τ).loc main_arg2)) (m ((c : Thread nD τ).loc main_arg3))

/-- What a grid point writes back is its block of the reference's value. -/
theorem flushed_eq (c : Dev nD) (t : Fin cfg0.N) :
    (dats m 0 c).flushed 4 t = ((cfg0.win 4).blk t).view.read (Elt Ideal) (G m c) := by
  rw [flushed4, out_eq]
  funext y
  obtain ⟨a, b, rfl⟩ : ∃ (a : Fin 512) (b : Fin 1024), y = ix2 a b :=
    ⟨y 0, y 1, funext fun x => by match x with | ⟨0, _⟩ => rfl | ⟨1, _⟩ => rfl⟩
  show k0_pay1 (F := Ideal) (iblk m c 0 t) (iblk m c 1 t) (iblk m c 3 t) (iblk m c 2 t) (ix2 a b) = G m c (((cfg0.win 4).blk t).view.emb (ix2 a b))
  rw [emb4, pay_apply, G, ref_apply]
  simp only [blk0, blk1, blk2, blk3]

/-- Every index of the result lies in some block. -/
theorem covered (i : S16384x1024.Idx) : ∃ t : Fin cfg0.N, (cfg0.win 4).flush t = true ∧ i ∈ ((cfg0.win 4).blk t).view.set := by
  have h0 : (i 0).val < 16384 := (i 0).isLt
  have hN : cfg0.N = 32 := N_0
  obtain ⟨t, a, b, e⟩ : ∃ (t : Fin cfg0.N) (a : Fin 512) (b : Fin 1024), ((cfg0.win 4).blk t).view.emb (ix2 a b) = i := by
    refine ⟨⟨(i 0).val / 512, by omega⟩, ⟨(i 0).val % 512, Nat.mod_lt _ (by decide)⟩, i 1, (emb4 _ _ _).trans ?_⟩
    funext x; apply Fin.ext
    match x with
    | ⟨0, _⟩ => show (i 0).val / 512 * 512 + (i 0).val % 512 = (i 0).val; omega
    | ⟨1, _⟩ => rfl
  exact ⟨t, (by decide +kernel : ∀ t : Fin grid0.N, win0_4.flush t = true) t, e ▸ ((cfg0.win 4).blk t).view.emb_mem_set (ix2 a b)⟩

/-- The result array after the run is the reference's value. -/
theorem final (c : Dev nD) : (dats m 0 c).arrAt 4 cfg0.N = G m c :=
  (dats m 0 c).arrAt_eq_of_cover 4 (G m c) (fun t _ => flushed_eq m c t) covered

/-- Both programs run, and both end with the reference's value of the arguments. -/
theorem algebraic : Cert.algebraic_DownIdeal_DownRefIdeal (hDownIdeal := Cert.DownIdeal.Gen.facts) (hDownRefIdeal := Cert.DownRefIdeal.Gen.facts) :=
  fun m g m' g' _ hag => ⟨G m,
    (θ_run _ _ _).mono (fun _ h c => ⟨(h c).1.trans (final m c), (h c).2⟩) (run_blocks m g),
    (θ_run _ _ _).mono (fun _ h c => ⟨(h c).1.trans (by
        obtain ⟨e0, e1, e2, e3⟩ := hag c
        rw [Cert.DownRefIdeal.Read.val_main_v15_eq, e0, e1, e2, e3]
        rfl), (h c).2⟩) (Cert.DownRefIdeal.Value.run m' g')⟩

end Cert.Proof.Down

end
-- ==== Proof.Kv.lean ====
/-
  The projection to the shared keys and values: the first column block of a row block leaves the normalized rows in the scratch buffer, the
  column blocks after it multiply the same rows, and the blocks together are the reference's value.  Each product is written twice, once as it is and once rounded.
-/
module

public import proofs.«01_k».proof.Defs
public import proofs.«01_k».proof.Proof.Gen.KvIdeal.Value
public import proofs.«01_k».proof.Proof.Gen.KvRefIdeal.Run
public import proofs.«01_k».proof.Proof.Gen.KvRefIdeal.Read
public import proofs.«01_k».proof.Proof.Norm

@[expose] public section

set_option maxRecDepth 16384

noncomputable section

namespace Cert.Proof.Kv

open Idealize.ShloMosaic Idealize.ShloMosaic.TcCoe Idealize.SL.Sem Cert.KvIdeal Cert.KvIdeal.Gen Cert.KvIdeal.Value
open Cert.KvRefIdeal.Read (val_main_v13)

section Opened
variable {F : FTy → Type} [FloatOps F]
variable (c : Dev nD) (t : Fin cfg0.N) (x0 : Vec F S512x1024 .f32) (x1 : Vec F S1x1024 .f32) (x2 : Vec F S1024x512 .bf16) (xs : Vec F S512x1024 .bf16)

/-- What the first column block of a row block stores. -/
theorem out_A (h) : out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2
    = k0_pay2 (k0_pay1 x0 x1) x2 := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  erw [View.readCov_unit_zero _ zero2, View.ld_unit_zero zero2, View.ld_unit_zero zero2, View.ld_unit_zero zero2]

/-- What the first column block of a row block stores rounded. -/
theorem out_A4 (h) : out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2
    = k0_pay3 (k0_pay1 x0 x1) x2 := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  erw [View.readCov_unit_zero _ zero2, View.ld_unit_zero zero2, View.ld_unit_zero zero2, View.ld_unit_zero zero2]

/-- What it leaves in the scratch buffer. -/
theorem sout_A (h) : sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2
    = k0_pay1 x0 x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  rw [View.ld_unit_zero zero2, View.ld_unit_zero zero2]

/-- What a later column block stores, over the scratch buffer's contents. -/
theorem out_B (h) : out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2 xs
    = k0_pay2 xs x2 := by
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2 xs)]
  unfold kernelRun0_B
  dsimp only
  sl_unfold_words
  rw [View.canon_unit_zero zero2]
  simp only [View.readAt_eq_ld, (hs0_0 t).read_unread, (hs0_1 t).read_unread, (hs0_2 t).read_unread]
  rw [show View.read (Elt F) (View.whole cc0_scratch0) ((Memref.isWhole_whole cc0_scratch0).unread xs) = xs from (Memref.isWhole_whole cc0_scratch0).read_unread xs,
    View.ld_unit_zero zero2, View.ld_unit_zero zero2]

/-- What a later column block stores rounded, over the scratch buffer's contents. -/
theorem out_B4 (h) : out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2 xs
    = k0_pay3 xs x2 := by
  unfold out0_B_4
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2 xs)]
  unfold kernelRun0_B
  dsimp only
  sl_unfold_words
  rw [View.canon_unit_zero zero2]
  simp only [View.readAt_eq_ld, (hs0_0 t).read_unread, (hs0_1 t).read_unread, (hs0_2 t).read_unread]
  rw [show View.read (Elt F) (View.whole cc0_scratch0) ((Memref.isWhole_whole cc0_scratch0).unread xs) = xs from (Memref.isWhole_whole cc0_scratch0).read_unread xs,
    View.ld_unit_zero zero2, View.ld_unit_zero zero2]

/-- It leaves the scratch buffer as it was. -/
theorem sout_B (h) : sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) h x0 x1 x2 xs
    = xs := rfl

end Opened

/-- The normalized rows at a row and a column. -/
theorem pay1_apply (x0 : Vec Ideal S512x1024 .f32) (x1 : Vec Ideal S1x1024 .f32) (a : Fin 512) (k : Fin 1024) :
    k0_pay1 (F := Ideal) x0 x1 (ix2 a k) = x0 (ix2 a k) * rms (fun y => x0 (ix2 a y)) * x1 (ix2 0 k) := by
  unfold rms
  pointwise [k0_pay1]

/-- The product at a row and a column. -/
theorem pay2_apply (xs : Vec Ideal S512x1024 .bf16) (x2 : Vec Ideal S1024x512 .bf16) (a : Fin 512) (b : Fin 512) :
    k0_pay2 (F := Ideal) xs x2 (ix2 a b) = ∑ k, xs (ix2 a k) * x2 (ix2 k b) := by
  pointwise [k0_pay2, dot_S512x1024_S1024x512_S512x512_1_0_0_1_n_n]

/-- At the ideal instance rounding is no change. -/
theorem pay3_eq (xs : Vec Ideal S512x1024 .bf16) (x2 : Vec Ideal S1024x512 .bf16) (i : S512x512.Idx) :
    k0_pay3 (F := Ideal) xs x2 i = k0_pay2 (F := Ideal) xs x2 i := rfl

/-- The reference's normalized row. -/
def nrm (X : Vec Ideal S16384x1024 .f32) (nw : Vec Ideal S1024 .f32) (r : Fin 16384) (k : Fin 1024) : EReal :=
  X (ix2 r k) * rms (fun y => X (ix2 r y)) * nw (ix1 k)

open Cert.KvRefIdeal.Read in
/-- The reference's result at a row and a column. -/
theorem ref_apply (X : Vec Ideal S16384x1024 .f32) (nw : Vec Ideal S1024 .f32) (W : Vec Ideal S1024x1536 .f32) (a : Fin 16384) (b : Fin 1536) :
    val_main_v13 (F := Ideal) X nw W (ix2 a b) = ∑ k, nrm X nw a k * W (ix2 k b) := by
  unfold nrm rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    Cert.KvRefIdeal.dot_S16384x1024_S1024x1536_S16384x1536_1_0_0_1_n_n]

variable (m : (ℓ : Loc nD τ sig) → Buf (Elt Ideal) ℓ)

/-- The host views the norm weight as one row. -/
theorem V_v1 (c : Dev nD) (b : Fin 1024) : V m c main_v1 (ix2 0 b) = m ((c : Thread nD τ).loc main_arg1) (ix1 b) := by
  unfold V
  after_results
  pointwise

/-- The host casts the weight, which at the ideal instance is no change. -/
theorem V_v0 (c : Dev nD) : V m c main_v0 = m ((c : Thread nD τ).loc main_arg2) := by
  unfold V
  after_results
  rfl

/-- Where each window's block lies: three column blocks in turn at each block of 512 rows. -/
theorem idx : ∀ t : Fin cfg0.N, (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3)
    ∧ (win0_3.index t (0 : Fin 2) = t.val / 3 ∧ win0_3.index t (1 : Fin 2) = t.val % 3)
    ∧ (win0_4.index t (0 : Fin 2) = t.val / 3 ∧ win0_4.index t (1 : Fin 2) = t.val % 3) :=
  (by decide +kernel : ∀ t : Fin grid0.N, _)

theorem row_lt (t : Fin cfg0.N) (a : Fin 512) : t.val / 3 * 512 + a.val < 16384 := by
  have h := lt_of_lt_of_eq t.isLt (show cfg0.N = 96 from N_0)
  have := a.isLt
  omega

theorem col_lt (t : Fin cfg0.N) (b : Fin 512) : t.val % 3 * 512 + b.val < 1536 := by
  have := b.isLt
  omega

/-- The array row of row `a` of point `t`'s block. -/
def row (t : Fin cfg0.N) (a : Fin 512) : Fin 16384 := ⟨t.val / 3 * 512 + a.val, row_lt t a⟩

/-- The array column of column `b` of point `t`'s block. -/
def col (t : Fin cfg0.N) (b : Fin 512) : Fin 1536 := ⟨t.val % 3 * 512 + b.val, col_lt t b⟩

theorem blk0 (c : Dev nD) (t : Fin cfg0.N) (a : Fin 512) (k : Fin 1024) :
    iblk m c 0 t (ix2 a k) = m ((c : Thread nD τ).loc main_arg0) (ix2 (row t a) k) := by
  obtain ⟨⟨e0, e1⟩, -⟩ := idx t
  rw [← V_main_arg0 m c]
  show V m c main_arg0 (((cfg0.win 0).blk t).view.emb (ix2 a k)) = _
  congr 1
  funext x; apply Fin.ext
  match x with
  | ⟨0, _⟩ => show win0_0.index t (0 : Fin 2) * 512 + 1 * a.val = t.val / 3 * 512 + a.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  obtain ⟨-, ⟨e0, e1⟩, -⟩ := idx t
  rw [← V_v1 m c]
  show V m c main_v1 (((cfg0.win 1).blk t).view.emb (ix2 0 k)) = _
  congr 1
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k : Fin 1024) (b : Fin 512) :
    iblk m c 2 t (ix2 k b) = m ((c : Thread nD τ).loc main_arg2) (ix2 k (col t b)) := by
  obtain ⟨-, -, ⟨e0, e1⟩, -⟩ := idx t
  rw [← V_v0 m c]
  show V m c main_v0 (((cfg0.win 2).blk t).view.emb (ix2 k b)) = _
  congr 1
  funext x; apply Fin.ext
  match x with
  | ⟨0, _⟩ => show win0_2.index t (0 : Fin 2) * 1024 + 1 * k.val = k.val; omega
  | ⟨1, _⟩ => show win0_2.index t (1 : Fin 2) * 512 + 1 * b.val = t.val % 3 * 512 + b.val; omega

theorem emb3 (t : Fin cfg0.N) (a b : Fin 512) :
    ((cfg0.win 3).blk t).view.emb (ix2 a b) = ix2 (row t a) (col t b) := by
  obtain ⟨-, -, -, ⟨e0, e1⟩, -⟩ := idx t
  funext x; apply Fin.ext
  match x with
  | ⟨0, _⟩ => show win0_3.index t (0 : Fin 2) * 512 + 1 * a.val = t.val / 3 * 512 + a.val; omega
  | ⟨1, _⟩ => show win0_3.index t (1 : Fin 2) * 512 + 1 * b.val = t.val % 3 * 512 + b.val; omega

theorem emb4 (t : Fin cfg0.N) (a b : Fin 512) :
    ((cfg0.win 4).blk t).view.emb (ix2 a b) = ix2 (row t a) (col t b) := by
  obtain ⟨-, -, -, -, ⟨e0, e1⟩⟩ := idx t
  funext x; apply Fin.ext
  match x with
  | ⟨0, _⟩ => show win0_4.index t (0 : Fin 2) * 512 + 1 * a.val = t.val / 3 * 512 + a.val; omega
  | ⟨1, _⟩ => show win0_4.index t (1 : Fin 2) * 512 + 1 * b.val = t.val % 3 * 512 + b.val; omega

/-- The normalized rows of the launch arguments. -/
abbrev rows (c : Dev nD) : Fin 16384 → Fin 1024 → EReal :=
  nrm (m ((c : Thread nD τ).loc main_arg0)) (m ((c : Thread nD τ).loc main_arg1))

/-- The body's normalized rows of a point's block are those of the launch arguments. -/
theorem norm_blk (c : Dev nD) (t : Fin cfg0.N) (a : Fin 512) (k : Fin 1024) :
    k0_pay1 (F := Ideal) (iblk m c 0 t) (iblk m c 1 t) (ix2 a k) = rows m c (row t a) k := by
  rw [pay1_apply, rows, nrm]
  simp only [blk0, blk1]

/-- After each point the scratch buffer holds the normalized rows of the point's row block. -/
theorem scratch (c : Dev nD) : ∀ (n : ℕ) (hn : n < cfg0.N) (a : Fin 512) (k : Fin 1024),
    (outsAt0 m c n hn).2.2 (ix2 a k) = rows m c (row ⟨n, hn⟩ a) k := by
  intro n
  induction n with
  | zero =>
    intro hn a k
    rw [outsAt0_A m c ⟨0, hn⟩ (Nat.zero_mod _)]
    dsimp only
    rw [sout_A, norm_blk]
  | succ n ih =>
    intro hn a k
    by_cases h0 : (n + 1) % 3 = 0
    · rw [outsAt0_A m c ⟨n + 1, hn⟩ h0]
      dsimp only
      rw [sout_A, norm_blk]
    · rw [outsAt0_B m c ⟨n + 1, hn⟩ h0]
      dsimp only
      rw [sout_B]
      simp only [Nat.add_sub_cancel]
      rw [ih (Nat.lt_of_succ_lt hn)]
      congr 1
      apply Fin.ext
      show n / 3 * 512 + a.val = (n + 1) / 3 * 512 + a.val
      omega

/-- The reference's value of the launch arguments. -/
def G (c : Dev nD) : Vec Ideal S16384x1536 .f32 :=
  val_main_v13 (F := Ideal) (m ((c : Thread nD τ).loc main_arg0)) (m ((c : Thread nD τ).loc main_arg1)) (m ((c : Thread nD τ).loc main_arg2))

/-- The product of a point's normalized rows and its weight block is the reference's value there. -/
theorem prod_eq (c : Dev nD) (t : Fin cfg0.N) (a b : Fin 512) (xs : Vec Ideal S512x1024 .bf16) (h : ∀ k, xs (ix2 a k) = rows m c (row t a) k) :
    k0_pay2 (F := Ideal) xs (iblk m c 2 t) (ix2 a b) = G m c (ix2 (row t a) (col t b)) := by
  rw [G, ref_apply, pay2_apply]
  simp only [blk2, h]

/-- The scratch buffer a later column block reads. -/
theorem scratch_prev (c : Dev nD) (t : Fin cfg0.N) (h0 : ¬ t.val % 3 = 0) (a : Fin 512) (k : Fin 1024) :
    (outsAt0 m c (t.val - 1) (Nat.lt_of_le_of_lt (Nat.sub_le _ _) t.isLt)).2.2 (ix2 a k) = rows m c (row t a) k := by
  rw [scratch, show row ⟨t.val - 1, Nat.lt_of_le_of_lt (Nat.sub_le _ _) t.isLt⟩ a = row t a from Fin.ext (by
    show (t.val - 1) / 3 * 512 + a.val = t.val / 3 * 512 + a.val
    omega)]

/-- What a grid point writes back is its block of the reference's value. -/
theorem flushed3_ref (c : Dev nD) (t : Fin cfg0.N) :
    (dats m 0 c).flushed 3 t = ((cfg0.win 3).blk t).view.read (Elt Ideal) (G m c) := by
  funext y
  obtain ⟨a, b, rfl⟩ : ∃ (a b : Fin 512), y = ix2 a b :=
    ⟨y 0, y 1, funext fun x => by match x with | ⟨0, _⟩ => rfl | ⟨1, _⟩ => rfl⟩
  show (dats m 0 c).flushed 3 t (ix2 a b) = G m c (((cfg0.win 3).blk t).view.emb (ix2 a b))
  rw [emb3]
  by_cases h0 : t.val % 3 = 0
  · rw [flushed3_A m c t h0, out_A]
    exact prod_eq m c t a b _ (norm_blk m c t a)
  · rw [flushed3_B m c t h0, out_B]
    exact prod_eq m c t a b _ (scratch_prev m c t h0 a)

/-- So it is for the rounded product. -/
theorem flushed4_ref (c : Dev nD) (t : Fin cfg0.N) :
    (dats m 0 c).flushed 4 t = ((cfg0.win 4).blk t).view.read (Elt Ideal) (G m c) := by
  funext y
  obtain ⟨a, b, rfl⟩ : ∃ (a b : Fin 512), y = ix2 a b :=
    ⟨y 0, y 1, funext fun x => by match x with | ⟨0, _⟩ => rfl | ⟨1, _⟩ => rfl⟩
  show (dats m 0 c).flushed 4 t (ix2 a b) = G m c (((cfg0.win 4).blk t).view.emb (ix2 a b))
  rw [emb4]
  by_cases h0 : t.val % 3 = 0
  · rw [flushed4_A m c t h0, out_A4]
    exact (pay3_eq _ _ (ix2 a b)).trans (prod_eq m c t a b _ (norm_blk m c t a))
  · rw [flushed4_B m c t h0, out_B4]
    exact (pay3_eq _ _ (ix2 a b)).trans (prod_eq m c t a b _ (scratch_prev m c t h0 a))

/-- Every index of the results lies in some block. -/
theorem covered3 (i : S16384x1536.Idx) : ∃ t : Fin cfg0.N, (cfg0.win 3).flush t = true ∧ i ∈ ((cfg0.win 3).blk t).view.set :=
  (covered_iff3 i).2 (by
    have h0 : (i 0).val < 16384 := (i 0).isLt
    have h1 : (i 1).val < 1536 := (i 1).isLt
    omega)

theorem covered4 (i : S16384x1536.Idx) : ∃ t : Fin cfg0.N, (cfg0.win 4).flush t = true ∧ i ∈ ((cfg0.win 4).blk t).view.set :=
  (covered_iff4 i).2 (by
    have h0 : (i 0).val < 16384 := (i 0).isLt
    have h1 : (i 1).val < 1536 := (i 1).isLt
    omega)

/-- The result arrays after the run are the reference's value. -/
theorem final3_ref (c : Dev nD) : (dats m 0 c).arrAt 3 cfg0.N = G m c :=
  (dats m 0 c).arrAt_eq_of_cover 3 (G m c) (fun t _ => flushed3_ref m c t) covered3

theorem final4_ref (c : Dev nD) : (dats m 0 c).arrAt 4 cfg0.N = G m c :=
  (dats m 0 c).arrAt_eq_of_cover 4 (G m c) (fun t _ => flushed4_ref m c t) covered4

/-- Both programs run, and both end with the reference's values of the arguments. -/
theorem algebraic : Cert.algebraic_KvIdeal_KvRefIdeal (hKvIdeal := Cert.KvIdeal.Gen.facts) (hKvRefIdeal := Cert.KvRefIdeal.Gen.facts) :=
  fun m g m' g' _ hag => ⟨G m, G m,
    (θ_run _ _ _).mono (fun _ h c => ⟨(h c).1.trans (final3_ref m c), (h c).2.1.trans (final4_ref m c), (h c).2.2⟩) (run_blocks m g),
    (θ_run _ _ _).mono (fun _ h c => ⟨(h c).1.trans (by
        obtain ⟨e0, e1, e2⟩ := hag c
        rw [Cert.KvRefIdeal.Read.val_main_v13_eq, e0, e1, e2]
        rfl), (h c).2.1.trans (by
        obtain ⟨e0, e1, e2⟩ := hag c
        rw [Cert.KvRefIdeal.Read.val_main_v14_eq, e0, e1, e2]
        rfl), (h c).2.2⟩) (Cert.KvRefIdeal.Value.run m' g')⟩

end Cert.Proof.Kv

end
-- ==== Proof.KvSProd.lean ====
/-
  The projection to the shared keys and values for the sample batch: the first column block of a row block leaves the normalized rows in the
  scratch buffer, the column blocks after it multiply the same rows, and the blocks together are the reference's product.
-/
module

public import proofs.«01_k».proof.Defs
public import proofs.«01_k».proof.Proof.Gen.KvSIdeal.Frame
public import Idealize.ShloMosaic.Lib.Pipeline.Value
public import proofs.«01_k».proof.Proof.Gen.KvSRefIdeal.Run
public import proofs.«01_k».proof.Proof.Gen.KvSRefIdeal.Read
public import proofs.«01_k».proof.Proof.Norm

@[expose] public section

set_option maxRecDepth 16384

noncomputable section

namespace Cert.Proof.KvS

open Idealize.ShloMosaic Idealize.ShloMosaic.TcCoe Idealize.SL.Sem Cert.KvSIdeal Cert.KvSIdeal.Gen
open Cert.KvSRefIdeal.Read (val_main_v13)

section Opened
variable {F : FTy → Type} [FloatOps F]
variable (c : Dev nD) (t : Fin cfg0.N) (x0 : Vec F S512x1024 .f32) (x1 : Vec F S1x1024 .f32) (x2 : Vec F S1024x512 .bf16) (xs : Vec F S512x1024 .bf16)

/-- What the first column block of a row block stores. -/
theorem out_A (h) : out0_A_3 c (grid0.coords t) (ms0_0 t) (hs0_0 t) (ms0_1 t) (hs0_1 t) (ms0_2 t) (hs0_2 t) (ms0_3 t) (hs0_3 t) scM0_0 (Memref.isWhole_whole _) h x0 x1 x2
    = k0_pay2 (k0_pay1 x0 x1) x2 := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  erw [View.readCov_unit_zero _ zero2, View.ld_unit_zero zero2, View.ld_unit_zero zero2, View.ld_unit_zero zero2]

/-- What it leaves in the scratch buffer. -/
theorem sout_A (h) : sout0_A_0 c (grid0.coords t) (ms0_0 t) (hs0_0 t) (ms0_1 t) (hs0_1 t) (ms0_2 t) (hs0_2 t) (ms0_3 t) (hs0_3 t) scM0_0 (Memref.isWhole_whole _) h x0 x1 x2
    = k0_pay1 x0 x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) h x0 x1 x2)]
  unfold kernelRun0_A
  dsimp only
  sl_unfold_words
  rw [View.canon_unit_zero zero2]
  simp only [View.readAt_eq_ld, (hs0_0 t).read_unread, (hs0_1 t).read_unread, (hs0_2 t).read_unread]
  rw [View.ld_unit_zero zero2, View.ld_unit_zero zero2]

/-- What a later column block stores, over the scratch buffer's contents. -/
theorem out_B (h) : out0_B_3 c (grid0.coords t) (ms0_0 t) (hs0_0 t) (ms0_1 t) (hs0_1 t) (ms0_2 t) (hs0_2 t) (ms0_3 t) (hs0_3 t) scM0_0 (Memref.isWhole_whole _) h x0 x1 x2 xs
    = k0_pay2 xs x2 := by
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) scM0_0 (Memref.isWhole_whole _) h x0 x1 x2 xs)]
  unfold kernelRun0_B
  dsimp only
  sl_unfold_words
  rw [View.canon_unit_zero zero2]
  simp only [View.readAt_eq_ld, (hs0_0 t).read_unread, (hs0_1 t).read_unread, (hs0_2 t).read_unread]
  rw [show View.read (Elt F) (View.whole cc0_scratch0) ((Memref.isWhole_whole cc0_scratch0).unread xs) = xs from (Memref.isWhole_whole cc0_scratch0).read_unread xs,
    View.ld_unit_zero zero2, View.ld_unit_zero zero2]

/-- It leaves the scratch buffer as it was. -/
theorem sout_B (h) : sout0_B_0 c (grid0.coords t) (ms0_0 t) (hs0_0 t) (ms0_1 t) (hs0_1 t) (ms0_2 t) (hs0_2 t) (ms0_3 t) (hs0_3 t) scM0_0 (Memref.isWhole_whole _) h x0 x1 x2 xs
    = xs := rfl

end Opened

/-- The normalized rows at a row and a column. -/
theorem pay1_apply (x0 : Vec Ideal S512x1024 .f32) (x1 : Vec Ideal S1x1024 .f32) (a : Fin 512) (k : Fin 1024) :
    k0_pay1 (F := Ideal) x0 x1 (ix2 a k) = x0 (ix2 a k) * rms (fun y => x0 (ix2 a y)) * x1 (ix2 0 k) := by
  unfold rms
  pointwise [k0_pay1]

/-- The product at a row and a column. -/
theorem pay2_apply (xs : Vec Ideal S512x1024 .bf16) (x2 : Vec Ideal S1024x512 .bf16) (a : Fin 512) (b : Fin 512) :
    k0_pay2 (F := Ideal) xs x2 (ix2 a b) = ∑ k, xs (ix2 a k) * x2 (ix2 k b) := by
  pointwise [k0_pay2, dot_S512x1024_S1024x512_S512x512_1_0_0_1_n_n]

/-- The reference's normalized row. -/
def nrm (X : Vec Ideal S2048x1024 .f32) (nw : Vec Ideal S1024 .f32) (r : Fin 2048) (k : Fin 1024) : EReal :=
  X (ix2 r k) * rms (fun y => X (ix2 r y)) * nw (ix1 k)

open Cert.KvSRefIdeal.Read in
/-- The reference's result at a row and a column. -/
theorem ref_apply (X : Vec Ideal S2048x1024 .f32) (nw : Vec Ideal S1024 .f32) (W : Vec Ideal S1024x1536 .f32) (a : Fin 2048) (b : Fin 1536) :
    val_main_v13 (F := Ideal) X nw W (ix2 a b) = ∑ k, nrm X nw a k * W (ix2 k b) := by
  unfold nrm rms
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1,
    Cert.KvSRefIdeal.dot_S2048x1024_S1024x1536_S2048x1536_1_0_0_1_n_n]

variable (m : (ℓ : Loc nD τ sig) → Buf (Elt Ideal) ℓ)

/-- The host views the norm weight as one row. -/
theorem V_v1 (c : Dev nD) (b : Fin 1024) : V m c main_v1 (ix2 0 b) = m ((c : Thread nD τ).loc main_arg1) (ix1 b) := by
  show StableHlo.after hostOps0 (fun b => m (c, b)) (Proc.devRef .tc main_v1) (ix2 0 b) = _
  after_results
  pointwise

/-- The host casts the weight, which at the ideal instance is no change. -/
theorem V_v0 (c : Dev nD) : V m c main_v0 = m ((c : Thread nD τ).loc main_arg2) := by
  show StableHlo.after hostOps0 (fun b => m (c, b)) (Proc.devRef .tc main_v0) = _
  after_results
  rfl

/-- Where each window's block lies: three column blocks in turn at each block of 512 rows. -/
theorem idx : ∀ t : Fin cfg0.N, (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3)
    ∧ (win0_3.index t (0 : Fin 2) = t.val / 3 ∧ win0_3.index t (1 : Fin 2) = t.val % 3) :=
  (by decide +kernel : ∀ t : Fin grid0.N, _)

theorem row_lt (t : Fin cfg0.N) (a : Fin 512) : t.val / 3 * 512 + a.val < 2048 := by
  have h := lt_of_lt_of_eq t.isLt (show cfg0.N = 12 from N_0)
  have := a.isLt
  omega

theorem col_lt (t : Fin cfg0.N) (b : Fin 512) : t.val % 3 * 512 + b.val < 1536 := by
  have := b.isLt
  omega

/-- The array row of row `a` of point `t`'s block. -/
def row (t : Fin cfg0.N) (a : Fin 512) : Fin 2048 := ⟨t.val / 3 * 512 + a.val, row_lt t a⟩

/-- The array column of column `b` of point `t`'s block. -/
def col (t : Fin cfg0.N) (b : Fin 512) : Fin 1536 := ⟨t.val % 3 * 512 + b.val, col_lt t b⟩

theorem blk0 (c : Dev nD) (t : Fin cfg0.N) (a : Fin 512) (k : Fin 1024) :
    iblk m c 0 t (ix2 a k) = m ((c : Thread nD τ).loc main_arg0) (ix2 (row t a) k) := by
  obtain ⟨⟨e0, e1⟩, -⟩ := idx t
  rw [← V_main_arg0 m c]
  show V m c main_arg0 (((cfg0.win 0).blk t).view.emb (ix2 a k)) = _
  congr 1
  funext x; apply Fin.ext
  match x with
  | ⟨0, _⟩ => show win0_0.index t (0 : Fin 2) * 512 + 1 * a.val = t.val / 3 * 512 + a.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  obtain ⟨-, ⟨e0, e1⟩, -⟩ := idx t
  rw [← V_v1 m c]
  show V m c main_v1 (((cfg0.win 1).blk t).view.emb (ix2 0 k)) = _
  congr 1
  funext x; apply Fin.ext
  match x with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k : Fin 1024) (b : Fin 512) :
    iblk m c 2 t (ix2 k b) = m ((c : Thread nD τ).loc main_arg2) (ix2 k (col t b)) := by
  obtain ⟨-, -, ⟨e0, e1⟩, -⟩ := idx t
  rw [← V_v0 m c]
  show V m c main_v0 (((cfg0.win 2).blk t).view.emb (ix2 k b)) = _
  congr 1
  funext x; apply Fin.ext
  match x with
  | ⟨0, _⟩ => show win0_2.index t (0 : Fin 2) * 1024 + 1 * k.val = k.val; omega
  | ⟨1, _⟩ => show win0_2.index t (1 : Fin 2) * 512 + 1 * b.val = t.val % 3 * 512 + b.val; omega

theorem emb3 (t : Fin cfg0.N) (a b : Fin 512) :
    ((cfg0.win 3).blk t).view.emb (ix2 a b) = ix2 (row t a) (col t b) := by
  obtain ⟨-, -, -, ⟨e0, e1⟩⟩ := idx t
  funext x; apply Fin.ext
  match x with
  | ⟨0, _⟩ => show win0_3.index t (0 : Fin 2) * 512 + 1 * a.val = t.val / 3 * 512 + a.val; omega
  | ⟨1, _⟩ => show win0_3.index t (1 : Fin 2) * 512 + 1 * b.val = t.val % 3 * 512 + b.val; omega

/-- The normalized rows of the launch arguments. -/
abbrev rows (c : Dev nD) : Fin 2048 → Fin 1024 → EReal :=
  nrm (m ((c : Thread nD τ).loc main_arg0)) (m ((c : Thread nD τ).loc main_arg1))

/-- The body's normalized rows of a point's block are those of the launch arguments. -/
theorem norm_blk (c : Dev nD) (t : Fin cfg0.N) (a : Fin 512) (k : Fin 1024) :
    k0_pay1 (F := Ideal) (iblk m c 0 t) (iblk m c 1 t) (ix2 a k) = rows m c (row t a) k := by
  rw [pay1_apply, rows, nrm]
  simp only [blk0, blk1]

/-- After each point the scratch buffer holds the normalized rows of the point's row block. -/
theorem scratch (c : Dev nD) : ∀ (n : ℕ) (hn : n < cfg0.N) (a : Fin 512) (k : Fin 1024),
    (outsAt0 m c n hn).2 (ix2 a k) = rows m c (row ⟨n, hn⟩ a) k := by
  intro n
  induction n with
  | zero =>
    intro hn a k
    rw [outsAt0_A m c ⟨0, hn⟩ (Nat.zero_mod _)]
    dsimp only
    rw [sout_A, norm_blk]
  | succ n ih =>
    intro hn a k
    by_cases h0 : (n + 1) % 3 = 0
    · rw [outsAt0_A m c ⟨n + 1, hn⟩ h0]
      dsimp only
      rw [sout_A, norm_blk]
    · rw [outsAt0_B m c ⟨n + 1, hn⟩ h0]
      dsimp only
      rw [sout_B]
      simp only [Nat.add_sub_cancel]
      rw [ih (Nat.lt_of_succ_lt hn)]
      congr 1
      apply Fin.ext
      show n / 3 * 512 + a.val = (n + 1) / 3 * 512 + a.val
      omega

/-- The reference's value of the launch arguments. -/
def G (c : Dev nD) : Vec Ideal S2048x1536 .f32 :=
  val_main_v13 (F := Ideal) (m ((c : Thread nD τ).loc main_arg0)) (m ((c : Thread nD τ).loc main_arg1)) (m ((c : Thread nD τ).loc main_arg2))

/-- The product of a point's normalized rows and its weight block is the reference's value there. -/
theorem prod_eq (c : Dev nD) (t : Fin cfg0.N) (a b : Fin 512) (xs : Vec Ideal S512x1024 .bf16) (h : ∀ k, xs (ix2 a k) = rows m c (row t a) k) :
    k0_pay2 (F := Ideal) xs (iblk m c 2 t) (ix2 a b) = G m c (ix2 (row t a) (col t b)) := by
  rw [G, ref_apply, pay2_apply]
  simp only [blk2, h]

/-- The scratch buffer a later column block reads. -/
theorem scratch_prev (c : Dev nD) (t : Fin cfg0.N) (h0 : ¬ t.val % 3 = 0) (a : Fin 512) (k : Fin 1024) :
    (outsAt0 m c (t.val - 1) (Nat.lt_of_le_of_lt (Nat.sub_le _ _) t.isLt)).2 (ix2 a k) = rows m c (row t a) k := by
  rw [scratch, show row ⟨t.val - 1, Nat.lt_of_le_of_lt (Nat.sub_le _ _) t.isLt⟩ a = row t a from Fin.ext (by
    show (t.val - 1) / 3 * 512 + a.val = t.val / 3 * 512 + a.val
    omega)]

/-- The first result's buffer after a point. -/
theorem after_ref (c : Dev nD) (t : Fin cfg0.N) (a b : Fin 512) :
    (outsAt0 m c t.val t.isLt).1 (ix2 a b) = G m c (ix2 (row t a) (col t b)) := by
  by_cases h0 : t.val % 3 = 0
  · rw [outsAt0_A m c t h0]
    dsimp only
    rw [out_A]
    exact prod_eq m c t a b _ (norm_blk m c t a)
  · rw [outsAt0_B m c t h0]
    dsimp only
    rw [out_B]
    exact prod_eq m c t a b _ (scratch_prev m c t h0 a)

/-- What a grid point writes back is its block of the reference's product. -/
theorem flushed3_ref (c : Dev nD) (t : Fin cfg0.N) :
    (dats m 0 c).flushed 3 t = ((cfg0.win 3).blk t).view.read (Elt Ideal) (G m c) := by
  funext y
  obtain ⟨a, b, rfl⟩ : ∃ (a b : Fin 512), y = ix2 a b :=
    ⟨y 0, y 1, funext fun x => by match x with | ⟨0, _⟩ => rfl | ⟨1, _⟩ => rfl⟩
  show (cfg0.win 3).cut (grid0.coords t) ((dats m 0 c).after 3 t) (ix2 a b) = G m c (((cfg0.win 3).blk t).view.emb (ix2 a b))
  rw [emb3, after0_3]
  exact after_ref m c t a b

/-- Every grid point writes its block back. -/
theorem flush3 : ∀ t : Fin cfg0.N, (cfg0.win 3).flush t = true :=
  (by decide +kernel : ∀ t : Fin grid0.N, win0_3.flush t = true)

/-- Every index of the product lies in some block. -/
theorem covered3 (i : S2048x1536.Idx) : ∃ t : Fin cfg0.N, (cfg0.win 3).flush t = true ∧ i ∈ ((cfg0.win 3).blk t).view.set := by
  have h0 : (i 0).val < 2048 := (i 0).isLt
  have h1 : (i 1).val < 1536 := (i 1).isLt
  have hN : cfg0.N = 12 := N_0
  obtain ⟨t, ht⟩ : ∃ t : Fin cfg0.N, t.val = (i 0).val / 512 * 3 + (i 1).val / 512 := ⟨⟨_, by omega⟩, rfl⟩
  refine ⟨t, flush3 t, Finset.mem_map.mpr ⟨ix2 ⟨(i 0).val % 512, by omega⟩ ⟨(i 1).val % 512, by omega⟩, Finset.mem_univ _, ?_⟩⟩
  refine (emb3 t _ _).trans (funext fun x => ?_)
  match x with
  | ⟨0, _⟩ => exact Fin.ext (show t.val / 3 * 512 + (i 0).val % 512 = (i 0).val by omega)
  | ⟨1, _⟩ => exact Fin.ext (show t.val % 3 * 512 + (i 1).val % 512 = (i 1).val by omega)

/-- The product's array after the run is the reference's product. -/
theorem final3_ref (c : Dev nD) : (dats m 0 c).arrAt 3 cfg0.N = G m c :=
  (dats m 0 c).arrAt_eq_of_cover 3 (G m c) (fun t _ => flushed3_ref m c t) covered3

end Cert.Proof.KvS

end
-- ==== Proof.KvS.lean ====
/-
  The results of the shared key and value projection for the sample batch: the host takes each sequence's tokens out of the product, splits
  the columns into cache rows and window rows, and appends the window rows to the cached window.  The reference does the same over the heads.
-/
module

public import proofs.«01_k».proof.Proof.KvSProd

@[expose] public section

set_option maxRecDepth 16384

noncomputable section

namespace Cert.Proof.KvS

open Idealize.ShloMosaic Idealize.ShloMosaic.TcCoe Idealize.SL.Sem Cert.KvSIdeal Cert.KvSIdeal.Gen

section Tail
variable (A : Vec Ideal S2048x1536 .f32)

/-- The tokens of each sequence. -/
def toks : Vec Ideal S128x4x1536 .f32 :=
  extractStridedSlice S128x4x1536 ![0, 0, 0] (shapeCast S128x16x1536 A shapeCasts_S2048x1536_S128x16x1536) slices_S128x16x1536_S128x4x1536_0_0_0

/-- The cache rows of the tokens. -/
def rowsOf : Vec Ideal S128x4x4x4x64 .f32 :=
  shapeCast S128x4x4x4x64 (extractStridedSlice S128x4x1024 ![0, 0, 0] (toks A) slices_S128x4x1536_S128x4x1024_0_0_0) shapeCasts_S128x4x1024_S128x4x4x4x64

/-- The window rows of the tokens. -/
def winOf : Vec Ideal S128x4x2x4x64 .f32 :=
  shapeCast S128x4x2x4x64 (extractStridedSlice S128x4x512 ![0, 0, 1024] (toks A) slices_S128x4x1536_S128x4x512_0_0_1024) shapeCasts_S128x4x512_S128x4x2x4x64

/-- A token's column of the product. -/
theorem toks_apply (s : Fin 128) (t : Fin 4) (k : Fin 1536) :
    toks A (ix3 s t k) = A (ix2 ⟨s.val * 16 + t.val, by omega⟩ k) := by
  unfold toks
  refine (extractStridedSlice_apply _ _ _ _ (ix3 s ⟨t.val, by omega⟩ k) (fun a => ?_)).trans (shapeCast_apply _ _ _ _ ?_)
  · match a with
    | ⟨0, _⟩ => exact (Nat.zero_add _).symm
    | ⟨1, _⟩ => exact (Nat.zero_add _).symm
    | ⟨2, _⟩ => exact (Nat.zero_add _).symm
  · rewrite [Shape.rowMajor_val_two, Shape.rowMajor_val_three]
    rfl

theorem rowsOf_apply (s : Fin 128) (t r : Fin 4) (h : Fin 4) (e : Fin 64) :
    rowsOf A (ix5 s t r h e) = A (ix2 ⟨s.val * 16 + t.val, by omega⟩ ⟨(r.val * 4 + h.val) * 64 + e.val, by omega⟩) := by
  unfold rowsOf
  refine (shapeCast_apply _ _ _ (ix3 s t ⟨(r.val * 4 + h.val) * 64 + e.val, by omega⟩) ?_).trans
    ((extractStridedSlice_apply _ _ _ _ (ix3 s t ⟨(r.val * 4 + h.val) * 64 + e.val, by omega⟩) (fun a => ?_)).trans (toks_apply A _ _ _))
  · rewrite [Shape.rowMajor_val_three, Shape.rowMajor_val_five]
    show (s.val * 4 + t.val) * 1024 + ((r.val * 4 + h.val) * 64 + e.val) = (((s.val * 4 + t.val) * 4 + r.val) * 4 + h.val) * 64 + e.val
    omega
  · match a with
    | ⟨0, _⟩ => exact (Nat.zero_add _).symm
    | ⟨1, _⟩ => exact (Nat.zero_add _).symm
    | ⟨2, _⟩ => exact (Nat.zero_add _).symm

theorem winOf_apply (s : Fin 128) (t : Fin 4) (r : Fin 2) (h : Fin 4) (e : Fin 64) :
    winOf A (ix5 s t r h e) = A (ix2 ⟨s.val * 16 + t.val, by omega⟩ ⟨1024 + ((r.val * 4 + h.val) * 64 + e.val), by omega⟩) := by
  unfold winOf
  refine (shapeCast_apply _ _ _ (ix3 s t ⟨(r.val * 4 + h.val) * 64 + e.val, by omega⟩) ?_).trans
    ((extractStridedSlice_apply _ _ _ _ (ix3 s t ⟨1024 + ((r.val * 4 + h.val) * 64 + e.val), by omega⟩) (fun a => ?_)).trans (toks_apply A _ _ _))
  · rewrite [Shape.rowMajor_val_three, Shape.rowMajor_val_five]
    show (s.val * 4 + t.val) * 512 + ((r.val * 4 + h.val) * 64 + e.val) = (((s.val * 4 + t.val) * 2 + r.val) * 4 + h.val) * 64 + e.val
    omega
  · match a with
    | ⟨0, _⟩ => exact (Nat.zero_add _).symm
    | ⟨1, _⟩ => exact (Nat.zero_add _).symm
    | ⟨2, _⟩ => rfl

end Tail

section Reference
open Cert.KvSRefIdeal.Read
variable (X : Vec Ideal S2048x1024 .f32) (nw : Vec Ideal S1024 .f32) (W : Vec Ideal S1024x1536 .f32)

/-- The reference's heads of a token at the product's row and column. -/
theorem heads_apply (s : Fin 128) (t : Fin 4) (r : Fin 6) (h : Fin 4) (e : Fin 64) :
    val_main_v15 (F := Ideal) X nw W (ix5 s t r h e)
      = val_main_v13 (F := Ideal) X nw W (ix2 ⟨s.val * 16 + t.val, by omega⟩ ⟨(r.val * 4 + h.val) * 64 + e.val, by omega⟩) := by
  rw [val_main_v15_apply, val_main_v14_apply]
  congr 1
  funext a; apply Fin.ext
  match a with
  | ⟨0, _⟩ => show ((((s.val * 16 + t.val) * 6 + r.val) * 4 + h.val) * 64 + e.val) / 1536 = s.val * 16 + t.val; omega
  | ⟨1, _⟩ => show ((((s.val * 16 + t.val) * 6 + r.val) * 4 + h.val) * 64 + e.val) % 1536 = (r.val * 4 + h.val) * 64 + e.val; omega

/-- The reference's cache rows are the kernel's. -/
theorem rows_ref : rowsOf (val_main_v13 (F := Ideal) X nw W) = val_main_v16 (F := Ideal) X nw W := by
  funext i
  obtain ⟨s, t, r, h, e, rfl⟩ : ∃ (s : Fin 128) (t r h : Fin 4) (e : Fin 64), i = ix5 s t r h e :=
    ⟨i 0, i 1, i 2, i 3, i 4, funext fun x => by
      match x with | ⟨0, _⟩ => rfl | ⟨1, _⟩ => rfl | ⟨2, _⟩ => rfl | ⟨3, _⟩ => rfl | ⟨4, _⟩ => rfl⟩
  rw [rowsOf_apply, val_main_v16_apply,
    show idx_main_v16 (ix5 s t r h e) = ix5 s t ⟨r.val, by omega⟩ h e from funext fun x => by
      match x with | ⟨0, _⟩ => rfl | ⟨1, _⟩ => rfl | ⟨2, _⟩ => rfl | ⟨3, _⟩ => rfl | ⟨4, _⟩ => rfl,
    heads_apply]

/-- The reference's window rows are the kernel's. -/
theorem win_ref : winOf (val_main_v13 (F := Ideal) X nw W) = val_main_v17 (F := Ideal) X nw W := by
  funext i
  obtain ⟨s, t, r, h, e, rfl⟩ : ∃ (s : Fin 128) (t : Fin 4) (r : Fin 2) (h : Fin 4) (e : Fin 64), i = ix5 s t r h e :=
    ⟨i 0, i 1, i 2, i 3, i 4, funext fun x => by
      match x with | ⟨0, _⟩ => rfl | ⟨1, _⟩ => rfl | ⟨2, _⟩ => rfl | ⟨3, _⟩ => rfl | ⟨4, _⟩ => rfl⟩
  rw [winOf_apply, val_main_v17_apply,
    show idx_main_v17 (ix5 s t r h e) = ix5 s t ⟨4 + r.val, by omega⟩ h e from funext fun x => by
      match x with | ⟨0, _⟩ => rfl | ⟨1, _⟩ => rfl | ⟨2, _⟩ => rfl | ⟨3, _⟩ => rfl | ⟨4, _⟩ => rfl,
    heads_apply]
  congr 2
  apply Fin.ext
  show 1024 + ((r.val * 4 + h.val) * 64 + e.val) = ((4 + r.val) * 4 + h.val) * 64 + e.val
  omega

end Reference

variable (m : (ℓ : Loc nD τ sig) → Buf (Elt Ideal) ℓ)

/-- What the region leaves in the product's array. -/
theorem exit_prod (c : Dev nD) :
    Pipeline.withArrays spec0 c (V0 m c) (fun w => (dats m 0 c).arrAt w cfg0.N) (Proc.devRef .tc main_v2) = G m c :=
  (Pipeline.withArrays_arr spec0 launch0.win.arr_inj c (V0 m c) (fun w => (dats m 0 c).arrAt w cfg0.N) 3).trans (final3_ref m c)

/-- The region leaves the cached window as launched. -/
theorem exit_cache (c : Dev nD) :
    Pipeline.withArrays spec0 c (V0 m c) (fun w => (dats m 0 c).arrAt w cfg0.N) (Proc.devRef .tc main_arg3) = m ((c : Thread nD τ).loc main_arg3) :=
  (Pipeline.withArrays_of_ne spec0 c (V0 m c) (fun w => (dats m 0 c).arrAt w cfg0.N) main_arg3
    (by exact (by decide : ∀ w, Pipeline.arrRef spec0 w ≠ main_arg3))).trans (V_main_arg3 m c)

/-- The kernel's cache rows after the host's lines. -/
theorem tail_rows (c : Dev nD) : Pipeline.afterTail₀ cfgs (dats m) 0 (V0 m) [hostOps1] c main_v6 = rowsOf (G m c) := by
  rw [← exit_prod m c]
  unfold Pipeline.afterTail₀
  generalize Pipeline.withArrays _ c (V0 m c) _ = U
  show StableHlo.after hostOps1 U (Proc.devRef .tc main_v6) = _
  after_results
  rfl

/-- The cached window with the window rows appended, the oldest rows dropped. -/
def shift (C : Vec Ideal S128x512x2x4x64 .f32) (N : Vec Ideal S128x4x2x4x64 .f32) : Vec Ideal S128x512x2x4x64 .f32 :=
  extractStridedSlice S128x512x2x4x64 ![0, 4, 0, 0, 0]
    (concatenate S128x516x2x4x64 1 [⟨S128x512x2x4x64, C⟩, ⟨S128x4x2x4x64, N⟩] concatenates_S128x512x2x4x64_S128x4x2x4x64_S128x516x2x4x64_d1)
    slices_S128x516x2x4x64_S128x512x2x4x64_0_4_0_0_0

/-- The kernel's window after the host's lines. -/
theorem tail_win (c : Dev nD) : Pipeline.afterTail₀ cfgs (dats m) 0 (V0 m) [hostOps1] c main_v10
    = shift (m ((c : Thread nD τ).loc main_arg3)) (winOf (G m c)) := by
  rw [← exit_prod m c, ← exit_cache m c]
  unfold Pipeline.afterTail₀
  generalize Pipeline.withArrays _ c (V0 m c) _ = U
  show StableHlo.after hostOps1 U (Proc.devRef .tc main_v10) = _
  after_results
  rfl

/-- The kernel runs, ends with the reference's rows and window, and keeps its arguments. -/
theorem run (g : Dev nD → PrngReg) : θ_run defs (onTc (τ := τ) (main (F := Ideal))) ⟨m, fun _ => 0, g⟩ fun r => ∀ c : Dev nD,
      r.2.mem ((c : Thread nD τ).loc main_v6) = rowsOf (G m c)
      ∧ r.2.mem ((c : Thread nD τ).loc main_v10) = shift (m ((c : Thread nD τ).loc main_arg3)) (winOf (G m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h.1 c).2 main_v6 (Pipeline.mem_restRefs_of main_v6 (by decide) (by decide))).trans (tail_rows m c),
      ((h.1 c).2 main_v10 (Pipeline.mem_restRefs_of main_v10 (by decide) (by decide))).trans (tail_win m c),
      h.2 c⟩)
    (θ_run_and (run_main m g) (unchanged m g))

/-- Both programs run, and both end with the reference's values of the arguments. -/
theorem algebraic : Cert.algebraic_KvSIdeal_KvSRefIdeal (hKvSIdeal := Cert.KvSIdeal.Gen.facts) (hKvSRefIdeal := Cert.KvSRefIdeal.Gen.facts) :=
  fun m g m' g' _ hag => ⟨fun c => rowsOf (G m c), fun c => shift (m ((c : Thread nD τ).loc main_arg3)) (winOf (G m c)),
    run m g,
    (θ_run _ _ _).mono (fun _ h c => ⟨(h c).1.trans (by
        obtain ⟨e0, e1, e2, -⟩ := hag c
        rw [Cert.KvSRefIdeal.Read.val_main_v16_eq, e0, e1, e2]
        exact (rows_ref _ _ _).symm), (h c).2.1.trans (by
        obtain ⟨e0, e1, e2, e3⟩ := hag c
        rw [Cert.KvSRefIdeal.Read.val_main_v19_eq, e0, e1, e2, e3]
        exact (congrArg (shift (m ((c : Thread nD τ).loc main_arg3))) (win_ref _ _ _)).symm), (h c).2.2⟩) (Cert.KvSRefIdeal.Value.run m' g')⟩

end Cert.Proof.KvS

end
-- ==== Proof.Out.lean ====
/-
  The output projection of the attention layers with its residual: what the kernel's grid leaves in the result array is the reference's
  value, block of rows by block of rows.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import proofs.«01_k».proof.Proof.Norm

@[expose] public section

set_option maxRecDepth 16384

noncomputable section

namespace Cert.Proof.Out

open Idealize.ShloMosaic Idealize.ShloMosaic.TcCoe Idealize.SL.Sem Cert.OutIdeal Cert.OutIdeal.Gen Cert.OutIdeal.Value
open Cert.OutRefIdeal.Read (val_main_v15)

/-- The body's one store covers its buffer, and its loads read whole buffers. -/
theorem out_eq {F : FTy → Type} [FloatOps F] (x0 : Vec F S512x1024 .bf16) (x1 : Vec F S1024x1024 .bf16) (x2 : Vec F S1x1024 .f32) (x3 : Vec F S512x1024 .f32) :
    out0_4 x0 x1 x2 x3 = k0_pay1 x0 x1 x3 x2 := by
  unfold out0_4
  rw [View.canon_unit_zero zero2, View.ld_unit_zero zero2, View.ld_unit_zero zero2, View.ld_unit_zero zero2, View.ld_unit_zero zero2]

/-- The body's payload at a row and a column. -/
theorem pay_apply (x0 : Vec Ideal S512x1024 .bf16) (x1 : Vec Ideal S1024x1024 .bf16) (x2 : Vec Ideal S1x1024 .f32) (x3 : Vec Ideal S512x1024 .f32)
    (a : Fin 512) (b : Fin 1024) :
    k0_pay1 (F := Ideal) x0 x1 x3 x2 (ix2 a b) = x3 (ix2 a b)
      + (∑ k, x0 (ix2 a k) * x1 (ix2 k b)) * rms (fun y => ∑ k, x0 (ix2 a k) * x1 (ix2 k y)) * x2 (ix2 0 b) := by
  unfold rms
  pointwise [k0_pay1, dot_S512x1024_S1024x1024_S512x1024_1_0_0_1_n_n]

open Cert.OutRefIdeal.Read in
/-- The reference's result at a row and a column. -/
theorem ref_apply (A : Vec Ideal S16384x1024 .bf16) (W : Vec Ideal S1024x1024 .f32) (nw : Vec Ideal S1024 .f32) (X : Vec Ideal S16384x1024 .f32)
    (a : Fin 16384) (b : Fin 1024) :
    val_main_v15 (F := Ideal) A W nw X (ix2 a b) = X (ix2 a b)
      + (∑ k, A (ix2 a k) * W (ix2 k b)) * rms (fun y => ∑ k, A (ix2 a k) * W (ix2 k y)) * nw (ix1 b) := by
  unfold rms
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.OutRefIdeal.dot_S16384x1024_S1024x1024_S16384x1024_1_0_0_1_n_n]

variable (m : (ℓ : Loc nD τ sig) → Buf (Elt Ideal) ℓ)

/-- The host casts the weight, which at the ideal instance is no change. -/
theorem V_v0 (c : Dev nD) : V m c main_v0 = m ((c : Thread nD τ).loc main_arg1) := by
  unfold V
  after_results
  rfl

/-- The host views the norm weight as one row. -/
theorem V_v1 (c : Dev nD) (b : Fin 1024) : V m c main_v1 (ix2 0 b) = m ((c : Thread nD τ).loc main_arg2) (ix1 b) := by
  unfold V
  after_results
  pointwise

/-- Where each window's block lies: blocks of 512 rows follow the grid, the weight and the norm weight stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem row_lt (t : Fin cfg0.N) (a : Fin 512) : t.val * 512 + a.val < 16384 := by
  have h := lt_of_lt_of_eq t.isLt (show cfg0.N = 32 from N_0)
  have := a.isLt
  omega

/-- The array row of row `a` of block `t`. -/
def row (t : Fin cfg0.N) (a : Fin 512) : Fin 16384 := ⟨t.val * 512 + a.val, row_lt t a⟩

theorem blk0 (c : Dev nD) (t : Fin cfg0.N) (a : Fin 512) (k : Fin 1024) :
    iblk m c 0 t (ix2 a k) = m ((c : Thread nD τ).loc main_arg0) (ix2 (row t a) k) := by
  obtain ⟨⟨e0, e1⟩, -⟩ := idx t
  rw [← V_main_arg0 m c]
  show V m c main_arg0 (((cfg0.win 0).blk t).view.emb (ix2 a k)) = _
  congr 1
  funext x; apply Fin.ext
  match x with
  | ⟨0, _⟩ => show win0_0.index t (0 : Fin 2) * 512 + 1 * a.val = t.val * 512 + a.val; omega
  | ⟨1, _⟩ => show win0_0.index t (1 : Fin 2) * 1024 + 1 * k.val = k.val; omega

theorem blk1 (c : Dev nD) (t : Fin cfg0.N) (k : Fin 1024) (b : Fin 1024) :
    iblk m c 1 t (ix2 k b) = m ((c : Thread nD τ).loc main_arg1) (ix2 k b) := by
  obtain ⟨-, ⟨e0, e1⟩, -⟩ := idx t
  rw [← V_v0 m c]
  show V m c main_v0 (((cfg0.win 1).blk t).view.emb (ix2 k b)) = _
  congr 1
  funext x; apply Fin.ext
  match x with
  | ⟨0, _⟩ => show win0_1.index t (0 : Fin 2) * 1024 + 1 * k.val = k.val; omega
  | ⟨1, _⟩ => show win0_1.index t (1 : Fin 2) * 1024 + 1 * b.val = b.val; omega

theorem blk2 (c : Dev nD) (t : Fin cfg0.N) (b : Fin 1024) :
    iblk m c 2 t (ix2 0 b) = m ((c : Thread nD τ).loc main_arg2) (ix1 b) := by
  obtain ⟨-, -, ⟨e0, e1⟩, -⟩ := idx t
  rw [← V_v1 m c]
  show V m c main_v1 (((cfg0.win 2).blk t).view.emb (ix2 0 b)) = _
  congr 1
  funext x; apply Fin.ext
  match x with
  | ⟨0, _⟩ => show win0_2.index t (0 : Fin 2) * 1 + 1 * 0 = 0; omega
  | ⟨1, _⟩ => show win0_2.index t (1 : Fin 2) * 1024 + 1 * b.val = b.val; omega

theorem blk3 (c : Dev nD) (t : Fin cfg0.N) (a : Fin 512) (b : Fin 1024) :
    iblk m c 3 t (ix2 a b) = m ((c : Thread nD τ).loc main_arg3) (ix2 (row t a) b) := by
  obtain ⟨-, -, -, ⟨e0, e1⟩, -⟩ := idx t
  rw [← V_main_arg3 m c]
  show V m c main_arg3 (((cfg0.win 3).blk t).view.emb (ix2 a b)) = _
  congr 1
  funext x; apply Fin.ext
  match x with
  | ⟨0, _⟩ => show win0_3.index t (0 : Fin 2) * 512 + 1 * a.val = t.val * 512 + a.val; omega
  | ⟨1, _⟩ => show win0_3.index t (1 : Fin 2) * 1024 + 1 * b.val = b.val; omega

theorem emb4 (t : Fin cfg0.N) (a : Fin 512) (b : Fin 1024) :
    ((cfg0.win 4).blk t).view.emb (ix2 a b) = ix2 (row t a) b := by
  obtain ⟨-, -, -, -, ⟨e0, e1⟩⟩ := idx t
  funext x; apply Fin.ext
  match x with
  | ⟨0, _⟩ => show win0_4.index t (0 : Fin 2) * 512 + 1 * a.val = t.val * 512 + a.val; omega
  | ⟨1, _⟩ => show win0_4.index t (1 : Fin 2) * 1024 + 1 * b.val = b.val; omega

/-- The reference's value of the launch arguments. -/
def G (c : Dev nD) : Vec Ideal S16384x1024 .f32 :=
  val_main_v15 (F := Ideal) (m ((c : Thread nD τ).loc main_arg0)) (m ((c : Thread nD τ).loc main_arg1))
    (m ((c : Thread nD τ).loc main_arg2)) (m ((c : Thread nD τ).loc main_arg3))

/-- What a grid point writes back is its block of the reference's value. -/
theorem flushed_eq (c : Dev nD) (t : Fin cfg0.N) :
    (dats m 0 c).flushed 4 t = ((cfg0.win 4).blk t).view.read (Elt Ideal) (G m c) := by
  rw [flushed4, out_eq]
  funext y
  obtain ⟨a, b, rfl⟩ : ∃ (a : Fin 512) (b : Fin 1024), y = ix2 a b :=
    ⟨y 0, y 1, funext fun x => by match x with | ⟨0, _⟩ => rfl | ⟨1, _⟩ => rfl⟩
  show k0_pay1 (F := Ideal) (iblk m c 0 t) (iblk m c 1 t) (iblk m c 3 t) (iblk m c 2 t) (ix2 a b) = G m c (((cfg0.win 4).blk t).view.emb (ix2 a b))
  rw [emb4, pay_apply, G, ref_apply]
  simp only [blk0, blk1, blk2, blk3]

/-- Every index of the result lies in some block. -/
theorem covered (i : S16384x1024.Idx) : ∃ t : Fin cfg0.N, (cfg0.win 4).flush t = true ∧ i ∈ ((cfg0.win 4).blk t).view.set := by
  have h0 : (i 0).val < 16384 := (i 0).isLt
  have hN : cfg0.N = 32 := N_0
  obtain ⟨t, a, b, e⟩ : ∃ (t : Fin cfg0.N) (a : Fin 512) (b : Fin 1024), ((cfg0.win 4).blk t).view.emb (ix2 a b) = i := by
    refine ⟨⟨(i 0).val / 512, by omega⟩, ⟨(i 0).val % 512, Nat.mod_lt _ (by decide)⟩, i 1, (emb4 _ _ _).trans ?_⟩
    funext x; apply Fin.ext
    match x with
    | ⟨0, _⟩ => show (i 0).val / 512 * 512 + (i 0).val % 512 = (i 0).val; omega
    | ⟨1, _⟩ => rfl
  exact ⟨t, (by decide +kernel : ∀ t : Fin grid0.N, win0_4.flush t = true) t, e ▸ ((cfg0.win 4).blk t).view.emb_mem_set (ix2 a b)⟩

/-- The result array after the run is the reference's value. -/
theorem final (c : Dev nD) : (dats m 0 c).arrAt 4 cfg0.N = G m c :=
  (dats m 0 c).arrAt_eq_of_cover 4 (G m c) (fun t _ => flushed_eq m c t) covered

/-- Both programs run, and both end with the reference's value of the arguments. -/
theorem algebraic : Cert.algebraic_OutIdeal_OutRefIdeal (hOutIdeal := Cert.OutIdeal.Gen.facts) (hOutRefIdeal := Cert.OutRefIdeal.Gen.facts) :=
  fun m g m' g' _ hag => ⟨G m,
    (θ_run _ _ _).mono (fun _ h c => ⟨(h c).1.trans (final m c), (h c).2⟩) (run_blocks m g),
    (θ_run _ _ _).mono (fun _ h c => ⟨(h c).1.trans (by
        obtain ⟨e0, e1, e2, e3⟩ := hag c
        rw [Cert.OutRefIdeal.Read.val_main_v15_eq, e0, e1, e2, e3]
        rfl), (h c).2⟩) (Cert.OutRefIdeal.Value.run m' g')⟩

end Cert.Proof.Out

end
-- ==== Proof.lean ====
/-
  The proof of the claim: the frames of the kernels are the generated ones, those of the references come with their
  generated runs, and the value claims are proved call by call in the modules imported here.
-/
module

public import proofs.«01_k».proof.Defs
public import proofs.«01_k».proof.Proof.Gen.KvS.Frame
public import proofs.«01_k».proof.Proof.Gen.KvSIdeal.Frame
public import proofs.«01_k».proof.Proof.Gen.KvSRefIdeal.Run
public import proofs.«01_k».proof.Proof.Gen.KvSRefIdeal.Read
public import proofs.«01_k».proof.Proof.Gen.CellP.Frame
public import proofs.«01_k».proof.Proof.Gen.CellPIdeal.Frame
public import proofs.«01_k».proof.Proof.Gen.CellPIdeal.Value
public import proofs.«01_k».proof.Proof.Gen.CellPRefIdeal.Run
public import proofs.«01_k».proof.Proof.Gen.CellPRefIdeal.Read
public import proofs.«01_k».proof.Proof.Gen.Pre_finite_inputs
public import proofs.«01_k».proof.Proof.Gen.Cell.Frame
public import proofs.«01_k».proof.Proof.Gen.CellIdeal.Frame
public import proofs.«01_k».proof.Proof.Gen.CellIdeal.Value
public import proofs.«01_k».proof.Proof.Gen.CellRefIdeal.Run
public import proofs.«01_k».proof.Proof.Gen.CellRefIdeal.Read
public import proofs.«01_k».proof.Proof.Gen.On_tokens_only
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.KvRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.CellP
public import proofs.«01_k».proof.Proof.Cell
public import proofs.«01_k».proof.Proof.Up
public import proofs.«01_k».proof.Proof.Down
public import proofs.«01_k».proof.Proof.Kv
public import proofs.«01_k».proof.Proof.KvS
public import proofs.«01_k».proof.Proof.Out
public import Idealize.ShloMosaic.Lib.Quiescent
public import Idealize.ShloMosaic.Adequacy
public import Idealize.ShloMosaic.Init

@[expose] public section

noncomputable section

namespace Cert.Proof

open Idealize.ShloMosaic Idealize.SL.Sem

/-- The reference of the recurrent cell runs, keeps its arguments, and has no semaphore. -/
theorem frame_CellRef : Cert.quiescent_CellRefIdeal (hCellRefIdeal := Cert.CellRefIdeal.Gen.facts) := fun m ρ _ =>
  (θ_run _ _ _).mono (fun r h => ⟨fun c => (h c).2.2.2.2, sem_eq_zero_of_no_sems (by decide) r.2⟩) (Cert.CellRefIdeal.Value.run (F := Ideal) m ρ)

/-- The constant that stands for minus infinity in the cell kernel is named and nothing else is changed. -/
theorem preserves_Cell : Cert.preserves_Cell_CellIdeal := by
  exact IdealRules.named_const.statement Cert.CellIdeal.κ "mask" .f32 0xF149F2CA#32 ⊥ rfl

/-- The reference of the normalized projection runs, keeps its arguments, and has no semaphore. -/
theorem frame_UpRef : Cert.quiescent_UpRefIdeal (hUpRefIdeal := Cert.UpRefIdeal.Gen.facts) := fun m ρ _ =>
  (θ_run _ _ _).mono (fun r h => ⟨fun c => (h c).2, sem_eq_zero_of_no_sems (by decide) r.2⟩) (Cert.UpRefIdeal.Value.run (F := Ideal) m ρ)

/-- The reference of the down projection runs, keeps its arguments, and has no semaphore. -/
theorem frame_DownRef : Cert.quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run (F := Ideal) m ρ)

/-- The reference of the shared key and value projection runs, keeps its arguments, and has no semaphore. -/
theorem frame_KvRef : Cert.quiescent_KvRefIdeal (hKvRefIdeal := Cert.KvRefIdeal.Gen.facts) := fun m ρ _ =>
  (θ_run _ _ _).mono (fun r h => ⟨fun c => (h c).2.2, sem_eq_zero_of_no_sems (by decide) r.2⟩) (Cert.KvRefIdeal.Value.run (F := Ideal) m ρ)

/-- The reference of the output projection runs, keeps its arguments, and has no semaphore. -/
theorem frame_OutRef : Cert.quiescent_OutRefIdeal (hOutRefIdeal := Cert.OutRefIdeal.Gen.facts) := fun m ρ _ =>
  (θ_run _ _ _).mono (fun r h => ⟨fun c => (h c).2, sem_eq_zero_of_no_sems (by decide) r.2⟩) (Cert.OutRefIdeal.Value.run (F := Ideal) m ρ)

/-- The reference of the prompt cell runs, keeps its arguments, and has no semaphore. -/
theorem frame_CellPRef : Cert.quiescent_CellPRefIdeal (hCellPRefIdeal := Cert.CellPRefIdeal.Gen.facts) := fun m ρ _ =>
  (θ_run _ _ _).mono (fun r h => ⟨fun c => (h c).2.2.2.2, sem_eq_zero_of_no_sems (by decide) r.2⟩) (Cert.CellPRefIdeal.Value.run (F := Ideal) m ρ)

/-- In the prompt cell too the constant that stands for minus infinity is named and nothing else is changed. -/
theorem preserves_CellP : Cert.preserves_CellP_CellPIdeal := by
  exact IdealRules.named_const.statement Cert.CellPIdeal.κ "mask" .f32 0xF149F2CA#32 ⊥ rfl

/-- The reference of the sample batch's keys and values runs, keeps its arguments, and has no semaphore. -/
theorem frame_KvSRef : Cert.quiescent_KvSRefIdeal (hKvSRefIdeal := Cert.KvSRefIdeal.Gen.facts) := fun m ρ _ =>
  (θ_run _ _ _).mono (fun r h => ⟨fun c => (h c).2.2, sem_eq_zero_of_no_sems (by decide) r.2⟩) (Cert.KvSRefIdeal.Value.run (F := Ideal) m ρ)

theorem claim : Cert.Claim :=
  ⟨Cert.Cell.Gen.facts, Cert.CellIdeal.Gen.facts, Cert.CellRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Kv.Gen.facts, Cert.KvIdeal.Gen.facts, Cert.KvRefIdeal.Gen.facts,
    Cert.Out.Gen.facts, Cert.OutIdeal.Gen.facts, Cert.OutRefIdeal.Gen.facts,
    Cert.CellP.Gen.facts, Cert.CellPIdeal.Gen.facts, Cert.CellPRefIdeal.Gen.facts,
    Cert.KvS.Gen.facts, Cert.KvSIdeal.Gen.facts, Cert.KvSRefIdeal.Gen.facts,
    Cert.Pre_finite_inputs.Gen.facts, Cert.On_tokens_only.Gen.facts,
    fun m ρ _ => Cert.Cell.Gen.frame m ρ, fun m ρ _ => Cert.CellIdeal.Gen.frame m ρ, frame_CellRef,
    fun m ρ _ => Cert.Up.Gen.frame m ρ, fun m ρ _ => Cert.UpIdeal.Gen.frame m ρ, frame_UpRef,
    fun m ρ _ => Cert.Down.Gen.frame m ρ, fun m ρ _ => Cert.DownIdeal.Gen.frame m ρ, frame_DownRef,
    fun m ρ _ => Cert.Kv.Gen.frame m ρ, fun m ρ _ => Cert.KvIdeal.Gen.frame m ρ, frame_KvRef,
    fun m ρ _ => Cert.Out.Gen.frame m ρ, fun m ρ _ => Cert.OutIdeal.Gen.frame m ρ, frame_OutRef,
    fun m ρ _ => Cert.CellP.Gen.frame m ρ, fun m ρ _ => Cert.CellPIdeal.Gen.frame m ρ, fun m ρ _ => Cert.CellPIdeal.Gen.frame m ρ,
    frame_CellPRef, fun m ρ _ => frame_CellPRef m ρ trivial,
    fun m ρ _ => Cert.KvS.Gen.frame m ρ, fun m ρ _ => Cert.KvSIdeal.Gen.frame m ρ, frame_KvSRef,
    preserves_Cell, Cell.algebraic, trivial, Up.algebraic, trivial, Down.algebraic, trivial, Kv.algebraic, trivial, Out.algebraic,
    preserves_CellP, CellP.algebraic, trivial, KvS.algebraic⟩

end Cert.Proof

end
